-- ==== Defs.lean ====
def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite_scores [hPre_finite_scores : Cert.Pre_finite_scores.Facts] (m : (ℓ : Loc Cert.CrossIdeal.nD Cert.CrossIdeal.τ Cert.CrossIdeal.sig) → Buf (Elt Ideal) ℓ) : Prop :=
  ∀ c : Dev Cert.CrossIdeal.nD,
    (Cert.Pre_finite_scores.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7)) (m ((c.tc : Thread Cert.CrossIdeal.nD Cert.CrossIdeal.τ).loc Cert.CrossIdeal.main_arg8)) (m ((c.tc : Thread Cert.CrossIdeal.nD Cert.CrossIdeal.τ).loc Cert.CrossIdeal.main_arg9)) (m ((c.tc : Thread Cert.CrossIdeal.nD Cert.CrossIdeal.τ).loc Cert.CrossIdeal.main_arg10))).1 = (fun _ => 1#1)
    ∧ (Cert.Pre_finite_scores.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7)) (m ((c.tc : Thread Cert.CrossIdeal.nD Cert.CrossIdeal.τ).loc Cert.CrossIdeal.main_arg8)) (m ((c.tc : Thread Cert.CrossIdeal.nD Cert.CrossIdeal.τ).loc Cert.CrossIdeal.main_arg9)) (m ((c.tc : Thread Cert.CrossIdeal.nD Cert.CrossIdeal.τ).loc Cert.CrossIdeal.main_arg10))).2 = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_finite_scores [hPre_finite_scores : Cert.Pre_finite_scores.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_finite_scores.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6)) (m ((c.tc : Thread Cert.CrossRefIdeal.nD Cert.CrossRefIdeal.τ).loc Cert.CrossRefIdeal.main_arg7)) (m ((c.tc : Thread Cert.CrossRefIdeal.nD Cert.CrossRefIdeal.τ).loc Cert.CrossRefIdeal.main_arg8)) (m ((c.tc : Thread Cert.CrossRefIdeal.nD Cert.CrossRefIdeal.τ).loc Cert.CrossRefIdeal.main_arg9)) (m ((c.tc : Thread Cert.CrossRefIdeal.nD Cert.CrossRefIdeal.τ).loc Cert.CrossRefIdeal.main_arg10))).1 = (fun _ => 1#1)
    ∧ (Cert.Pre_finite_scores.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6)) (m ((c.tc : Thread Cert.CrossRefIdeal.nD Cert.CrossRefIdeal.τ).loc Cert.CrossRefIdeal.main_arg7)) (m ((c.tc : Thread Cert.CrossRefIdeal.nD Cert.CrossRefIdeal.τ).loc Cert.CrossRefIdeal.main_arg8)) (m ((c.tc : Thread Cert.CrossRefIdeal.nD Cert.CrossRefIdeal.τ).loc Cert.CrossRefIdeal.main_arg9)) (m ((c.tc : Thread Cert.CrossRefIdeal.nD Cert.CrossRefIdeal.τ).loc Cert.CrossRefIdeal.main_arg10))).2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_FoxS (m : (ℓ : Loc Cert.FoxS.nD Cert.FoxS.τ Cert.FoxS.sig) → Buf (Elt Bits) ℓ) : Prop :=
  True

def Pre_FoxSIdeal (m : (ℓ : Loc Cert.FoxSIdeal.nD Cert.FoxSIdeal.τ Cert.FoxSIdeal.sig) → Buf (Elt Ideal) ℓ) : Prop :=
  True

def Pre_FoxSRefIdeal (m : (ℓ : Loc Cert.FoxSRefIdeal.nD Cert.FoxSRefIdeal.τ Cert.FoxSRefIdeal.sig) → Buf (Elt Ideal) ℓ) : Prop :=
  True

def Pre_S5 (m : (ℓ : Loc Cert.S5.nD Cert.S5.τ Cert.S5.sig) → Buf (Elt Bits) ℓ) : Prop :=
  True

def Pre_S5Ideal (m : (ℓ : Loc Cert.S5Ideal.nD Cert.S5Ideal.τ Cert.S5Ideal.sig) → Buf (Elt Ideal) ℓ) : Prop :=
  True

def Pre_S5RefIdeal (m : (ℓ : Loc Cert.S5RefIdeal.nD Cert.S5RefIdeal.τ Cert.S5RefIdeal.sig) → Buf (Elt Ideal) ℓ) : Prop :=
  True

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5)
      ∧ r.2.mem ((c.tc : Thread Cert.Cross.nD Cert.Cross.τ).loc Cert.Cross.main_arg6) = m ((c.tc : Thread Cert.Cross.nD Cert.Cross.τ).loc Cert.Cross.main_arg6)
      ∧ r.2.mem ((c.tc : Thread Cert.Cross.nD Cert.Cross.τ).loc Cert.Cross.main_arg7) = m ((c.tc : Thread Cert.Cross.nD Cert.Cross.τ).loc Cert.Cross.main_arg7)
      ∧ r.2.mem ((c.tc : Thread Cert.Cross.nD Cert.Cross.τ).loc Cert.Cross.main_arg8) = m ((c.tc : Thread Cert.Cross.nD Cert.Cross.τ).loc Cert.Cross.main_arg8)
      ∧ r.2.mem ((c.tc : Thread Cert.Cross.nD Cert.Cross.τ).loc Cert.Cross.main_arg9) = m ((c.tc : Thread Cert.Cross.nD Cert.Cross.τ).loc Cert.Cross.main_arg9)
      ∧ r.2.mem ((c.tc : Thread Cert.Cross.nD Cert.Cross.τ).loc Cert.Cross.main_arg10) = m ((c.tc : Thread Cert.Cross.nD Cert.Cross.τ).loc Cert.Cross.main_arg10))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
      ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7)
      ∧ r.2.mem ((c.tc : Thread Cert.CrossIdeal.nD Cert.CrossIdeal.τ).loc Cert.CrossIdeal.main_arg8) = m ((c.tc : Thread Cert.CrossIdeal.nD Cert.CrossIdeal.τ).loc Cert.CrossIdeal.main_arg8)
      ∧ r.2.mem ((c.tc : Thread Cert.CrossIdeal.nD Cert.CrossIdeal.τ).loc Cert.CrossIdeal.main_arg9) = m ((c.tc : Thread Cert.CrossIdeal.nD Cert.CrossIdeal.τ).loc Cert.CrossIdeal.main_arg9)
      ∧ r.2.mem ((c.tc : Thread Cert.CrossIdeal.nD Cert.CrossIdeal.τ).loc Cert.CrossIdeal.main_arg10) = m ((c.tc : Thread Cert.CrossIdeal.nD Cert.CrossIdeal.τ).loc Cert.CrossIdeal.main_arg10))
      ∧ r.2.sem = fun _ => 0)

def quiescent_CrossIdeal_pre_finite_scores [hCrossIdeal : Cert.CrossIdeal.Facts] [hPre_finite_scores : Cert.Pre_finite_scores.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite_scores m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
      ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7)
      ∧ r.2.mem ((c.tc : Thread Cert.CrossIdeal.nD Cert.CrossIdeal.τ).loc Cert.CrossIdeal.main_arg8) = m ((c.tc : Thread Cert.CrossIdeal.nD Cert.CrossIdeal.τ).loc Cert.CrossIdeal.main_arg8)
      ∧ r.2.mem ((c.tc : Thread Cert.CrossIdeal.nD Cert.CrossIdeal.τ).loc Cert.CrossIdeal.main_arg9) = m ((c.tc : Thread Cert.CrossIdeal.nD Cert.CrossIdeal.τ).loc Cert.CrossIdeal.main_arg9)
      ∧ r.2.mem ((c.tc : Thread Cert.CrossIdeal.nD Cert.CrossIdeal.τ).loc Cert.CrossIdeal.main_arg10) = m ((c.tc : Thread Cert.CrossIdeal.nD Cert.CrossIdeal.τ).loc Cert.CrossIdeal.main_arg10))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6)
      ∧ r.2.mem ((c.tc : Thread Cert.CrossRefIdeal.nD Cert.CrossRefIdeal.τ).loc Cert.CrossRefIdeal.main_arg7) = m ((c.tc : Thread Cert.CrossRefIdeal.nD Cert.CrossRefIdeal.τ).loc Cert.CrossRefIdeal.main_arg7)
      ∧ r.2.mem ((c.tc : Thread Cert.CrossRefIdeal.nD Cert.CrossRefIdeal.τ).loc Cert.CrossRefIdeal.main_arg8) = m ((c.tc : Thread Cert.CrossRefIdeal.nD Cert.CrossRefIdeal.τ).loc Cert.CrossRefIdeal.main_arg8)
      ∧ r.2.mem ((c.tc : Thread Cert.CrossRefIdeal.nD Cert.CrossRefIdeal.τ).loc Cert.CrossRefIdeal.main_arg9) = m ((c.tc : Thread Cert.CrossRefIdeal.nD Cert.CrossRefIdeal.τ).loc Cert.CrossRefIdeal.main_arg9)
      ∧ r.2.mem ((c.tc : Thread Cert.CrossRefIdeal.nD Cert.CrossRefIdeal.τ).loc Cert.CrossRefIdeal.main_arg10) = m ((c.tc : Thread Cert.CrossRefIdeal.nD Cert.CrossRefIdeal.τ).loc Cert.CrossRefIdeal.main_arg10))
      ∧ r.2.sem = fun _ => 0)

def quiescent_CrossRefIdeal_pre_finite_scores [hCrossRefIdeal : Cert.CrossRefIdeal.Facts] [hPre_finite_scores : Cert.Pre_finite_scores.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_finite_scores m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6)
      ∧ r.2.mem ((c.tc : Thread Cert.CrossRefIdeal.nD Cert.CrossRefIdeal.τ).loc Cert.CrossRefIdeal.main_arg7) = m ((c.tc : Thread Cert.CrossRefIdeal.nD Cert.CrossRefIdeal.τ).loc Cert.CrossRefIdeal.main_arg7)
      ∧ r.2.mem ((c.tc : Thread Cert.CrossRefIdeal.nD Cert.CrossRefIdeal.τ).loc Cert.CrossRefIdeal.main_arg8) = m ((c.tc : Thread Cert.CrossRefIdeal.nD Cert.CrossRefIdeal.τ).loc Cert.CrossRefIdeal.main_arg8)
      ∧ r.2.mem ((c.tc : Thread Cert.CrossRefIdeal.nD Cert.CrossRefIdeal.τ).loc Cert.CrossRefIdeal.main_arg9) = m ((c.tc : Thread Cert.CrossRefIdeal.nD Cert.CrossRefIdeal.τ).loc Cert.CrossRefIdeal.main_arg9)
      ∧ r.2.mem ((c.tc : Thread Cert.CrossRefIdeal.nD Cert.CrossRefIdeal.τ).loc Cert.CrossRefIdeal.main_arg10) = m ((c.tc : Thread Cert.CrossRefIdeal.nD Cert.CrossRefIdeal.τ).loc Cert.CrossRefIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5))
      ∧ r.2.sem = fun _ => 0)

def quiescent_FoxS [hFoxS : Cert.FoxS.Facts] : Prop :=
  ∀ (m : (ℓ : Loc Cert.FoxS.nD Cert.FoxS.τ Cert.FoxS.sig) → Buf (Elt Bits) ℓ) (g : Dev Cert.FoxS.nD → PrngReg), Pre_FoxS m →
    θ_run (Cert.FoxS.defs (F := Bits)) (onTc (τ := Cert.FoxS.τ) (Cert.FoxS.main (F := Bits))) ⟨m, fun _ => 0, g⟩ (fun r => (∀ c : Dev Cert.FoxS.nD,
      r.2.mem ((c.tc : Thread Cert.FoxS.nD Cert.FoxS.τ).loc Cert.FoxS.main_arg0) = m ((c.tc : Thread Cert.FoxS.nD Cert.FoxS.τ).loc Cert.FoxS.main_arg0)
      ∧ r.2.mem ((c.tc : Thread Cert.FoxS.nD Cert.FoxS.τ).loc Cert.FoxS.main_arg1) = m ((c.tc : Thread Cert.FoxS.nD Cert.FoxS.τ).loc Cert.FoxS.main_arg1)
      ∧ r.2.mem ((c.tc : Thread Cert.FoxS.nD Cert.FoxS.τ).loc Cert.FoxS.main_arg2) = m ((c.tc : Thread Cert.FoxS.nD Cert.FoxS.τ).loc Cert.FoxS.main_arg2)
      ∧ r.2.mem ((c.tc : Thread Cert.FoxS.nD Cert.FoxS.τ).loc Cert.FoxS.main_arg3) = m ((c.tc : Thread Cert.FoxS.nD Cert.FoxS.τ).loc Cert.FoxS.main_arg3))
      ∧ r.2.sem = fun _ => 0)

def quiescent_FoxSIdeal [hFoxSIdeal : Cert.FoxSIdeal.Facts] : Prop :=
  ∀ (m : (ℓ : Loc Cert.FoxSIdeal.nD Cert.FoxSIdeal.τ Cert.FoxSIdeal.sig) → Buf (Elt Ideal) ℓ) (g : Dev Cert.FoxSIdeal.nD → PrngReg), Pre_FoxSIdeal m →
    θ_run (Cert.FoxSIdeal.defs (F := Ideal)) (onTc (τ := Cert.FoxSIdeal.τ) (Cert.FoxSIdeal.main (F := Ideal))) ⟨m, fun _ => 0, g⟩ (fun r => (∀ c : Dev Cert.FoxSIdeal.nD,
      r.2.mem ((c.tc : Thread Cert.FoxSIdeal.nD Cert.FoxSIdeal.τ).loc Cert.FoxSIdeal.main_arg0) = m ((c.tc : Thread Cert.FoxSIdeal.nD Cert.FoxSIdeal.τ).loc Cert.FoxSIdeal.main_arg0)
      ∧ r.2.mem ((c.tc : Thread Cert.FoxSIdeal.nD Cert.FoxSIdeal.τ).loc Cert.FoxSIdeal.main_arg1) = m ((c.tc : Thread Cert.FoxSIdeal.nD Cert.FoxSIdeal.τ).loc Cert.FoxSIdeal.main_arg1)
      ∧ r.2.mem ((c.tc : Thread Cert.FoxSIdeal.nD Cert.FoxSIdeal.τ).loc Cert.FoxSIdeal.main_arg2) = m ((c.tc : Thread Cert.FoxSIdeal.nD Cert.FoxSIdeal.τ).loc Cert.FoxSIdeal.main_arg2)
      ∧ r.2.mem ((c.tc : Thread Cert.FoxSIdeal.nD Cert.FoxSIdeal.τ).loc Cert.FoxSIdeal.main_arg3) = m ((c.tc : Thread Cert.FoxSIdeal.nD Cert.FoxSIdeal.τ).loc Cert.FoxSIdeal.main_arg3))
      ∧ r.2.sem = fun _ => 0)

def quiescent_FoxSRefIdeal [hFoxSRefIdeal : Cert.FoxSRefIdeal.Facts] : Prop :=
  ∀ (m : (ℓ : Loc Cert.FoxSRefIdeal.nD Cert.FoxSRefIdeal.τ Cert.FoxSRefIdeal.sig) → Buf (Elt Ideal) ℓ) (g : Dev Cert.FoxSRefIdeal.nD → PrngReg), Pre_FoxSRefIdeal m →
    θ_run (Cert.FoxSRefIdeal.defs (F := Ideal)) (onTc (τ := Cert.FoxSRefIdeal.τ) (Cert.FoxSRefIdeal.main (F := Ideal))) ⟨m, fun _ => 0, g⟩ (fun r => (∀ c : Dev Cert.FoxSRefIdeal.nD,
      r.2.mem ((c.tc : Thread Cert.FoxSRefIdeal.nD Cert.FoxSRefIdeal.τ).loc Cert.FoxSRefIdeal.main_arg0) = m ((c.tc : Thread Cert.FoxSRefIdeal.nD Cert.FoxSRefIdeal.τ).loc Cert.FoxSRefIdeal.main_arg0)
      ∧ r.2.mem ((c.tc : Thread Cert.FoxSRefIdeal.nD Cert.FoxSRefIdeal.τ).loc Cert.FoxSRefIdeal.main_arg1) = m ((c.tc : Thread Cert.FoxSRefIdeal.nD Cert.FoxSRefIdeal.τ).loc Cert.FoxSRefIdeal.main_arg1)
      ∧ r.2.mem ((c.tc : Thread Cert.FoxSRefIdeal.nD Cert.FoxSRefIdeal.τ).loc Cert.FoxSRefIdeal.main_arg2) = m ((c.tc : Thread Cert.FoxSRefIdeal.nD Cert.FoxSRefIdeal.τ).loc Cert.FoxSRefIdeal.main_arg2)
      ∧ r.2.mem ((c.tc : Thread Cert.FoxSRefIdeal.nD Cert.FoxSRefIdeal.τ).loc Cert.FoxSRefIdeal.main_arg3) = m ((c.tc : Thread Cert.FoxSRefIdeal.nD Cert.FoxSRefIdeal.τ).loc Cert.FoxSRefIdeal.main_arg3))
      ∧ r.2.sem = fun _ => 0)

def quiescent_S5 [hS5 : Cert.S5.Facts] : Prop :=
  ∀ (m : (ℓ : Loc Cert.S5.nD Cert.S5.τ Cert.S5.sig) → Buf (Elt Bits) ℓ) (g : Dev Cert.S5.nD → PrngReg), Pre_S5 m →
    θ_run (Cert.S5.defs (F := Bits)) (onTc (τ := Cert.S5.τ) (Cert.S5.main (F := Bits))) ⟨m, fun _ => 0, g⟩ (fun r => (∀ c : Dev Cert.S5.nD,
      r.2.mem ((c.tc : Thread Cert.S5.nD Cert.S5.τ).loc Cert.S5.main_arg0) = m ((c.tc : Thread Cert.S5.nD Cert.S5.τ).loc Cert.S5.main_arg0)
      ∧ r.2.mem ((c.tc : Thread Cert.S5.nD Cert.S5.τ).loc Cert.S5.main_arg1) = m ((c.tc : Thread Cert.S5.nD Cert.S5.τ).loc Cert.S5.main_arg1)
      ∧ r.2.mem ((c.tc : Thread Cert.S5.nD Cert.S5.τ).loc Cert.S5.main_arg2) = m ((c.tc : Thread Cert.S5.nD Cert.S5.τ).loc Cert.S5.main_arg2)
      ∧ r.2.mem ((c.tc : Thread Cert.S5.nD Cert.S5.τ).loc Cert.S5.main_arg3) = m ((c.tc : Thread Cert.S5.nD Cert.S5.τ).loc Cert.S5.main_arg3)
      ∧ r.2.mem ((c.tc : Thread Cert.S5.nD Cert.S5.τ).loc Cert.S5.main_arg4) = m ((c.tc : Thread Cert.S5.nD Cert.S5.τ).loc Cert.S5.main_arg4)
      ∧ r.2.mem ((c.tc : Thread Cert.S5.nD Cert.S5.τ).loc Cert.S5.main_arg5) = m ((c.tc : Thread Cert.S5.nD Cert.S5.τ).loc Cert.S5.main_arg5)
      ∧ r.2.mem ((c.tc : Thread Cert.S5.nD Cert.S5.τ).loc Cert.S5.main_arg6) = m ((c.tc : Thread Cert.S5.nD Cert.S5.τ).loc Cert.S5.main_arg6)
      ∧ r.2.mem ((c.tc : Thread Cert.S5.nD Cert.S5.τ).loc Cert.S5.main_arg7) = m ((c.tc : Thread Cert.S5.nD Cert.S5.τ).loc Cert.S5.main_arg7)
      ∧ r.2.mem ((c.tc : Thread Cert.S5.nD Cert.S5.τ).loc Cert.S5.main_arg8) = m ((c.tc : Thread Cert.S5.nD Cert.S5.τ).loc Cert.S5.main_arg8)
      ∧ r.2.mem ((c.tc : Thread Cert.S5.nD Cert.S5.τ).loc Cert.S5.main_arg9) = m ((c.tc : Thread Cert.S5.nD Cert.S5.τ).loc Cert.S5.main_arg9)
      ∧ r.2.mem ((c.tc : Thread Cert.S5.nD Cert.S5.τ).loc Cert.S5.main_arg10) = m ((c.tc : Thread Cert.S5.nD Cert.S5.τ).loc Cert.S5.main_arg10))
      ∧ r.2.sem = fun _ => 0)

def quiescent_S5Ideal [hS5Ideal : Cert.S5Ideal.Facts] : Prop :=
  ∀ (m : (ℓ : Loc Cert.S5Ideal.nD Cert.S5Ideal.τ Cert.S5Ideal.sig) → Buf (Elt Ideal) ℓ) (g : Dev Cert.S5Ideal.nD → PrngReg), Pre_S5Ideal m →
    θ_run (Cert.S5Ideal.defs (F := Ideal)) (onTc (τ := Cert.S5Ideal.τ) (Cert.S5Ideal.main (F := Ideal))) ⟨m, fun _ => 0, g⟩ (fun r => (∀ c : Dev Cert.S5Ideal.nD,
      r.2.mem ((c.tc : Thread Cert.S5Ideal.nD Cert.S5Ideal.τ).loc Cert.S5Ideal.main_arg0) = m ((c.tc : Thread Cert.S5Ideal.nD Cert.S5Ideal.τ).loc Cert.S5Ideal.main_arg0)
      ∧ r.2.mem ((c.tc : Thread Cert.S5Ideal.nD Cert.S5Ideal.τ).loc Cert.S5Ideal.main_arg1) = m ((c.tc : Thread Cert.S5Ideal.nD Cert.S5Ideal.τ).loc Cert.S5Ideal.main_arg1)
      ∧ r.2.mem ((c.tc : Thread Cert.S5Ideal.nD Cert.S5Ideal.τ).loc Cert.S5Ideal.main_arg2) = m ((c.tc : Thread Cert.S5Ideal.nD Cert.S5Ideal.τ).loc Cert.S5Ideal.main_arg2)
      ∧ r.2.mem ((c.tc : Thread Cert.S5Ideal.nD Cert.S5Ideal.τ).loc Cert.S5Ideal.main_arg3) = m ((c.tc : Thread Cert.S5Ideal.nD Cert.S5Ideal.τ).loc Cert.S5Ideal.main_arg3)
      ∧ r.2.mem ((c.tc : Thread Cert.S5Ideal.nD Cert.S5Ideal.τ).loc Cert.S5Ideal.main_arg4) = m ((c.tc : Thread Cert.S5Ideal.nD Cert.S5Ideal.τ).loc Cert.S5Ideal.main_arg4)
      ∧ r.2.mem ((c.tc : Thread Cert.S5Ideal.nD Cert.S5Ideal.τ).loc Cert.S5Ideal.main_arg5) = m ((c.tc : Thread Cert.S5Ideal.nD Cert.S5Ideal.τ).loc Cert.S5Ideal.main_arg5)
      ∧ r.2.mem ((c.tc : Thread Cert.S5Ideal.nD Cert.S5Ideal.τ).loc Cert.S5Ideal.main_arg6) = m ((c.tc : Thread Cert.S5Ideal.nD Cert.S5Ideal.τ).loc Cert.S5Ideal.main_arg6)
      ∧ r.2.mem ((c.tc : Thread Cert.S5Ideal.nD Cert.S5Ideal.τ).loc Cert.S5Ideal.main_arg7) = m ((c.tc : Thread Cert.S5Ideal.nD Cert.S5Ideal.τ).loc Cert.S5Ideal.main_arg7)
      ∧ r.2.mem ((c.tc : Thread Cert.S5Ideal.nD Cert.S5Ideal.τ).loc Cert.S5Ideal.main_arg8) = m ((c.tc : Thread Cert.S5Ideal.nD Cert.S5Ideal.τ).loc Cert.S5Ideal.main_arg8)
      ∧ r.2.mem ((c.tc : Thread Cert.S5Ideal.nD Cert.S5Ideal.τ).loc Cert.S5Ideal.main_arg9) = m ((c.tc : Thread Cert.S5Ideal.nD Cert.S5Ideal.τ).loc Cert.S5Ideal.main_arg9)
      ∧ r.2.mem ((c.tc : Thread Cert.S5Ideal.nD Cert.S5Ideal.τ).loc Cert.S5Ideal.main_arg10) = m ((c.tc : Thread Cert.S5Ideal.nD Cert.S5Ideal.τ).loc Cert.S5Ideal.main_arg10))
      ∧ r.2.sem = fun _ => 0)

def quiescent_S5RefIdeal [hS5RefIdeal : Cert.S5RefIdeal.Facts] : Prop :=
  ∀ (m : (ℓ : Loc Cert.S5RefIdeal.nD Cert.S5RefIdeal.τ Cert.S5RefIdeal.sig) → Buf (Elt Ideal) ℓ) (g : Dev Cert.S5RefIdeal.nD → PrngReg), Pre_S5RefIdeal m →
    θ_run (Cert.S5RefIdeal.defs (F := Ideal)) (onTc (τ := Cert.S5RefIdeal.τ) (Cert.S5RefIdeal.main (F := Ideal))) ⟨m, fun _ => 0, g⟩ (fun r => (∀ c : Dev Cert.S5RefIdeal.nD,
      r.2.mem ((c.tc : Thread Cert.S5RefIdeal.nD Cert.S5RefIdeal.τ).loc Cert.S5RefIdeal.main_arg0) = m ((c.tc : Thread Cert.S5RefIdeal.nD Cert.S5RefIdeal.τ).loc Cert.S5RefIdeal.main_arg0)
      ∧ r.2.mem ((c.tc : Thread Cert.S5RefIdeal.nD Cert.S5RefIdeal.τ).loc Cert.S5RefIdeal.main_arg1) = m ((c.tc : Thread Cert.S5RefIdeal.nD Cert.S5RefIdeal.τ).loc Cert.S5RefIdeal.main_arg1)
      ∧ r.2.mem ((c.tc : Thread Cert.S5RefIdeal.nD Cert.S5RefIdeal.τ).loc Cert.S5RefIdeal.main_arg2) = m ((c.tc : Thread Cert.S5RefIdeal.nD Cert.S5RefIdeal.τ).loc Cert.S5RefIdeal.main_arg2)
      ∧ r.2.mem ((c.tc : Thread Cert.S5RefIdeal.nD Cert.S5RefIdeal.τ).loc Cert.S5RefIdeal.main_arg3) = m ((c.tc : Thread Cert.S5RefIdeal.nD Cert.S5RefIdeal.τ).loc Cert.S5RefIdeal.main_arg3)
      ∧ r.2.mem ((c.tc : Thread Cert.S5RefIdeal.nD Cert.S5RefIdeal.τ).loc Cert.S5RefIdeal.main_arg4) = m ((c.tc : Thread Cert.S5RefIdeal.nD Cert.S5RefIdeal.τ).loc Cert.S5RefIdeal.main_arg4)
      ∧ r.2.mem ((c.tc : Thread Cert.S5RefIdeal.nD Cert.S5RefIdeal.τ).loc Cert.S5RefIdeal.main_arg5) = m ((c.tc : Thread Cert.S5RefIdeal.nD Cert.S5RefIdeal.τ).loc Cert.S5RefIdeal.main_arg5)
      ∧ r.2.mem ((c.tc : Thread Cert.S5RefIdeal.nD Cert.S5RefIdeal.τ).loc Cert.S5RefIdeal.main_arg6) = m ((c.tc : Thread Cert.S5RefIdeal.nD Cert.S5RefIdeal.τ).loc Cert.S5RefIdeal.main_arg6)
      ∧ r.2.mem ((c.tc : Thread Cert.S5RefIdeal.nD Cert.S5RefIdeal.τ).loc Cert.S5RefIdeal.main_arg7) = m ((c.tc : Thread Cert.S5RefIdeal.nD Cert.S5RefIdeal.τ).loc Cert.S5RefIdeal.main_arg7)
      ∧ r.2.mem ((c.tc : Thread Cert.S5RefIdeal.nD Cert.S5RefIdeal.τ).loc Cert.S5RefIdeal.main_arg8) = m ((c.tc : Thread Cert.S5RefIdeal.nD Cert.S5RefIdeal.τ).loc Cert.S5RefIdeal.main_arg8)
      ∧ r.2.mem ((c.tc : Thread Cert.S5RefIdeal.nD Cert.S5RefIdeal.τ).loc Cert.S5RefIdeal.main_arg9) = m ((c.tc : Thread Cert.S5RefIdeal.nD Cert.S5RefIdeal.τ).loc Cert.S5RefIdeal.main_arg9)
      ∧ r.2.mem ((c.tc : Thread Cert.S5RefIdeal.nD Cert.S5RefIdeal.τ).loc Cert.S5RefIdeal.main_arg10) = m ((c.tc : Thread Cert.S5RefIdeal.nD Cert.S5RefIdeal.τ).loc Cert.S5RefIdeal.main_arg10))
      ∧ r.2.sem = fun _ => 0)

def preserves_Cross_CrossIdeal : Prop :=
  True

def algebraic_CrossIdeal_CrossRefIdeal_pre_finite_scores [hCrossIdeal : Cert.CrossIdeal.Facts] [hCrossRefIdeal : Cert.CrossRefIdeal.Facts] [hPre_finite_scores : Cert.Pre_finite_scores.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_finite_scores m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)
      ∧ m' ((c.tc : Thread Cert.CrossRefIdeal.nD Cert.CrossRefIdeal.τ).loc Cert.CrossRefIdeal.main_arg6) = m ((c.tc : Thread Cert.CrossIdeal.nD Cert.CrossIdeal.τ).loc Cert.CrossIdeal.main_arg6)
      ∧ m' ((c.tc : Thread Cert.CrossRefIdeal.nD Cert.CrossRefIdeal.τ).loc Cert.CrossRefIdeal.main_arg7) = m ((c.tc : Thread Cert.CrossIdeal.nD Cert.CrossIdeal.τ).loc Cert.CrossIdeal.main_arg7)
      ∧ m' ((c.tc : Thread Cert.CrossRefIdeal.nD Cert.CrossRefIdeal.τ).loc Cert.CrossRefIdeal.main_arg8) = m ((c.tc : Thread Cert.CrossIdeal.nD Cert.CrossIdeal.τ).loc Cert.CrossIdeal.main_arg8)
      ∧ m' ((c.tc : Thread Cert.CrossRefIdeal.nD Cert.CrossRefIdeal.τ).loc Cert.CrossRefIdeal.main_arg9) = m ((c.tc : Thread Cert.CrossIdeal.nD Cert.CrossIdeal.τ).loc Cert.CrossIdeal.main_arg9)
      ∧ m' ((c.tc : Thread Cert.CrossRefIdeal.nD Cert.CrossRefIdeal.τ).loc Cert.CrossRefIdeal.main_arg10) = m ((c.tc : Thread Cert.CrossIdeal.nD Cert.CrossIdeal.τ).loc Cert.CrossIdeal.main_arg10)) →
    ∃ (v0 : (c : Dev Cert.CrossIdeal.nD) → Buf (Elt Ideal) ((c.tc : Thread Cert.CrossIdeal.nD Cert.CrossIdeal.τ).loc Cert.CrossIdeal.main_v6)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v6) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
          ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
          ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7)
          ∧ r.2.mem ((c.tc : Thread Cert.CrossIdeal.nD Cert.CrossIdeal.τ).loc Cert.CrossIdeal.main_arg8) = m ((c.tc : Thread Cert.CrossIdeal.nD Cert.CrossIdeal.τ).loc Cert.CrossIdeal.main_arg8)
          ∧ r.2.mem ((c.tc : Thread Cert.CrossIdeal.nD Cert.CrossIdeal.τ).loc Cert.CrossIdeal.main_arg9) = m ((c.tc : Thread Cert.CrossIdeal.nD Cert.CrossIdeal.τ).loc Cert.CrossIdeal.main_arg9)
          ∧ r.2.mem ((c.tc : Thread Cert.CrossIdeal.nD Cert.CrossIdeal.τ).loc Cert.CrossIdeal.main_arg10) = m ((c.tc : Thread Cert.CrossIdeal.nD Cert.CrossIdeal.τ).loc Cert.CrossIdeal.main_arg10))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v67) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5)
          ∧ r.2.mem ((c.tc : Thread Cert.CrossRefIdeal.nD Cert.CrossRefIdeal.τ).loc Cert.CrossRefIdeal.main_arg6) = m' ((c.tc : Thread Cert.CrossRefIdeal.nD Cert.CrossRefIdeal.τ).loc Cert.CrossRefIdeal.main_arg6)
          ∧ r.2.mem ((c.tc : Thread Cert.CrossRefIdeal.nD Cert.CrossRefIdeal.τ).loc Cert.CrossRefIdeal.main_arg7) = m' ((c.tc : Thread Cert.CrossRefIdeal.nD Cert.CrossRefIdeal.τ).loc Cert.CrossRefIdeal.main_arg7)
          ∧ r.2.mem ((c.tc : Thread Cert.CrossRefIdeal.nD Cert.CrossRefIdeal.τ).loc Cert.CrossRefIdeal.main_arg8) = m' ((c.tc : Thread Cert.CrossRefIdeal.nD Cert.CrossRefIdeal.τ).loc Cert.CrossRefIdeal.main_arg8)
          ∧ r.2.mem ((c.tc : Thread Cert.CrossRefIdeal.nD Cert.CrossRefIdeal.τ).loc Cert.CrossRefIdeal.main_arg9) = m' ((c.tc : Thread Cert.CrossRefIdeal.nD Cert.CrossRefIdeal.τ).loc Cert.CrossRefIdeal.main_arg9)
          ∧ r.2.mem ((c.tc : Thread Cert.CrossRefIdeal.nD Cert.CrossRefIdeal.τ).loc Cert.CrossRefIdeal.main_arg10) = m' ((c.tc : Thread Cert.CrossRefIdeal.nD Cert.CrossRefIdeal.τ).loc Cert.CrossRefIdeal.main_arg10))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v6_0)) (v1 : (c : Dev Cert.ProjIdeal.nD) → Buf (Elt Ideal) ((c.tc : Thread Cert.ProjIdeal.nD Cert.ProjIdeal.τ).loc Cert.ProjIdeal.main_v6_1)) (v2 : (c : Dev Cert.ProjIdeal.nD) → Buf (Elt Ideal) ((c.tc : Thread Cert.ProjIdeal.nD Cert.ProjIdeal.τ).loc Cert.ProjIdeal.main_v6_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6_0) = v0 c
          ∧ r.2.mem ((c.tc : Thread Cert.ProjIdeal.nD Cert.ProjIdeal.τ).loc Cert.ProjIdeal.main_v6_1) = v1 c
          ∧ r.2.mem ((c.tc : Thread Cert.ProjIdeal.nD Cert.ProjIdeal.τ).loc Cert.ProjIdeal.main_v6_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v29) = v0 c
          ∧ r.2.mem ((c.tc : Thread Cert.ProjRefIdeal.nD Cert.ProjRefIdeal.τ).loc Cert.ProjRefIdeal.main_v44) = v1 c
          ∧ r.2.mem ((c.tc : Thread Cert.ProjRefIdeal.nD Cert.ProjRefIdeal.τ).loc Cert.ProjRefIdeal.main_v45) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v29) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v5_0)) (v1 : (c : Dev Cert.KvIdeal.nD) → Buf (Elt Ideal) ((c.tc : Thread Cert.KvIdeal.nD Cert.KvIdeal.τ).loc Cert.KvIdeal.main_v5_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v5_0) = v0 c
          ∧ r.2.mem ((c.tc : Thread Cert.KvIdeal.nD Cert.KvIdeal.τ).loc Cert.KvIdeal.main_v5_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v14) = v0 c
          ∧ r.2.mem ((c.tc : Thread Cert.KvRefIdeal.nD Cert.KvRefIdeal.τ).loc Cert.KvRefIdeal.main_v15) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)) →
    ∃ (v0 : (c : Dev Cert.LastIdeal.nD) → Buf (Elt Ideal) ((c.tc : Thread Cert.LastIdeal.nD Cert.LastIdeal.τ).loc Cert.LastIdeal.main_v2)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v2) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v42) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5))

def preserves_FoxS_FoxSIdeal : Prop :=
  True

def algebraic_FoxSIdeal_FoxSRefIdeal [hFoxSIdeal : Cert.FoxSIdeal.Facts] [hFoxSRefIdeal : Cert.FoxSRefIdeal.Facts] : Prop :=
  ∀ (m : (ℓ : Loc Cert.FoxSIdeal.nD Cert.FoxSIdeal.τ Cert.FoxSIdeal.sig) → Buf (Elt Ideal) ℓ) (g : Dev Cert.FoxSIdeal.nD → PrngReg)
    (m' : (ℓ : Loc Cert.FoxSRefIdeal.nD Cert.FoxSRefIdeal.τ Cert.FoxSRefIdeal.sig) → Buf (Elt Ideal) ℓ) (g' : Dev Cert.FoxSRefIdeal.nD → PrngReg), Pre_FoxSIdeal m →
    (∀ c : Dev Cert.FoxSIdeal.nD,
      m' ((c.tc : Thread Cert.FoxSRefIdeal.nD Cert.FoxSRefIdeal.τ).loc Cert.FoxSRefIdeal.main_arg0) = m ((c.tc : Thread Cert.FoxSIdeal.nD Cert.FoxSIdeal.τ).loc Cert.FoxSIdeal.main_arg0)
      ∧ m' ((c.tc : Thread Cert.FoxSRefIdeal.nD Cert.FoxSRefIdeal.τ).loc Cert.FoxSRefIdeal.main_arg1) = m ((c.tc : Thread Cert.FoxSIdeal.nD Cert.FoxSIdeal.τ).loc Cert.FoxSIdeal.main_arg1)
      ∧ m' ((c.tc : Thread Cert.FoxSRefIdeal.nD Cert.FoxSRefIdeal.τ).loc Cert.FoxSRefIdeal.main_arg2) = m ((c.tc : Thread Cert.FoxSIdeal.nD Cert.FoxSIdeal.τ).loc Cert.FoxSIdeal.main_arg2)
      ∧ m' ((c.tc : Thread Cert.FoxSRefIdeal.nD Cert.FoxSRefIdeal.τ).loc Cert.FoxSRefIdeal.main_arg3) = m ((c.tc : Thread Cert.FoxSIdeal.nD Cert.FoxSIdeal.τ).loc Cert.FoxSIdeal.main_arg3)) →
    ∃ (v0 : (c : Dev Cert.FoxSIdeal.nD) → Buf (Elt Ideal) ((c.tc : Thread Cert.FoxSIdeal.nD Cert.FoxSIdeal.τ).loc Cert.FoxSIdeal.main_v20_0)) (v1 : (c : Dev Cert.FoxSIdeal.nD) → Buf (Elt Ideal) ((c.tc : Thread Cert.FoxSIdeal.nD Cert.FoxSIdeal.τ).loc Cert.FoxSIdeal.main_v20_1)) (v2 : (c : Dev Cert.FoxSIdeal.nD) → Buf (Elt Ideal) ((c.tc : Thread Cert.FoxSIdeal.nD Cert.FoxSIdeal.τ).loc Cert.FoxSIdeal.main_v20_2)) (v3 : (c : Dev Cert.FoxSIdeal.nD) → Buf (Elt Ideal) ((c.tc : Thread Cert.FoxSIdeal.nD Cert.FoxSIdeal.τ).loc Cert.FoxSIdeal.main_v20_3)) (v4 : (c : Dev Cert.FoxSIdeal.nD) → Buf (Elt Ideal) ((c.tc : Thread Cert.FoxSIdeal.nD Cert.FoxSIdeal.τ).loc Cert.FoxSIdeal.main_v20_4)) (v5 : (c : Dev Cert.FoxSIdeal.nD) → Buf (Elt Ideal) ((c.tc : Thread Cert.FoxSIdeal.nD Cert.FoxSIdeal.τ).loc Cert.FoxSIdeal.main_v20_5)),
      θ_run (Cert.FoxSIdeal.defs (F := Ideal)) (onTc (τ := Cert.FoxSIdeal.τ) (Cert.FoxSIdeal.main (F := Ideal))) ⟨m, fun _ => 0, g⟩ (fun r => ∀ c : Dev Cert.FoxSIdeal.nD,
          r.2.mem ((c.tc : Thread Cert.FoxSIdeal.nD Cert.FoxSIdeal.τ).loc Cert.FoxSIdeal.main_v20_0) = v0 c
          ∧ r.2.mem ((c.tc : Thread Cert.FoxSIdeal.nD Cert.FoxSIdeal.τ).loc Cert.FoxSIdeal.main_v20_1) = v1 c
          ∧ r.2.mem ((c.tc : Thread Cert.FoxSIdeal.nD Cert.FoxSIdeal.τ).loc Cert.FoxSIdeal.main_v20_2) = v2 c
          ∧ r.2.mem ((c.tc : Thread Cert.FoxSIdeal.nD Cert.FoxSIdeal.τ).loc Cert.FoxSIdeal.main_v20_3) = v3 c
          ∧ r.2.mem ((c.tc : Thread Cert.FoxSIdeal.nD Cert.FoxSIdeal.τ).loc Cert.FoxSIdeal.main_v20_4) = v4 c
          ∧ r.2.mem ((c.tc : Thread Cert.FoxSIdeal.nD Cert.FoxSIdeal.τ).loc Cert.FoxSIdeal.main_v20_5) = v5 c
          ∧ r.2.mem ((c.tc : Thread Cert.FoxSIdeal.nD Cert.FoxSIdeal.τ).loc Cert.FoxSIdeal.main_arg0) = m ((c.tc : Thread Cert.FoxSIdeal.nD Cert.FoxSIdeal.τ).loc Cert.FoxSIdeal.main_arg0)
          ∧ r.2.mem ((c.tc : Thread Cert.FoxSIdeal.nD Cert.FoxSIdeal.τ).loc Cert.FoxSIdeal.main_arg1) = m ((c.tc : Thread Cert.FoxSIdeal.nD Cert.FoxSIdeal.τ).loc Cert.FoxSIdeal.main_arg1)
          ∧ r.2.mem ((c.tc : Thread Cert.FoxSIdeal.nD Cert.FoxSIdeal.τ).loc Cert.FoxSIdeal.main_arg2) = m ((c.tc : Thread Cert.FoxSIdeal.nD Cert.FoxSIdeal.τ).loc Cert.FoxSIdeal.main_arg2)
          ∧ r.2.mem ((c.tc : Thread Cert.FoxSIdeal.nD Cert.FoxSIdeal.τ).loc Cert.FoxSIdeal.main_arg3) = m ((c.tc : Thread Cert.FoxSIdeal.nD Cert.FoxSIdeal.τ).loc Cert.FoxSIdeal.main_arg3))
      ∧ θ_run (Cert.FoxSRefIdeal.defs (F := Ideal)) (onTc (τ := Cert.FoxSRefIdeal.τ) (Cert.FoxSRefIdeal.main (F := Ideal))) ⟨m', fun _ => 0, g'⟩ (fun r => ∀ c : Dev Cert.FoxSRefIdeal.nD,
          r.2.mem ((c.tc : Thread Cert.FoxSRefIdeal.nD Cert.FoxSRefIdeal.τ).loc Cert.FoxSRefIdeal.main_v22) = v0 c
          ∧ r.2.mem ((c.tc : Thread Cert.FoxSRefIdeal.nD Cert.FoxSRefIdeal.τ).loc Cert.FoxSRefIdeal.main_v23) = v1 c
          ∧ r.2.mem ((c.tc : Thread Cert.FoxSRefIdeal.nD Cert.FoxSRefIdeal.τ).loc Cert.FoxSRefIdeal.main_v24) = v2 c
          ∧ r.2.mem ((c.tc : Thread Cert.FoxSRefIdeal.nD Cert.FoxSRefIdeal.τ).loc Cert.FoxSRefIdeal.main_v25) = v3 c
          ∧ r.2.mem ((c.tc : Thread Cert.FoxSRefIdeal.nD Cert.FoxSRefIdeal.τ).loc Cert.FoxSRefIdeal.main_v19) = v4 c
          ∧ r.2.mem ((c.tc : Thread Cert.FoxSRefIdeal.nD Cert.FoxSRefIdeal.τ).loc Cert.FoxSRefIdeal.main_v27) = v5 c
          ∧ r.2.mem ((c.tc : Thread Cert.FoxSRefIdeal.nD Cert.FoxSRefIdeal.τ).loc Cert.FoxSRefIdeal.main_arg0) = m' ((c.tc : Thread Cert.FoxSRefIdeal.nD Cert.FoxSRefIdeal.τ).loc Cert.FoxSRefIdeal.main_arg0)
          ∧ r.2.mem ((c.tc : Thread Cert.FoxSRefIdeal.nD Cert.FoxSRefIdeal.τ).loc Cert.FoxSRefIdeal.main_arg1) = m' ((c.tc : Thread Cert.FoxSRefIdeal.nD Cert.FoxSRefIdeal.τ).loc Cert.FoxSRefIdeal.main_arg1)
          ∧ r.2.mem ((c.tc : Thread Cert.FoxSRefIdeal.nD Cert.FoxSRefIdeal.τ).loc Cert.FoxSRefIdeal.main_arg2) = m' ((c.tc : Thread Cert.FoxSRefIdeal.nD Cert.FoxSRefIdeal.τ).loc Cert.FoxSRefIdeal.main_arg2)
          ∧ r.2.mem ((c.tc : Thread Cert.FoxSRefIdeal.nD Cert.FoxSRefIdeal.τ).loc Cert.FoxSRefIdeal.main_arg3) = m' ((c.tc : Thread Cert.FoxSRefIdeal.nD Cert.FoxSRefIdeal.τ).loc Cert.FoxSRefIdeal.main_arg3))

def preserves_S5_S5Ideal : Prop :=
  True

def algebraic_S5Ideal_S5RefIdeal [hS5Ideal : Cert.S5Ideal.Facts] [hS5RefIdeal : Cert.S5RefIdeal.Facts] : Prop :=
  ∀ (m : (ℓ : Loc Cert.S5Ideal.nD Cert.S5Ideal.τ Cert.S5Ideal.sig) → Buf (Elt Ideal) ℓ) (g : Dev Cert.S5Ideal.nD → PrngReg)
    (m' : (ℓ : Loc Cert.S5RefIdeal.nD Cert.S5RefIdeal.τ Cert.S5RefIdeal.sig) → Buf (Elt Ideal) ℓ) (g' : Dev Cert.S5RefIdeal.nD → PrngReg), Pre_S5Ideal m →
    (∀ c : Dev Cert.S5Ideal.nD,
      m' ((c.tc : Thread Cert.S5RefIdeal.nD Cert.S5RefIdeal.τ).loc Cert.S5RefIdeal.main_arg0) = m ((c.tc : Thread Cert.S5Ideal.nD Cert.S5Ideal.τ).loc Cert.S5Ideal.main_arg0)
      ∧ m' ((c.tc : Thread Cert.S5RefIdeal.nD Cert.S5RefIdeal.τ).loc Cert.S5RefIdeal.main_arg1) = m ((c.tc : Thread Cert.S5Ideal.nD Cert.S5Ideal.τ).loc Cert.S5Ideal.main_arg1)
      ∧ m' ((c.tc : Thread Cert.S5RefIdeal.nD Cert.S5RefIdeal.τ).loc Cert.S5RefIdeal.main_arg2) = m ((c.tc : Thread Cert.S5Ideal.nD Cert.S5Ideal.τ).loc Cert.S5Ideal.main_arg2)
      ∧ m' ((c.tc : Thread Cert.S5RefIdeal.nD Cert.S5RefIdeal.τ).loc Cert.S5RefIdeal.main_arg3) = m ((c.tc : Thread Cert.S5Ideal.nD Cert.S5Ideal.τ).loc Cert.S5Ideal.main_arg3)
      ∧ m' ((c.tc : Thread Cert.S5RefIdeal.nD Cert.S5RefIdeal.τ).loc Cert.S5RefIdeal.main_arg4) = m ((c.tc : Thread Cert.S5Ideal.nD Cert.S5Ideal.τ).loc Cert.S5Ideal.main_arg4)
      ∧ m' ((c.tc : Thread Cert.S5RefIdeal.nD Cert.S5RefIdeal.τ).loc Cert.S5RefIdeal.main_arg5) = m ((c.tc : Thread Cert.S5Ideal.nD Cert.S5Ideal.τ).loc Cert.S5Ideal.main_arg5)
      ∧ m' ((c.tc : Thread Cert.S5RefIdeal.nD Cert.S5RefIdeal.τ).loc Cert.S5RefIdeal.main_arg6) = m ((c.tc : Thread Cert.S5Ideal.nD Cert.S5Ideal.τ).loc Cert.S5Ideal.main_arg6)
      ∧ m' ((c.tc : Thread Cert.S5RefIdeal.nD Cert.S5RefIdeal.τ).loc Cert.S5RefIdeal.main_arg7) = m ((c.tc : Thread Cert.S5Ideal.nD Cert.S5Ideal.τ).loc Cert.S5Ideal.main_arg7)
      ∧ m' ((c.tc : Thread Cert.S5RefIdeal.nD Cert.S5RefIdeal.τ).loc Cert.S5RefIdeal.main_arg8) = m ((c.tc : Thread Cert.S5Ideal.nD Cert.S5Ideal.τ).loc Cert.S5Ideal.main_arg8)
      ∧ m' ((c.tc : Thread Cert.S5RefIdeal.nD Cert.S5RefIdeal.τ).loc Cert.S5RefIdeal.main_arg9) = m ((c.tc : Thread Cert.S5Ideal.nD Cert.S5Ideal.τ).loc Cert.S5Ideal.main_arg9)
      ∧ m' ((c.tc : Thread Cert.S5RefIdeal.nD Cert.S5RefIdeal.τ).loc Cert.S5RefIdeal.main_arg10) = m ((c.tc : Thread Cert.S5Ideal.nD Cert.S5Ideal.τ).loc Cert.S5Ideal.main_arg10)) →
    ∃ (v0 : (c : Dev Cert.S5Ideal.nD) → Buf (Elt Ideal) ((c.tc : Thread Cert.S5Ideal.nD Cert.S5Ideal.τ).loc Cert.S5Ideal.main_v43_0)) (v1 : (c : Dev Cert.S5Ideal.nD) → Buf (Elt Ideal) ((c.tc : Thread Cert.S5Ideal.nD Cert.S5Ideal.τ).loc Cert.S5Ideal.main_v43_1)) (v2 : (c : Dev Cert.S5Ideal.nD) → Buf (Elt Ideal) ((c.tc : Thread Cert.S5Ideal.nD Cert.S5Ideal.τ).loc Cert.S5Ideal.main_v43_2)),
      θ_run (Cert.S5Ideal.defs (F := Ideal)) (onTc (τ := Cert.S5Ideal.τ) (Cert.S5Ideal.main (F := Ideal))) ⟨m, fun _ => 0, g⟩ (fun r => ∀ c : Dev Cert.S5Ideal.nD,
          r.2.mem ((c.tc : Thread Cert.S5Ideal.nD Cert.S5Ideal.τ).loc Cert.S5Ideal.main_v43_0) = v0 c
          ∧ r.2.mem ((c.tc : Thread Cert.S5Ideal.nD Cert.S5Ideal.τ).loc Cert.S5Ideal.main_v43_1) = v1 c
          ∧ r.2.mem ((c.tc : Thread Cert.S5Ideal.nD Cert.S5Ideal.τ).loc Cert.S5Ideal.main_v43_2) = v2 c
          ∧ r.2.mem ((c.tc : Thread Cert.S5Ideal.nD Cert.S5Ideal.τ).loc Cert.S5Ideal.main_arg0) = m ((c.tc : Thread Cert.S5Ideal.nD Cert.S5Ideal.τ).loc Cert.S5Ideal.main_arg0)
          ∧ r.2.mem ((c.tc : Thread Cert.S5Ideal.nD Cert.S5Ideal.τ).loc Cert.S5Ideal.main_arg1) = m ((c.tc : Thread Cert.S5Ideal.nD Cert.S5Ideal.τ).loc Cert.S5Ideal.main_arg1)
          ∧ r.2.mem ((c.tc : Thread Cert.S5Ideal.nD Cert.S5Ideal.τ).loc Cert.S5Ideal.main_arg2) = m ((c.tc : Thread Cert.S5Ideal.nD Cert.S5Ideal.τ).loc Cert.S5Ideal.main_arg2)
          ∧ r.2.mem ((c.tc : Thread Cert.S5Ideal.nD Cert.S5Ideal.τ).loc Cert.S5Ideal.main_arg3) = m ((c.tc : Thread Cert.S5Ideal.nD Cert.S5Ideal.τ).loc Cert.S5Ideal.main_arg3)
          ∧ r.2.mem ((c.tc : Thread Cert.S5Ideal.nD Cert.S5Ideal.τ).loc Cert.S5Ideal.main_arg4) = m ((c.tc : Thread Cert.S5Ideal.nD Cert.S5Ideal.τ).loc Cert.S5Ideal.main_arg4)
          ∧ r.2.mem ((c.tc : Thread Cert.S5Ideal.nD Cert.S5Ideal.τ).loc Cert.S5Ideal.main_arg5) = m ((c.tc : Thread Cert.S5Ideal.nD Cert.S5Ideal.τ).loc Cert.S5Ideal.main_arg5)
          ∧ r.2.mem ((c.tc : Thread Cert.S5Ideal.nD Cert.S5Ideal.τ).loc Cert.S5Ideal.main_arg6) = m ((c.tc : Thread Cert.S5Ideal.nD Cert.S5Ideal.τ).loc Cert.S5Ideal.main_arg6)
          ∧ r.2.mem ((c.tc : Thread Cert.S5Ideal.nD Cert.S5Ideal.τ).loc Cert.S5Ideal.main_arg7) = m ((c.tc : Thread Cert.S5Ideal.nD Cert.S5Ideal.τ).loc Cert.S5Ideal.main_arg7)
          ∧ r.2.mem ((c.tc : Thread Cert.S5Ideal.nD Cert.S5Ideal.τ).loc Cert.S5Ideal.main_arg8) = m ((c.tc : Thread Cert.S5Ideal.nD Cert.S5Ideal.τ).loc Cert.S5Ideal.main_arg8)
          ∧ r.2.mem ((c.tc : Thread Cert.S5Ideal.nD Cert.S5Ideal.τ).loc Cert.S5Ideal.main_arg9) = m ((c.tc : Thread Cert.S5Ideal.nD Cert.S5Ideal.τ).loc Cert.S5Ideal.main_arg9)
          ∧ r.2.mem ((c.tc : Thread Cert.S5Ideal.nD Cert.S5Ideal.τ).loc Cert.S5Ideal.main_arg10) = m ((c.tc : Thread Cert.S5Ideal.nD Cert.S5Ideal.τ).loc Cert.S5Ideal.main_arg10))
      ∧ θ_run (Cert.S5RefIdeal.defs (F := Ideal)) (onTc (τ := Cert.S5RefIdeal.τ) (Cert.S5RefIdeal.main (F := Ideal))) ⟨m', fun _ => 0, g'⟩ (fun r => ∀ c : Dev Cert.S5RefIdeal.nD,
          r.2.mem ((c.tc : Thread Cert.S5RefIdeal.nD Cert.S5RefIdeal.τ).loc Cert.S5RefIdeal.main_v239) = v0 c
          ∧ r.2.mem ((c.tc : Thread Cert.S5RefIdeal.nD Cert.S5RefIdeal.τ).loc Cert.S5RefIdeal.main_v240) = v1 c
          ∧ r.2.mem ((c.tc : Thread Cert.S5RefIdeal.nD Cert.S5RefIdeal.τ).loc Cert.S5RefIdeal.main_v241) = v2 c
          ∧ r.2.mem ((c.tc : Thread Cert.S5RefIdeal.nD Cert.S5RefIdeal.τ).loc Cert.S5RefIdeal.main_arg0) = m' ((c.tc : Thread Cert.S5RefIdeal.nD Cert.S5RefIdeal.τ).loc Cert.S5RefIdeal.main_arg0)
          ∧ r.2.mem ((c.tc : Thread Cert.S5RefIdeal.nD Cert.S5RefIdeal.τ).loc Cert.S5RefIdeal.main_arg1) = m' ((c.tc : Thread Cert.S5RefIdeal.nD Cert.S5RefIdeal.τ).loc Cert.S5RefIdeal.main_arg1)
          ∧ r.2.mem ((c.tc : Thread Cert.S5RefIdeal.nD Cert.S5RefIdeal.τ).loc Cert.S5RefIdeal.main_arg2) = m' ((c.tc : Thread Cert.S5RefIdeal.nD Cert.S5RefIdeal.τ).loc Cert.S5RefIdeal.main_arg2)
          ∧ r.2.mem ((c.tc : Thread Cert.S5RefIdeal.nD Cert.S5RefIdeal.τ).loc Cert.S5RefIdeal.main_arg3) = m' ((c.tc : Thread Cert.S5RefIdeal.nD Cert.S5RefIdeal.τ).loc Cert.S5RefIdeal.main_arg3)
          ∧ r.2.mem ((c.tc : Thread Cert.S5RefIdeal.nD Cert.S5RefIdeal.τ).loc Cert.S5RefIdeal.main_arg4) = m' ((c.tc : Thread Cert.S5RefIdeal.nD Cert.S5RefIdeal.τ).loc Cert.S5RefIdeal.main_arg4)
          ∧ r.2.mem ((c.tc : Thread Cert.S5RefIdeal.nD Cert.S5RefIdeal.τ).loc Cert.S5RefIdeal.main_arg5) = m' ((c.tc : Thread Cert.S5RefIdeal.nD Cert.S5RefIdeal.τ).loc Cert.S5RefIdeal.main_arg5)
          ∧ r.2.mem ((c.tc : Thread Cert.S5RefIdeal.nD Cert.S5RefIdeal.τ).loc Cert.S5RefIdeal.main_arg6) = m' ((c.tc : Thread Cert.S5RefIdeal.nD Cert.S5RefIdeal.τ).loc Cert.S5RefIdeal.main_arg6)
          ∧ r.2.mem ((c.tc : Thread Cert.S5RefIdeal.nD Cert.S5RefIdeal.τ).loc Cert.S5RefIdeal.main_arg7) = m' ((c.tc : Thread Cert.S5RefIdeal.nD Cert.S5RefIdeal.τ).loc Cert.S5RefIdeal.main_arg7)
          ∧ r.2.mem ((c.tc : Thread Cert.S5RefIdeal.nD Cert.S5RefIdeal.τ).loc Cert.S5RefIdeal.main_arg8) = m' ((c.tc : Thread Cert.S5RefIdeal.nD Cert.S5RefIdeal.τ).loc Cert.S5RefIdeal.main_arg8)
          ∧ r.2.mem ((c.tc : Thread Cert.S5RefIdeal.nD Cert.S5RefIdeal.τ).loc Cert.S5RefIdeal.main_arg9) = m' ((c.tc : Thread Cert.S5RefIdeal.nD Cert.S5RefIdeal.τ).loc Cert.S5RefIdeal.main_arg9)
          ∧ r.2.mem ((c.tc : Thread Cert.S5RefIdeal.nD Cert.S5RefIdeal.τ).loc Cert.S5RefIdeal.main_arg10) = m' ((c.tc : Thread Cert.S5RefIdeal.nD Cert.S5RefIdeal.τ).loc Cert.S5RefIdeal.main_arg10))

def Claim : Prop :=
  ∃ (hCross : Cert.Cross.Facts) (hCrossIdeal : Cert.CrossIdeal.Facts) (hCrossRefIdeal : Cert.CrossRefIdeal.Facts) (hProj : Cert.Proj.Facts) (hProjIdeal : Cert.ProjIdeal.Facts) (hProjRefIdeal : Cert.ProjRefIdeal.Facts) (hFfn : Cert.Ffn.Facts) (hFfnIdeal : Cert.FfnIdeal.Facts) (hFfnRefIdeal : Cert.FfnRefIdeal.Facts) (hKv : Cert.Kv.Facts) (hKvIdeal : Cert.KvIdeal.Facts) (hKvRefIdeal : Cert.KvRefIdeal.Facts) (hLast : Cert.Last.Facts) (hLastIdeal : Cert.LastIdeal.Facts) (hLastRefIdeal : Cert.LastRefIdeal.Facts) (hFoxS : Cert.FoxS.Facts) (hFoxSIdeal : Cert.FoxSIdeal.Facts) (hFoxSRefIdeal : Cert.FoxSRefIdeal.Facts) (hS5 : Cert.S5.Facts) (hS5Ideal : Cert.S5Ideal.Facts) (hS5RefIdeal : Cert.S5RefIdeal.Facts) (hPre_finite_scores : Cert.Pre_finite_scores.Facts),
    quiescent_Cross (hCross := hCross)
    ∧ quiescent_CrossIdeal (hCrossIdeal := hCrossIdeal)
    ∧ quiescent_CrossIdeal_pre_finite_scores (hCrossIdeal := hCrossIdeal) (hPre_finite_scores := hPre_finite_scores)
    ∧ quiescent_CrossRefIdeal (hCrossRefIdeal := hCrossRefIdeal)
    ∧ quiescent_CrossRefIdeal_pre_finite_scores (hCrossRefIdeal := hCrossRefIdeal) (hPre_finite_scores := hPre_finite_scores)
    ∧ quiescent_Proj (hProj := hProj)
    ∧ quiescent_ProjIdeal (hProjIdeal := hProjIdeal)
    ∧ quiescent_ProjRefIdeal (hProjRefIdeal := hProjRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Kv (hKv := hKv)
    ∧ quiescent_KvIdeal (hKvIdeal := hKvIdeal)
    ∧ quiescent_KvRefIdeal (hKvRefIdeal := hKvRefIdeal)
    ∧ quiescent_Last (hLast := hLast)
    ∧ quiescent_LastIdeal (hLastIdeal := hLastIdeal)
    ∧ quiescent_LastRefIdeal (hLastRefIdeal := hLastRefIdeal)
    ∧ quiescent_FoxS (hFoxS := hFoxS)
    ∧ quiescent_FoxSIdeal (hFoxSIdeal := hFoxSIdeal)
    ∧ quiescent_FoxSRefIdeal (hFoxSRefIdeal := hFoxSRefIdeal)
    ∧ quiescent_S5 (hS5 := hS5)
    ∧ quiescent_S5Ideal (hS5Ideal := hS5Ideal)
    ∧ quiescent_S5RefIdeal (hS5RefIdeal := hS5RefIdeal)
    ∧ preserves_Cross_CrossIdeal
    ∧ algebraic_CrossIdeal_CrossRefIdeal_pre_finite_scores (hCrossIdeal := hCrossIdeal) (hCrossRefIdeal := hCrossRefIdeal) (hPre_finite_scores := hPre_finite_scores)
    ∧ preserves_Proj_ProjIdeal
    ∧ algebraic_ProjIdeal_ProjRefIdeal (hProjIdeal := hProjIdeal) (hProjRefIdeal := hProjRefIdeal)
    ∧ preserves_Ffn_FfnIdeal
    ∧ algebraic_FfnIdeal_FfnRefIdeal (hFfnIdeal := hFfnIdeal) (hFfnRefIdeal := hFfnRefIdeal)
    ∧ preserves_Kv_KvIdeal
    ∧ algebraic_KvIdeal_KvRefIdeal (hKvIdeal := hKvIdeal) (hKvRefIdeal := hKvRefIdeal)
    ∧ preserves_Last_LastIdeal
    ∧ algebraic_LastIdeal_LastRefIdeal (hLastIdeal := hLastIdeal) (hLastRefIdeal := hLastRefIdeal)
    ∧ preserves_FoxS_FoxSIdeal
    ∧ algebraic_FoxSIdeal_FoxSRefIdeal (hFoxSIdeal := hFoxSIdeal) (hFoxSRefIdeal := hFoxSRefIdeal)
    ∧ preserves_S5_S5Ideal
    ∧ algebraic_S5Ideal_S5RefIdeal (hS5Ideal := hS5Ideal) (hS5RefIdeal := hS5RefIdeal)
-- ==== Pre_finite_scores.lean ====
abbrev S16384x1024 : Shape := ⟨2, ![16384, 1024]⟩
abbrev S16384x768 : Shape := ⟨2, ![16384, 768]⟩
abbrev S16384x256 : Shape := ⟨2, ![16384, 256]⟩
abbrev S2x256x256 : Shape := ⟨3, ![2, 256, 256]⟩
abbrev S1024x1024 : Shape := ⟨2, ![1024, 1024]⟩
abbrev S1024 : Shape := ⟨1, ![1024]⟩
abbrev S4x1024x2816 : Shape := ⟨3, ![4, 1024, 2816]⟩
abbrev S4x2816x1024 : Shape := ⟨3, ![4, 2816, 1024]⟩
abbrev S_ : Shape := ⟨0, ![]⟩

class Facts : Prop where
  bcast_S_S16384x256 : S_.BroadcastsInDim S16384x256 (![] : Fin 0 → Fin S16384x256.rank)
  bcast_S_S2x256x256 : S_.BroadcastsInDim S2x256x256 (![] : Fin 0 → Fin S2x256x256.rank)

variable [Facts]

def fn {F : FTy → Type} [FloatOps F] (main_arg0 : FVec F S16384x1024 .f32) (main_arg1 : FVec F S16384x768 .f32) (main_arg2 : FVec F S16384x256 .f32) (main_arg3 : FVec F S2x256x256 .f32) (main_arg4 : FVec F S2x256x256 .f32) (main_arg5 : FVec F S1024x1024 .f32) (main_arg6 : FVec F S1024 .f32) (main_arg7 : FVec F S4x1024x2816 .bf16) (main_arg8 : FVec F S4x1024x2816 .bf16) (main_arg9 : FVec F S4x2816x1024 .bf16) (main_arg10 : FVec F S1024 .f32) : IVec S16384x256 1 × IVec S2x256x256 1 :=
  let main_v0 : FVec F S16384x256 .f32 := Host.absf main_arg2
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_v3 : FVec F S2x256x256 .f32 := Host.absf main_arg3
  let main_cst_0 : FVec F S_ .f32 := constant S_ .f32 0x7F800000#32
  let main_v4 : FVec F S2x256x256 .f32 := broadcastInDim S2x256x256 ![] bcast_S_S2x256x256 main_cst_0
  let main_v5 : IVec S2x256x256 1 := cmpf .olt main_v3 main_v4
  (main_v2, main_v5)
-- ==== Cross.lean ====
abbrev S16384x1024 : Shape := ⟨2, ![16384, 1024]⟩
abbrev S16384x768 : Shape := ⟨2, ![16384, 768]⟩
abbrev S16384x256 : Shape := ⟨2, ![16384, 256]⟩
abbrev S2x256x256 : Shape := ⟨3, ![2, 256, 256]⟩
abbrev S1024x1024 : Shape := ⟨2, ![1024, 1024]⟩
abbrev S1024 : Shape := ⟨1, ![1024]⟩
abbrev S4x1024x2816 : Shape := ⟨3, ![4, 1024, 2816]⟩
abbrev S4x2816x1024 : Shape := ⟨3, ![4, 2816, 1024]⟩
abbrev S768x1024 : Shape := ⟨2, ![768, 1024]⟩
abbrev S256x1024 : Shape := ⟨2, ![256, 1024]⟩
abbrev S1x1024 : Shape := ⟨2, ![1, 1024]⟩
abbrev S512x1024 : Shape := ⟨2, ![512, 1024]⟩
abbrev S512x768 : Shape := ⟨2, ![512, 768]⟩
abbrev S512x256 : Shape := ⟨2, ![512, 256]⟩
abbrev S1x256x256 : Shape := ⟨3, ![1, 256, 256]⟩
abbrev S1x1024x2816 : Shape := ⟨3, ![1, 1024, 2816]⟩
abbrev S1x2816x1024 : Shape := ⟨3, ![1, 2816, 1024]⟩
abbrev S512x2816 : Shape := ⟨2, ![512, 2816]⟩
abbrev S1x256 : Shape := ⟨2, ![1, 256]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 18
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x768, .f32⟩
  | .hbm, ⟨2, _⟩ => ⟨S16384x256, .f32⟩
  | .hbm, ⟨3, _⟩ => ⟨S2x256x256, .f32⟩
  | .hbm, ⟨4, _⟩ => ⟨S2x256x256, .f32⟩
  | .hbm, ⟨5, _⟩ => ⟨S1024x1024, .f32⟩
  | .hbm, ⟨6, _⟩ => ⟨S1024, .f32⟩
  | .hbm, ⟨7, _⟩ => ⟨S4x1024x2816, .bf16⟩
  | .hbm, ⟨8, _⟩ => ⟨S4x1024x2816, .bf16⟩
  | .hbm, ⟨9, _⟩ => ⟨S4x2816x1024, .bf16⟩
  | .hbm, ⟨10, _⟩ => ⟨S1024, .f32⟩
  | .hbm, ⟨11, _⟩ => ⟨S768x1024, .f32⟩
  | .hbm, ⟨12, _⟩ => ⟨S768x1024, .bf16⟩
  | .hbm, ⟨13, _⟩ => ⟨S256x1024, .f32⟩
  | .hbm, ⟨14, _⟩ => ⟨S256x1024, .bf16⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x768, .f32⟩
  | .local _ .vmem, ⟨3, _⟩ => ⟨S512x768, .f32⟩
  | .local _ .vmem, ⟨4, _⟩ => ⟨S512x256, .f32⟩
  | .local _ .vmem, ⟨5, _⟩ => ⟨S512x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S768x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024x2816, .bf16⟩
  | .local _ .vmem, ⟨14, _⟩ => ⟨S1x1024x2816, .bf16⟩
  | .local _ .vmem, ⟨15, _⟩ => ⟨S1x2816x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== CrossRefIdeal.lean ====
abbrev S16384x1024 : Shape := ⟨2, ![16384, 1024]⟩
abbrev S16384x768 : Shape := ⟨2, ![16384, 768]⟩
abbrev S16384x256 : Shape := ⟨2, ![16384, 256]⟩
abbrev S2x256x256 : Shape := ⟨3, ![2, 256, 256]⟩
abbrev S1024x1024 : Shape := ⟨2, ![1024, 1024]⟩
abbrev S1024 : Shape := ⟨1, ![1024]⟩
abbrev S4x1024x2816 : Shape := ⟨3, ![4, 1024, 2816]⟩
abbrev S4x2816x1024 : Shape := ⟨3, ![4, 2816, 1024]⟩
abbrev S2x8192x256 : Shape := ⟨3, ![2, 8192, 256]⟩
abbrev S2x256x4x64 : Shape := ⟨4, ![2, 256, 4, 64]⟩
abbrev S2x8192x4x64 : Shape := ⟨4, ![2, 8192, 4, 64]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x64x8192 : Shape := ⟨4, ![2, 4, 64, 8192]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 98
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x768, .f32⟩
  | .hbm, ⟨2, _⟩ => ⟨S16384x256, .f32⟩
  | .hbm, ⟨3, _⟩ => ⟨S2x256x256, .f32⟩
  | .hbm, ⟨4, _⟩ => ⟨S2x256x256, .f32⟩
  | .hbm, ⟨5, _⟩ => ⟨S1024x1024, .f32⟩
  | .hbm, ⟨6, _⟩ => ⟨S1024, .f32⟩
  | .hbm, ⟨7, _⟩ => ⟨S4x1024x2816, .bf16⟩
  | .hbm, ⟨8, _⟩ => ⟨S4x1024x2816, .bf16⟩
  | .hbm, ⟨9, _⟩ => ⟨S4x2816x1024, .bf16⟩
  | .hbm, ⟨10, _⟩ => ⟨S1024, .f32⟩
  | .hbm, ⟨11, _⟩ => ⟨S2x8192x256, .f32⟩
  | .hbm, ⟨12, _⟩ => ⟨S2x256x4x64, .f32⟩
  | .hbm, ⟨13, _⟩ => ⟨S2x256x4x64, .f32⟩
  | .hbm, ⟨14, _⟩ => ⟨S2x8192x4x64, .f32⟩
  | .hbm, ⟨15, _⟩ => ⟨S2x4x8192x256, .f32⟩
  | .hbm, ⟨16, _⟩ => ⟨S_, .f32⟩
  | .hbm, ⟨17, _⟩ => ⟨S2x4x8192x256, .f32⟩
  | .hbm, ⟨18, _⟩ => ⟨S2x4x8192x256, .f32⟩
  | .hbm, ⟨19, _⟩ => ⟨S_, .f32⟩
  | .hbm, ⟨20, _⟩ => ⟨S2x4x8192, .f32⟩
  | .hbm, ⟨21, _⟩ => ⟨S_, .f32⟩
  | .hbm, ⟨22, _⟩ => ⟨S2x4x8192, .f32⟩
  | .hbm, ⟨23, _⟩ => ⟨S2x4x8192, .f32⟩
  | .hbm, ⟨24, _⟩ => ⟨S2x4x8192x1, .f32⟩
  | .hbm, ⟨25, _⟩ => ⟨S2x4x8192x256, .f32⟩
  | .hbm, ⟨26, _⟩ => ⟨S2x4x8192x256, .f32⟩
  | .hbm, ⟨27, _⟩ => ⟨S2x4x8192x256, .f32⟩
  | .hbm, ⟨28, _⟩ => ⟨S_, .f32⟩
  | .hbm, ⟨29, _⟩ => ⟨S2x4x8192, .f32⟩
  | .hbm, ⟨30, _⟩ => ⟨S2x4x8192x1, .f32⟩
  | .hbm, ⟨31, _⟩ => ⟨S2x4x8192x256, .f32⟩
  | .hbm, ⟨32, _⟩ => ⟨S2x4x8192x256, .f32⟩
  | .hbm, ⟨33, _⟩ => ⟨S2x4x64x8192, .f32⟩
  | .hbm, ⟨34, _⟩ => ⟨S2x8192x4x64, .f32⟩
  | .hbm, ⟨35, _⟩ => ⟨S2x8192x256, .f32⟩
  | .hbm, ⟨36, _⟩ => ⟨S16384x256, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S1x1024x2816, .bf16⟩
  | .hbm, ⟨41, _⟩ => ⟨S1024x2816, .bf16⟩
  | .hbm, ⟨42, _⟩ => ⟨S1024x2816, .f32⟩
  | .hbm, ⟨43, _⟩ => ⟨S1x1024x2816, .bf16⟩
  | .hbm, ⟨44, _⟩ => ⟨S1024x2816, .bf16⟩
  | .hbm, ⟨45, _⟩ => ⟨S1024x2816, .f32⟩
  | .hbm, ⟨46, _⟩ => ⟨S1x2816x1024, .bf16⟩
  | .hbm, ⟨47, _⟩ => ⟨S2816x1024, .bf16⟩
  | .hbm, ⟨48, _⟩ => ⟨S2816x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S16384x2816, .f32⟩
  | .hbm, ⟨66, _⟩ => ⟨S16384x2816, .f32⟩
  | .hbm, ⟨67, _⟩ => ⟨S16384x2816, .f32⟩
  | .hbm, ⟨68, _⟩ => ⟨S_, .f32⟩
  | .hbm, ⟨69, _⟩ => ⟨S16384x2816, .f32⟩
  | .hbm, ⟨70, _⟩ => ⟨S16384x2816, .f32⟩
  | .hbm, ⟨71, _⟩ => ⟨S_, .f32⟩
  | .hbm, ⟨72, _⟩ => ⟨S16384x2816, .f32⟩
  | .hbm, ⟨73, _⟩ => ⟨S16384x2816, .f32⟩
  | .hbm, ⟨74, _⟩ => ⟨S16384x2816, .f32⟩
  | .hbm, ⟨75, _⟩ => ⟨S16384x2816, .f32⟩
  | .hbm, ⟨76, _⟩ => ⟨S16384x2816, .f32⟩
  | .hbm, ⟨77, _⟩ => ⟨S16384x1024, .f32⟩
  | .hbm, ⟨78, _⟩ => ⟨S_, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384, .f32⟩
  | .hbm, ⟨85, _⟩ => ⟨S16384x1, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S16384x1, .f32⟩
  | .hbm, ⟨93, _⟩ => ⟨S16384x1024, .f32⟩
  | .hbm, ⟨94, _⟩ => ⟨S16384x1024, .f32⟩
  | .hbm, ⟨95, _⟩ => ⟨S1x1024, .f32⟩
  | .hbm, ⟨96, _⟩ => ⟨S16384x1024, .f32⟩
  | .hbm, ⟨97, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_6 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_7 : Ref sig .tc := ⟨.hbm, 83, rfl⟩
abbrev main_v56 : Ref sig .tc := ⟨.hbm, 84, rfl⟩
abbrev main_v57 : Ref sig .tc := ⟨.hbm, 85, rfl⟩
abbrev main_cst_8 : Ref sig .tc := ⟨.hbm, 86, rfl⟩
abbrev main_v58 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]
-- ==== Proj.lean ====
abbrev S16384x1024 : Shape := ⟨2, ![16384, 1024]⟩
abbrev S1024 : Shape := ⟨1, ![1024]⟩
abbrev S4x1024x2816 : Shape := ⟨3, ![4, 1024, 2816]⟩
abbrev S4x2816x1024 : Shape := ⟨3, ![4, 2816, 1024]⟩
abbrev S1024x1024 : Shape := ⟨2, ![1024, 1024]⟩
abbrev S1024x768 : Shape := ⟨2, ![1024, 768]⟩
abbrev S1024x256 : Shape := ⟨2, ![1024, 256]⟩
abbrev S1x1024 : Shape := ⟨2, ![1, 1024]⟩
abbrev S16384x768 : Shape := ⟨2, ![16384, 768]⟩
abbrev S16384x256 : Shape := ⟨2, ![16384, 256]⟩
abbrev S512x1024 : Shape := ⟨2, ![512, 1024]⟩
abbrev S1x1024x2816 : Shape := ⟨3, ![1, 1024, 2816]⟩
abbrev S1x2816x1024 : Shape := ⟨3, ![1, 2816, 1024]⟩
abbrev S512x768 : Shape := ⟨2, ![512, 768]⟩
abbrev S512x256 : Shape := ⟨2, ![512, 256]⟩
abbrev S512x2816 : Shape := ⟨2, ![512, 2816]⟩
abbrev S512 : Shape := ⟨1, ![512]⟩
abbrev S512x1 : Shape := ⟨2, ![512, 1]⟩
abbrev S1x1024x256 : Shape := ⟨3, ![1, 1024, 256]⟩
abbrev S2816x1024 : Shape := ⟨2, ![2816, 1024]⟩

abbrev nBuf : Space → Nat
  | .hbm => 16
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1024x2816, .bf16⟩
  | .hbm, ⟨3, _⟩ => ⟨S4x1024x2816, .bf16⟩
  | .hbm, ⟨4, _⟩ => ⟨S4x2816x1024, .bf16⟩
  | .hbm, ⟨5, _⟩ => ⟨S1024, .f32⟩
  | .hbm, ⟨6, _⟩ => ⟨S1024x1024, .f32⟩
  | .hbm, ⟨7, _⟩ => ⟨S1024x768, .f32⟩
  | .hbm, ⟨8, _⟩ => ⟨S1024x256, .f32⟩
  | .hbm, ⟨9, _⟩ => ⟨S1x1024, .f32⟩
  | .hbm, ⟨10, _⟩ => ⟨S1x1024, .f32⟩
  | .hbm, ⟨11, _⟩ => ⟨S1024x768, .bf16⟩
  | .hbm, ⟨12, _⟩ => ⟨S1024x256, .bf16⟩
  | .hbm, ⟨13, _⟩ => ⟨S16384x1024, .f32⟩
  | .hbm, ⟨14, _⟩ => ⟨S16384x768, .f32⟩
  | .hbm, ⟨15, _⟩ => ⟨S16384x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S1024x768, .bf16⟩
  | .local _ .vmem, ⟨8, _⟩ => ⟨S1024x256, .bf16⟩
  | .local _ .vmem, ⟨9, _⟩ => ⟨S512x1024, .f32⟩
  | .local _ .vmem, ⟨10, _⟩ => ⟨S512x1024, .f32⟩
  | .local _ .vmem, ⟨11, _⟩ => ⟨S512x768, .f32⟩
  | .local _ .vmem, ⟨12, _⟩ => ⟨S512x768, .f32⟩
  | .local _ .vmem, ⟨13, _⟩ => ⟨S512x256, .f32⟩
  | .local _ .vmem, ⟨14, _⟩ => ⟨S512x256, .f32⟩
  | .local _ .vmem, ⟨15, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ProjRefIdeal.lean ====
abbrev S16384x1024 : Shape := ⟨2, ![16384, 1024]⟩
abbrev S1024 : Shape := ⟨1, ![1024]⟩
abbrev S4x1024x2816 : Shape := ⟨3, ![4, 1024, 2816]⟩
abbrev S4x2816x1024 : Shape := ⟨3, ![4, 2816, 1024]⟩
abbrev S1024x1024 : Shape := ⟨2, ![1024, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S16384x768 : Shape := ⟨2, ![16384, 768]⟩
abbrev S16384x256 : Shape := ⟨2, ![16384, 256]⟩

abbrev nBuf : Space → Nat
  | .hbm => 68
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1024x2816, .bf16⟩
  | .hbm, ⟨3, _⟩ => ⟨S4x1024x2816, .bf16⟩
  | .hbm, ⟨4, _⟩ => ⟨S4x2816x1024, .bf16⟩
  | .hbm, ⟨5, _⟩ => ⟨S1024, .f32⟩
  | .hbm, ⟨6, _⟩ => ⟨S1024x1024, .f32⟩
  | .hbm, ⟨7, _⟩ => ⟨S1x1024x2816, .bf16⟩
  | .hbm, ⟨8, _⟩ => ⟨S1024x2816, .bf16⟩
  | .hbm, ⟨9, _⟩ => ⟨S1024x2816, .f32⟩
  | .hbm, ⟨10, _⟩ => ⟨S1x1024x2816, .bf16⟩
  | .hbm, ⟨11, _⟩ => ⟨S1024x2816, .bf16⟩
  | .hbm, ⟨12, _⟩ => ⟨S1024x2816, .f32⟩
  | .hbm, ⟨13, _⟩ => ⟨S1x2816x1024, .bf16⟩
  | .hbm, ⟨14, _⟩ => ⟨S2816x1024, .bf16⟩
  | .hbm, ⟨15, _⟩ => ⟨S2816x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S_, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x768, .f32⟩
  | .hbm, ⟨67, _⟩ => ⟨S16384x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S4x1024x2816 : Shape := ⟨3, ![4, 1024, 2816]⟩
abbrev S4x2816x1024 : Shape := ⟨3, ![4, 2816, 1024]⟩
abbrev S1x1024 : Shape := ⟨2, ![1, 1024]⟩
abbrev S512x1024 : Shape := ⟨2, ![512, 1024]⟩
abbrev S1x1024x2816 : Shape := ⟨3, ![1, 1024, 2816]⟩
abbrev S1x2816x1024 : Shape := ⟨3, ![1, 2816, 1024]⟩
abbrev S512x2816 : Shape := ⟨2, ![512, 2816]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S2816x1024 : Shape := ⟨2, ![2816, 1024]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1024x2816, .bf16⟩
  | .hbm, ⟨3, _⟩ => ⟨S4x1024x2816, .bf16⟩
  | .hbm, ⟨4, _⟩ => ⟨S4x2816x1024, .bf16⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16384x1024 : Shape := ⟨2, ![16384, 1024]⟩
abbrev S1024 : Shape := ⟨1, ![1024]⟩
abbrev S4x1024x2816 : Shape := ⟨3, ![4, 1024, 2816]⟩
abbrev S4x2816x1024 : Shape := ⟨3, ![4, 2816, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1024x2816, .bf16⟩
  | .hbm, ⟨3, _⟩ => ⟨S4x1024x2816, .bf16⟩
  | .hbm, ⟨4, _⟩ => ⟨S4x2816x1024, .bf16⟩
  | .hbm, ⟨5, _⟩ => ⟨S1x1024x2816, .bf16⟩
  | .hbm, ⟨6, _⟩ => ⟨S1024x2816, .bf16⟩
  | .hbm, ⟨7, _⟩ => ⟨S1024x2816, .f32⟩
  | .hbm, ⟨8, _⟩ => ⟨S1x1024x2816, .bf16⟩
  | .hbm, ⟨9, _⟩ => ⟨S1024x2816, .bf16⟩
  | .hbm, ⟨10, _⟩ => ⟨S1024x2816, .f32⟩
  | .hbm, ⟨11, _⟩ => ⟨S1x2816x1024, .bf16⟩
  | .hbm, ⟨12, _⟩ => ⟨S2816x1024, .bf16⟩
  | .hbm, ⟨13, _⟩ => ⟨S2816x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Kv.lean ====
abbrev S512x1024 : Shape := ⟨2, ![512, 1024]⟩
abbrev S1024 : Shape := ⟨1, ![1024]⟩
abbrev S1024x512 : Shape := ⟨2, ![1024, 512]⟩
abbrev S1024x256 : Shape := ⟨2, ![1024, 256]⟩
abbrev S1x1024 : Shape := ⟨2, ![1, 1024]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x512, .f32⟩
  | .hbm, ⟨3, _⟩ => ⟨S1024x256, .f32⟩
  | .hbm, ⟨4, _⟩ => ⟨S1024x256, .f32⟩
  | .hbm, ⟨5, _⟩ => ⟨S1x1024, .f32⟩
  | .hbm, ⟨6, _⟩ => ⟨S1024x256, .bf16⟩
  | .hbm, ⟨7, _⟩ => ⟨S1024x256, .bf16⟩
  | .hbm, ⟨8, _⟩ => ⟨S512x256, .f32⟩
  | .hbm, ⟨9, _⟩ => ⟨S512x256, .f32⟩
  | .local _ .vmem, ⟨0, _⟩ => ⟨S512x1024, .f32⟩
  | .local _ .vmem, ⟨1, _⟩ => ⟨S1x1024, .f32⟩
  | .local _ .vmem, ⟨2, _⟩ => ⟨S1024x256, .bf16⟩
  | .local _ .vmem, ⟨3, _⟩ => ⟨S1024x256, .bf16⟩
  | .local _ .vmem, ⟨4, _⟩ => ⟨S512x256, .f32⟩
  | .local _ .vmem, ⟨5, _⟩ => ⟨S512x256, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== KvRefIdeal.lean ====
abbrev S512x1024 : Shape := ⟨2, ![512, 1024]⟩
abbrev S1024 : Shape := ⟨1, ![1024]⟩
abbrev S1024x512 : Shape := ⟨2, ![1024, 512]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x512 : Shape := ⟨2, ![512, 512]⟩
abbrev S512x256 : Shape := ⟨2, ![512, 256]⟩

abbrev nBuf : Space → Nat
  | .hbm => 22
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x512, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S1x1024, .f32⟩
  | .hbm, ⟨17, _⟩ => ⟨S512x1024, .f32⟩
  | .hbm, ⟨18, _⟩ => ⟨S512x1024, .f32⟩
  | .hbm, ⟨19, _⟩ => ⟨S512x512, .f32⟩
  | .hbm, ⟨20, _⟩ => ⟨S512x256, .f32⟩
  | .hbm, ⟨21, _⟩ => ⟨S512x256, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Last.lean ====
abbrev S512x1024 : Shape := ⟨2, ![512, 1024]⟩
abbrev S1024 : Shape := ⟨1, ![1024]⟩
abbrev S4x1024x2816 : Shape := ⟨3, ![4, 1024, 2816]⟩
abbrev S4x2816x1024 : Shape := ⟨3, ![4, 2816, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S512x2816 : Shape := ⟨2, ![512, 2816]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S2816x1024 : Shape := ⟨2, ![2816, 1024]⟩

abbrev nBuf : Space → Nat
  | .hbm => 9
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S4x1024x2816, .bf16⟩
  | .hbm, ⟨3, _⟩ => ⟨S4x1024x2816, .bf16⟩
  | .hbm, ⟨4, _⟩ => ⟨S4x2816x1024, .bf16⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x2816x1024, .bf16⟩
  | .local _ .vmem, ⟨5, _⟩ => ⟨S1x1024, .f32⟩
  | .local _ .vmem, ⟨6, _⟩ => ⟨S512x1024, .f32⟩
  | .local _ .vmem, ⟨7, _⟩ => ⟨S512x2816, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== LastRefIdeal.lean ====
abbrev S512x1024 : Shape := ⟨2, ![512, 1024]⟩
abbrev S1024 : Shape := ⟨1, ![1024]⟩
abbrev S4x1024x2816 : Shape := ⟨3, ![4, 1024, 2816]⟩
abbrev S4x2816x1024 : Shape := ⟨3, ![4, 2816, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x2816 : Shape := ⟨2, ![512, 2816]⟩

abbrev nBuf : Space → Nat
  | .hbm => 64
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S4x1024x2816, .bf16⟩
  | .hbm, ⟨3, _⟩ => ⟨S4x1024x2816, .bf16⟩
  | .hbm, ⟨4, _⟩ => ⟨S4x2816x1024, .bf16⟩
  | .hbm, ⟨5, _⟩ => ⟨S1024, .f32⟩
  | .hbm, ⟨6, _⟩ => ⟨S1x1024x2816, .bf16⟩
  | .hbm, ⟨7, _⟩ => ⟨S1024x2816, .bf16⟩
  | .hbm, ⟨8, _⟩ => ⟨S1024x2816, .f32⟩
  | .hbm, ⟨9, _⟩ => ⟨S1x1024x2816, .bf16⟩
  | .hbm, ⟨10, _⟩ => ⟨S1024x2816, .bf16⟩
  | .hbm, ⟨11, _⟩ => ⟨S1024x2816, .f32⟩
  | .hbm, ⟨12, _⟩ => ⟨S1x2816x1024, .bf16⟩
  | .hbm, ⟨13, _⟩ => ⟨S2816x1024, .bf16⟩
  | .hbm, ⟨14, _⟩ => ⟨S2816x1024, .f32⟩
  | .hbm, ⟨15, _⟩ => ⟨S512x1024, .f32⟩
  | .hbm, ⟨16, _⟩ => ⟨S_, .f32⟩
  | .hbm, ⟨17, _⟩ => ⟨S512, .f32⟩
  | .hbm, ⟨18, _⟩ => ⟨S512x1, .f32⟩
  | .hbm, ⟨19, _⟩ => ⟨S_, .f32⟩
  | .hbm, ⟨20, _⟩ => ⟨S512x1, .f32⟩
  | .hbm, ⟨21, _⟩ => ⟨S512x1, .f32⟩
  | .hbm, ⟨22, _⟩ => ⟨S_, .f32⟩
  | .hbm, ⟨23, _⟩ => ⟨S512x1, .f32⟩
  | .hbm, ⟨24, _⟩ => ⟨S512x1, .f32⟩
  | .hbm, ⟨25, _⟩ => ⟨S512x1, .f32⟩
  | .hbm, ⟨26, _⟩ => ⟨S512x1024, .f32⟩
  | .hbm, ⟨27, _⟩ => ⟨S512x1024, .f32⟩
  | .hbm, ⟨28, _⟩ => ⟨S1x1024, .f32⟩
  | .hbm, ⟨29, _⟩ => ⟨S512x1024, .f32⟩
  | .hbm, ⟨30, _⟩ => ⟨S512x1024, .f32⟩
  | .hbm, ⟨31, _⟩ => ⟨S512x2816, .f32⟩
  | .hbm, ⟨32, _⟩ => ⟨S512x2816, .f32⟩
  | .hbm, ⟨33, _⟩ => ⟨S512x2816, .f32⟩
  | .hbm, ⟨34, _⟩ => ⟨S_, .f32⟩
  | .hbm, ⟨35, _⟩ => ⟨S512x2816, .f32⟩
  | .hbm, ⟨36, _⟩ => ⟨S512x2816, .f32⟩
  | .hbm, ⟨37, _⟩ => ⟨S_, .f32⟩
  | .hbm, ⟨38, _⟩ => ⟨S512x2816, .f32⟩
  | .hbm, ⟨39, _⟩ => ⟨S512x2816, .f32⟩
  | .hbm, ⟨40, _⟩ => ⟨S512x2816, .f32⟩
  | .hbm, ⟨41, _⟩ => ⟨S512x2816, .f32⟩
  | .hbm, ⟨42, _⟩ => ⟨S512x2816, .f32⟩
  | .hbm, ⟨43, _⟩ => ⟨S512x1024, .f32⟩
  | .hbm, ⟨44, _⟩ => ⟨S_, .f32⟩
  | .hbm, ⟨45, _⟩ => ⟨S512x1024, .f32⟩
  | .hbm, ⟨46, _⟩ => ⟨S512x1024, .f32⟩
  | .hbm, ⟨47, _⟩ => ⟨S512x1024, .f32⟩
  | .hbm, ⟨48, _⟩ => ⟨S512x1024, .f32⟩
  | .hbm, ⟨49, _⟩ => ⟨S_, .f32⟩
  | .hbm, ⟨50, _⟩ => ⟨S512, .f32⟩
  | .hbm, ⟨51, _⟩ => ⟨S512x1, .f32⟩
  | .hbm, ⟨52, _⟩ => ⟨S_, .f32⟩
  | .hbm, ⟨53, _⟩ => ⟨S512x1, .f32⟩
  | .hbm, ⟨54, _⟩ => ⟨S512x1, .f32⟩
  | .hbm, ⟨55, _⟩ => ⟨S_, .f32⟩
  | .hbm, ⟨56, _⟩ => ⟨S512x1, .f32⟩
  | .hbm, ⟨57, _⟩ => ⟨S512x1, .f32⟩
  | .hbm, ⟨58, _⟩ => ⟨S512x1, .f32⟩
  | .hbm, ⟨59, _⟩ => ⟨S512x1024, .f32⟩
  | .hbm, ⟨60, _⟩ => ⟨S512x1024, .f32⟩
  | .hbm, ⟨61, _⟩ => ⟨S1x1024, .f32⟩
  | .hbm, ⟨62, _⟩ => ⟨S512x1024, .f32⟩
  | .hbm, ⟨63, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== FoxS.lean ====
abbrev S512x1024 : Shape := ⟨2, ![512, 1024]⟩
abbrev S1024 : Shape := ⟨1, ![1024]⟩
abbrev S1024x2572 : Shape := ⟨2, ![1024, 2572]⟩
abbrev S12 : Shape := ⟨1, ![12]⟩
abbrev S1024x768 : Shape := ⟨2, ![1024, 768]⟩
abbrev S1024x12 : Shape := ⟨2, ![1024, 12]⟩
abbrev S_ : Shape := ⟨0, ![]⟩
abbrev S1024x128 : Shape := ⟨2, ![1024, 128]⟩
abbrev S1024x256 : Shape := ⟨2, ![1024, 256]⟩
abbrev S128 : Shape := ⟨1, ![128]⟩
abbrev S1x128 : Shape := ⟨2, ![1, 128]⟩
abbrev S1024x16 : Shape := ⟨2, ![1024, 16]⟩
abbrev S16x1024 : Shape := ⟨2, ![16, 1024]⟩
abbrev S1x16 : Shape := ⟨2, ![1, 16]⟩
abbrev S16 : Shape := ⟨1, ![16]⟩
abbrev S16x1 : Shape := ⟨2, ![16, 1]⟩
abbrev S1x1024 : Shape := ⟨2, ![1, 1024]⟩
abbrev S512x768 : Shape := ⟨2, ![512, 768]⟩
abbrev S512x256 : Shape := ⟨2, ![512, 256]⟩
abbrev S512x128 : Shape := ⟨2, ![512, 128]⟩
abbrev S16x512 : Shape := ⟨2, ![16, 512]⟩
abbrev S512 : Shape := ⟨1, ![512]⟩
abbrev S512x1 : Shape := ⟨2, ![512, 1]⟩

abbrev nBuf : Space → Nat
  | .hbm => 34
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x2572, .f32⟩
  | .hbm, ⟨3, _⟩ => ⟨S12, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x12, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x256, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S1024x16, .f32⟩
  | .hbm, ⟨17, _⟩ => ⟨S16x1024, .f32⟩
  | .hbm, ⟨18, _⟩ => ⟨S1x16, .f32⟩
  | .hbm, ⟨19, _⟩ => ⟨S16, .f32⟩
  | .hbm, ⟨20, _⟩ => ⟨S16x1, .f32⟩
  | .hbm, ⟨21, _⟩ => ⟨S1x1024, .f32⟩
  | .hbm, ⟨22, _⟩ => ⟨S1024x768, .bf16⟩
  | .hbm, ⟨23, _⟩ => ⟨S1024x768, .bf16⟩
  | .hbm, ⟨24, _⟩ => ⟨S1024x768, .bf16⟩
  | .hbm, ⟨25, _⟩ => ⟨S1024x256, .bf16⟩
  | .hbm, ⟨26, _⟩ => ⟨S1024x128, .bf16⟩
  | .hbm, ⟨27, _⟩ => ⟨S16x1024, .bf16⟩
  | .hbm, ⟨28, _⟩ => ⟨S512x768, .f32⟩
  | .hbm, ⟨29, _⟩ => ⟨S512x768, .f32⟩
  | .hbm, ⟨30, _⟩ => ⟨S512x768, .f32⟩
  | .hbm, ⟨31, _⟩ => ⟨S512x256, .f32⟩
  | .hbm, ⟨32, _⟩ => ⟨S512x128, .f32⟩
  | .hbm, ⟨33, _⟩ => ⟨S16x512, .f32⟩
  | .local _ .vmem, ⟨0, _⟩ => ⟨S512x1024, .f32⟩
  | .local _ .vmem, ⟨1, _⟩ => ⟨S1x1024, .f32⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x256, .bf16⟩
  | .local _ .vmem, ⟨6, _⟩ => ⟨S1024x128, .bf16⟩
  | .local _ .vmem, ⟨7, _⟩ => ⟨S16x1024, .bf16⟩
  | .local _ .vmem, ⟨8, _⟩ => ⟨S1x128, .f32⟩
  | .local _ .vmem, ⟨9, _⟩ => ⟨S16x1, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x256, .f32⟩
  | .local _ .vmem, ⟨14, _⟩ => ⟨S512x128, .f32⟩
  | .local _ .vmem, ⟨15, _⟩ => ⟨S16x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev main_v20_3 : Ref sig .tc := ⟨.hbm, 31, rfl⟩
abbrev main_v20_4 : Ref sig .tc := ⟨.hbm, 32, rfl⟩
abbrev main_v20_5 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S16x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== FoxSRefIdeal.lean ====
abbrev S512x1024 : Shape := ⟨2, ![512, 1024]⟩
abbrev S1024 : Shape := ⟨1, ![1024]⟩
abbrev S1024x2572 : Shape := ⟨2, ![1024, 2572]⟩
abbrev S12 : Shape := ⟨1, ![12]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x2572 : Shape := ⟨2, ![512, 2572]⟩
abbrev S512x12 : Shape := ⟨2, ![512, 12]⟩
abbrev S1x12 : Shape := ⟨2, ![1, 12]⟩
abbrev S512x128 : Shape := ⟨2, ![512, 128]⟩
abbrev S512x768 : Shape := ⟨2, ![512, 768]⟩
abbrev S512x256 : Shape := ⟨2, ![512, 256]⟩
abbrev S512x16 : Shape := ⟨2, ![512, 16]⟩
abbrev S16x512 : Shape := ⟨2, ![16, 512]⟩

abbrev nBuf : Space → Nat
  | .hbm => 53
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x2572, .f32⟩
  | .hbm, ⟨3, _⟩ => ⟨S12, .f32⟩
  | .hbm, ⟨4, _⟩ => ⟨S512x1024, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x1024, .f32⟩
  | .hbm, ⟨16, _⟩ => ⟨S512x1024, .f32⟩
  | .hbm, ⟨17, _⟩ => ⟨S1x1024, .f32⟩
  | .hbm, ⟨18, _⟩ => ⟨S512x1024, .f32⟩
  | .hbm, ⟨19, _⟩ => ⟨S512x1024, .f32⟩
  | .hbm, ⟨20, _⟩ => ⟨S512x2572, .f32⟩
  | .hbm, ⟨21, _⟩ => ⟨S512x12, .f32⟩
  | .hbm, ⟨22, _⟩ => ⟨S1x12, .f32⟩
  | .hbm, ⟨23, _⟩ => ⟨S512x12, .f32⟩
  | .hbm, ⟨24, _⟩ => ⟨S512x12, .f32⟩
  | .hbm, ⟨25, _⟩ => ⟨S_, .i32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S512x128, .i1⟩
  | .hbm, ⟨35, _⟩ => ⟨S512x128, .f32⟩
  | .hbm, ⟨36, _⟩ => ⟨S512x128, .f32⟩
  | .hbm, ⟨37, _⟩ => ⟨S512x128, .f32⟩
  | .hbm, ⟨38, _⟩ => ⟨S512x128, .f32⟩
  | .hbm, ⟨39, _⟩ => ⟨S512x128, .f32⟩
  | .hbm, ⟨40, _⟩ => ⟨S512x128, .f32⟩
  | .hbm, ⟨41, _⟩ => ⟨S512x128, .f32⟩
  | .hbm, ⟨42, _⟩ => ⟨S512x128, .f32⟩
  | .hbm, ⟨43, _⟩ => ⟨S512x128, .f32⟩
  | .hbm, ⟨44, _⟩ => ⟨S512x768, .f32⟩
  | .hbm, ⟨45, _⟩ => ⟨S_, .f32⟩
  | .hbm, ⟨46, _⟩ => ⟨S512x768, .f32⟩
  | .hbm, ⟨47, _⟩ => ⟨S512x768, .f32⟩
  | .hbm, ⟨48, _⟩ => ⟨S512x768, .f32⟩
  | .hbm, ⟨49, _⟩ => ⟨S512x768, .f32⟩
  | .hbm, ⟨50, _⟩ => ⟨S512x256, .f32⟩
  | .hbm, ⟨51, _⟩ => ⟨S512x16, .f32⟩
  | .hbm, ⟨52, _⟩ => ⟨S16x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_v18 : Ref sig .tc := ⟨.hbm, 27, rfl⟩
abbrev main_call1_v0 : Ref sig .tc := ⟨.hbm, 28, rfl⟩
abbrev main_call1_call0_cst : Ref sig .tc := ⟨.hbm, 29, rfl⟩
abbrev main_call1_call0_v0 : Ref sig .tc := ⟨.hbm, 30, rfl⟩
abbrev main_call1_call0_v1 : Ref sig .tc := ⟨.hbm, 31, rfl⟩
abbrev main_call1_call0_v2 : Ref sig .tc := ⟨.hbm, 32, rfl⟩
abbrev main_call1_call0_v3 : Ref sig .tc := ⟨.hbm, 33, rfl⟩
abbrev main_call1_call0_v4 : Ref sig .tc := ⟨.hbm, 34, rfl⟩
abbrev main_call1_call0_v5 : Ref sig .tc := ⟨.hbm, 35, rfl⟩
abbrev main_call1_call0_v6 : Ref sig .tc := ⟨.hbm, 36, rfl⟩
abbrev main_call1_call0_v7 : Ref sig .tc := ⟨.hbm, 37, rfl⟩
abbrev main_call1_call0_v8 : Ref sig .tc := ⟨.hbm, 38, rfl⟩
abbrev main_call1_call0_v9 : Ref sig .tc := ⟨.hbm, 39, rfl⟩
abbrev main_call1_call0_v10 : Ref sig .tc := ⟨.hbm, 40, rfl⟩
abbrev main_call1_call0_v11 : Ref sig .tc := ⟨.hbm, 41, rfl⟩
abbrev main_call1_v1 : Ref sig .tc := ⟨.hbm, 42, rfl⟩
abbrev main_v19 : Ref sig .tc := ⟨.hbm, 43, rfl⟩
abbrev main_v20 : Ref sig .tc := ⟨.hbm, 44, rfl⟩
abbrev main_cst_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩

abbrev nD : Nat := 1
abbrev τ : Topo := Topo.v7x

variable {F : FTy → Type} [FloatOps F]
-- ==== S5.lean ====
abbrev S4x128x768 : Shape := ⟨3, ![4, 128, 768]⟩
abbrev S128x3072 : Shape := ⟨2, ![128, 3072]⟩
abbrev S768x64 : Shape := ⟨2, ![768, 64]⟩
abbrev S1x3072 : Shape := ⟨2, ![1, 3072]⟩
abbrev S48x16x64 : Shape := ⟨3, ![48, 16, 64]⟩
abbrev S768 : Shape := ⟨1, ![768]⟩
abbrev S768x1536 : Shape := ⟨2, ![768, 1536]⟩
abbrev S16x16 : Shape := ⟨2, ![16, 16]⟩
abbrev S_ : Shape := ⟨0, ![]⟩
abbrev S3x16x16x64 : Shape := ⟨4, ![3, 16, 16, 64]⟩
abbrev S3x16x16x1x64 : Shape := ⟨5, ![3, 16, 16, 1, 64]⟩
abbrev S1x16x1x16x1 : Shape := ⟨5, ![1, 16, 1, 16, 1]⟩
abbrev S3x16x16x16x64 : Shape := ⟨5, ![3, 16, 16, 16, 64]⟩
abbrev S3x256x1024 : Shape := ⟨3, ![3, 256, 1024]⟩
abbrev S3x256x2048 : Shape := ⟨3, ![3, 256, 2048]⟩
abbrev S3x16x64x16 : Shape := ⟨4, ![3, 16, 64, 16]⟩
abbrev S3x16x64x1x16 : Shape := ⟨5, ![3, 16, 64, 1, 16]⟩
abbrev S3x16x64x16x16 : Shape := ⟨5, ![3, 16, 64, 16, 16]⟩
abbrev S3x1024x256 : Shape := ⟨3, ![3, 1024, 256]⟩
abbrev S2x3072 : Shape := ⟨2, ![2, 3072]⟩
abbrev S1x768 : Shape := ⟨2, ![1, 768]⟩
abbrev S1x128x768 : Shape := ⟨3, ![1, 128, 768]⟩
abbrev S128x768 : Shape := ⟨2, ![128, 768]⟩
abbrev S128x256 : Shape := ⟨2, ![128, 256]⟩
abbrev S1x256x2048 : Shape := ⟨3, ![1, 256, 2048]⟩
abbrev S256x2048 : Shape := ⟨2, ![256, 2048]⟩
abbrev S128x2048 : Shape := ⟨2, ![128, 2048]⟩
abbrev S128x1024 : Shape := ⟨2, ![128, 1024]⟩
abbrev S1x1024x256 : Shape := ⟨3, ![1, 1024, 256]⟩
abbrev S1024x256 : Shape := ⟨2, ![1024, 256]⟩
abbrev S128x1536 : Shape := ⟨2, ![128, 1536]⟩

abbrev nBuf : Space → Nat
  | .hbm => 58
  | .vmem => 14
  | .smem => 0
  | _ => 0

abbrev bufTy : (tb : Table) → Fin (tcTables nBuf tb) → BufTy
  | .hbm, ⟨0, _⟩ => ⟨S4x128x768, .f32⟩
  | .hbm, ⟨1, _⟩ => ⟨S128x3072, .f32⟩
  | .hbm, ⟨2, _⟩ => ⟨S128x3072, .f32⟩
  | .hbm, ⟨3, _⟩ => ⟨S768x64, .f32⟩
  | .hbm, ⟨4, _⟩ => ⟨S768x64, .f32⟩
  | .hbm, ⟨5, _⟩ => ⟨S1x3072, .f32⟩
  | .hbm, ⟨6, _⟩ => ⟨S1x3072, .f32⟩
  | .hbm, ⟨7, _⟩ => ⟨S48x16x64, .f32⟩
  | .hbm, ⟨8, _⟩ => ⟨S48x16x64, .f32⟩
  | .hbm, ⟨9, _⟩ => ⟨S768, .f32⟩
  | .hbm, ⟨10, _⟩ => ⟨S768x1536, .f32⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S16x16, .i32⟩
  | .hbm, ⟨15, _⟩ => ⟨S16x16, .i32⟩
  | .hbm, ⟨16, _⟩ => ⟨S16x16, .i1⟩
  | .hbm, ⟨17, _⟩ => ⟨S16x16, .f32⟩
  | .hbm, ⟨18, _⟩ => ⟨S3x16x16x64, .f32⟩
  | .hbm, ⟨19, _⟩ => ⟨S3x16x16x1x64, .f32⟩
  | .hbm, ⟨20, _⟩ => ⟨S1x16x1x16x1, .f32⟩
  | .hbm, ⟨21, _⟩ => ⟨S3x16x16x16x64, .f32⟩
  | .hbm, ⟨22, _⟩ => ⟨S3x16x16x16x64, .f32⟩
  | .hbm, ⟨23, _⟩ => ⟨S3x16x16x16x64, .f32⟩
  | .hbm, ⟨24, _⟩ => ⟨S3x256x1024, .f32⟩
  | .hbm, ⟨25, _⟩ => ⟨S3x16x16x64, .f32⟩
  | .hbm, ⟨26, _⟩ => ⟨S3x16x16x1x64, .f32⟩
  | .hbm, ⟨27, _⟩ => ⟨S1x16x1x16x1, .f32⟩
  | .hbm, ⟨28, _⟩ => ⟨S3x16x16x16x64, .f32⟩
  | .hbm, ⟨29, _⟩ => ⟨S3x16x16x16x64, .f32⟩
  | .hbm, ⟨30, _⟩ => ⟨S3x16x16x16x64, .f32⟩
  | .hbm, ⟨31, _⟩ => ⟨S3x256x1024, .f32⟩
  | .hbm, ⟨32, _⟩ => ⟨S3x256x2048, .f32⟩
  | .hbm, ⟨33, _⟩ => ⟨S3x256x2048, .bf16⟩
  | .hbm, ⟨34, _⟩ => ⟨S3x16x16x64, .f32⟩
  | .hbm, ⟨35, _⟩ => ⟨S3x16x64x16, .f32⟩
  | .hbm, ⟨36, _⟩ => ⟨S3x16x64x1x16, .f32⟩
  | .hbm, ⟨37, _⟩ => ⟨S1x16x1x16x1, .f32⟩
  | .hbm, ⟨38, _⟩ => ⟨S3x16x64x16x16, .f32⟩
  | .hbm, ⟨39, _⟩ => ⟨S3x16x64x16x16, .f32⟩
  | .hbm, ⟨40, _⟩ => ⟨S3x16x64x16x16, .f32⟩
  | .hbm, ⟨41, _⟩ => ⟨S3x1024x256, .f32⟩
  | .hbm, ⟨42, _⟩ => ⟨S3x1024x256, .bf16⟩
  | .hbm, ⟨43, _⟩ => ⟨S3x16x16x64, .f32⟩
  | .hbm, ⟨44, _⟩ => ⟨S3x16x64x16, .f32⟩
  | .hbm, ⟨45, _⟩ => ⟨S3x16x64x1x16, .f32⟩
  | .hbm, ⟨46, _⟩ => ⟨S1x16x1x16x1, .f32⟩
  | .hbm, ⟨47, _⟩ => ⟨S3x16x64x16x16, .f32⟩
  | .hbm, ⟨48, _⟩ => ⟨S3x16x64x16x16, .f32⟩
  | .hbm, ⟨49, _⟩ => ⟨S3x16x64x16x16, .f32⟩
  | .hbm, ⟨50, _⟩ => ⟨S3x1024x256, .f32⟩
  | .hbm, ⟨51, _⟩ => ⟨S3x1024x256, .bf16⟩
  | .hbm, ⟨52, _⟩ => ⟨S2x3072, .f32⟩
  | .hbm, ⟨53, _⟩ => ⟨S1x768, .f32⟩
  | .hbm, ⟨54, _⟩ => ⟨S768x1536, .bf16⟩
  | .hbm, ⟨55, _⟩ => ⟨S4x128x768, .f32⟩
  | .hbm, ⟨56, _⟩ => ⟨S128x3072, .f32⟩
  | .hbm, ⟨57, _⟩ => ⟨S128x3072, .f32⟩
  | .local _ .vmem, ⟨0, _⟩ => ⟨S4x128x768, .f32⟩
  | .local _ .vmem, ⟨1, _⟩ => ⟨S128x3072, .f32⟩
  | .local _ .vmem, ⟨2, _⟩ => ⟨S128x3072, .f32⟩
  | .local _ .vmem, ⟨3, _⟩ => ⟨S3x256x2048, .bf16⟩
  | .local _ .vmem, ⟨4, _⟩ => ⟨S3x1024x256, .bf16⟩
  | .local _ .vmem, ⟨5, _⟩ => ⟨S3x1024x256, .bf16⟩
  | .local _ .vmem, ⟨6, _⟩ => ⟨S1x768, .f32⟩
  | .local _ .vmem, ⟨7, _⟩ => ⟨S768x1536, .bf16⟩
  | .local _ .vmem, ⟨8, _⟩ => ⟨S2x3072, .f32⟩
  | .local _ .vmem, ⟨9, _⟩ => ⟨S4x128x768, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | _, _ => ⟨S4x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43_0 : Ref sig .tc := ⟨.hbm, 55, rfl⟩
abbrev main_v43_1 : Ref sig .tc := ⟨.hbm, 56, rfl⟩
abbrev main_v43_2 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S4x128x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x128x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== S5RefIdeal.lean ====
abbrev S4x128x768 : Shape := ⟨3, ![4, 128, 768]⟩
abbrev S128x3072 : Shape := ⟨2, ![128, 3072]⟩
abbrev S768x64 : Shape := ⟨2, ![768, 64]⟩
abbrev S1x3072 : Shape := ⟨2, ![1, 3072]⟩
abbrev S48x16x64 : Shape := ⟨3, ![48, 16, 64]⟩
abbrev S768 : Shape := ⟨1, ![768]⟩
abbrev S768x1536 : Shape := ⟨2, ![768, 1536]⟩
abbrev S4x128x48x16 : Shape := ⟨4, ![4, 128, 48, 16]⟩
abbrev S48x64 : Shape := ⟨2, ![48, 64]⟩
abbrev S48x64x4x128 : Shape := ⟨4, ![48, 64, 4, 128]⟩
abbrev S4x128x48x64 : Shape := ⟨4, ![4, 128, 48, 64]⟩
abbrev S128x48x64 : Shape := ⟨3, ![128, 48, 64]⟩
abbrev S1x48x64 : Shape := ⟨3, ![1, 48, 64]⟩
abbrev S1x128x48x64 : Shape := ⟨4, ![1, 128, 48, 64]⟩
abbrev S48x16x128 : Shape := ⟨3, ![48, 16, 128]⟩
abbrev S128x48x16 : Shape := ⟨3, ![128, 48, 16]⟩
abbrev S48x16 : Shape := ⟨2, ![48, 16]⟩
abbrev S1x128x48x16 : Shape := ⟨4, ![1, 128, 48, 16]⟩
abbrev S1x48x16 : Shape := ⟨3, ![1, 48, 16]⟩
abbrev S128x768 : Shape := ⟨2, ![128, 768]⟩
abbrev S_ : Shape := ⟨0, ![]⟩
abbrev S128x1536 : Shape := ⟨2, ![128, 1536]⟩
abbrev S1x128x768 : Shape := ⟨3, ![1, 128, 768]⟩

abbrev nBuf : Space → Nat
  | .hbm => 277
  | .vmem => 0
  | .smem => 0
  | _ => 0

abbrev hbmTy0_0 (i : Nat) : BufTy := match i % 128 with
  | 0 => ⟨S4x128x768, .f32⟩
  | 1 => ⟨S128x3072, .f32⟩
  | 2 => ⟨S128x3072, .f32⟩
  | 3 => ⟨S768x64, .f32⟩
  | 4 => ⟨S768x64, .f32⟩
  | 5 => ⟨S1x3072, .f32⟩
  | 6 => ⟨S1x3072, .f32⟩
  | 7 => ⟨S48x16x64, .f32⟩
  | 8 => ⟨S48x16x64, .f32⟩
  | 9 => ⟨S768, .f32⟩
  | 10 => ⟨S768x1536, .f32⟩
  | 11 => ⟨S4x128x48x16, .f32⟩
  | 12 => ⟨S48x64, .f32⟩
  | 13 => ⟨S48x64, .f32⟩
  | 14 => ⟨S48x16x64, .f32⟩
  | 15 => ⟨S48x64x4x128, .f32⟩
  | 16 => ⟨S4x128x48x64, .f32⟩
  | 17 => ⟨S48x16x64, .f32⟩
  | 18 => ⟨S48x64x4x128, .f32⟩
  | 19 => ⟨S4x128x48x64, .f32⟩
  | 20 => ⟨S128x48x64, .f32⟩
  | 21 => ⟨S128x48x64, .f32⟩
  | 22 => ⟨S1x48x64, .f32⟩
  | 23 => ⟨S128x48x64, .f32⟩
  | 24 => ⟨S128x48x64, .f32⟩
  | 25 => ⟨S1x48x64, .f32⟩
  | 26 => ⟨S128x48x64, .f32⟩
  | 27 => ⟨S128x48x64, .f32⟩
  | 28 => ⟨S128x48x64, .f32⟩
  | 29 => ⟨S1x128x48x64, .f32⟩
  | 30 => ⟨S128x48x64, .f32⟩
  | 31 => ⟨S128x48x64, .f32⟩
  | 32 => ⟨S1x48x64, .f32⟩
  | 33 => ⟨S128x48x64, .f32⟩
  | 34 => ⟨S128x48x64, .f32⟩
  | 35 => ⟨S1x48x64, .f32⟩
  | 36 => ⟨S128x48x64, .f32⟩
  | 37 => ⟨S128x48x64, .f32⟩
  | 38 => ⟨S128x48x64, .f32⟩
  | 39 => ⟨S1x128x48x64, .f32⟩
  | 40 => ⟨S128x48x64, .f32⟩
  | 41 => ⟨S128x48x64, .f32⟩
  | 42 => ⟨S48x16x128, .f32⟩
  | 43 => ⟨S128x48x16, .f32⟩
  | 44 => ⟨S48x16x128, .f32⟩
  | 45 => ⟨S128x48x16, .f32⟩
  | 46 => ⟨S128x48x16, .f32⟩
  | 47 => ⟨S48x16, .f32⟩
  | 48 => ⟨S1x128x48x16, .f32⟩
  | 49 => ⟨S128x48x16, .f32⟩
  | 50 => ⟨S1x48x16, .f32⟩
  | 51 => ⟨S128x48x16, .f32⟩
  | 52 => ⟨S128x48x16, .f32⟩
  | 53 => ⟨S128x48x16, .f32⟩
  | 54 => ⟨S128x768, .f32⟩
  | 55 => ⟨S128x768, .f32⟩
  | 56 => ⟨S128x768, .f32⟩
  | 57 => ⟨S_, .f32⟩
  | 58 => ⟨S128x768, .f32⟩
  | 59 => ⟨S128x768, .f32⟩
  | 60 => ⟨S128x768, .f32⟩
  | 61 => ⟨S_, .f32⟩
  | 62 => ⟨S128x768, .f32⟩
  | 63 => ⟨S128x768, .f32⟩
  | 64 => ⟨S128x768, .f32⟩
  | 65 => ⟨S_, .f32⟩
  | 66 => ⟨S128x768, .f32⟩
  | 67 => ⟨S128x768, .f32⟩
  | 68 => ⟨S_, .f32⟩
  | 69 => ⟨S128x768, .f32⟩
  | 70 => ⟨S128x768, .f32⟩
  | 71 => ⟨S128x768, .f32⟩
  | 72 => ⟨S128x1536, .f32⟩
  | 73 => ⟨S128x768, .f32⟩
  | 74 => ⟨S128x768, .f32⟩
  | 75 => ⟨S128x768, .f32⟩
  | 76 => ⟨S128x768, .f32⟩
  | 77 => ⟨S_, .f32⟩
  | 78 => ⟨S128x768, .f32⟩
  | 79 => ⟨S128x768, .f32⟩
  | 80 => ⟨S_, .f32⟩
  | 81 => ⟨S128x768, .f32⟩
  | 82 => ⟨S128x768, .f32⟩
  | 83 => ⟨S128x768, .f32⟩
  | 84 => ⟨S1x48x64, .f32⟩
  | 85 => ⟨S128x48x64, .f32⟩
  | 86 => ⟨S128x48x64, .f32⟩
  | 87 => ⟨S1x48x64, .f32⟩
  | 88 => ⟨S128x48x64, .f32⟩
  | 89 => ⟨S128x48x64, .f32⟩
  | 90 => ⟨S128x48x64, .f32⟩
  | 91 => ⟨S1x128x48x64, .f32⟩
  | 92 => ⟨S128x48x64, .f32⟩
  | 93 => ⟨S128x48x64, .f32⟩
  | 94 => ⟨S1x48x64, .f32⟩
  | 95 => ⟨S128x48x64, .f32⟩
  | 96 => ⟨S128x48x64, .f32⟩
  | 97 => ⟨S1x48x64, .f32⟩
  | 98 => ⟨S128x48x64, .f32⟩
  | 99 => ⟨S128x48x64, .f32⟩
  | 100 => ⟨S128x48x64, .f32⟩
  | 101 => ⟨S1x128x48x64, .f32⟩
  | 102 => ⟨S128x48x64, .f32⟩
  | 103 => ⟨S128x48x64, .f32⟩
  | 104 => ⟨S48x16x128, .f32⟩
  | 105 => ⟨S128x48x16, .f32⟩
  | 106 => ⟨S48x16x128, .f32⟩
  | 107 => ⟨S128x48x16, .f32⟩
  | 108 => ⟨S128x48x16, .f32⟩
  | 109 => ⟨S48x16, .f32⟩
  | 110 => ⟨S1x128x48x16, .f32⟩
  | 111 => ⟨S128x48x16, .f32⟩
  | 112 => ⟨S1x48x16, .f32⟩
  | 113 => ⟨S128x48x16, .f32⟩
  | 114 => ⟨S128x48x16, .f32⟩
  | 115 => ⟨S128x48x16, .f32⟩
  | 116 => ⟨S128x768, .f32⟩
  | 117 => ⟨S128x768, .f32⟩
  | 118 => ⟨S128x768, .f32⟩
  | 119 => ⟨S_, .f32⟩
  | 120 => ⟨S128x768, .f32⟩
  | 121 => ⟨S128x768, .f32⟩
  | 122 => ⟨S128x768, .f32⟩
  | 123 => ⟨S_, .f32⟩
  | 124 => ⟨S128x768, .f32⟩
  | 125 => ⟨S128x768, .f32⟩
  | 126 => ⟨S128x768, .f32⟩
  | 127 => ⟨S_, .f32⟩
  | _ => ⟨S4x128x768, .f32⟩

abbrev hbmTy0_1 (i : Nat) : BufTy := match i % 128 with
  | 0 => ⟨S128x768, .f32⟩
  | 1 => ⟨S128x768, .f32⟩
  | 2 => ⟨S_, .f32⟩
  | 3 => ⟨S128x768, .f32⟩
  | 4 => ⟨S128x768, .f32⟩
  | 5 => ⟨S128x768, .f32⟩
  | 6 => ⟨S128x1536, .f32⟩
  | 7 => ⟨S128x768, .f32⟩
  | 8 => ⟨S128x768, .f32⟩
  | 9 => ⟨S128x768, .f32⟩
  | 10 => ⟨S128x768, .f32⟩
  | 11 => ⟨S_, .f32⟩
  | 12 => ⟨S128x768, .f32⟩
  | 13 => ⟨S128x768, .f32⟩
  | 14 => ⟨S_, .f32⟩
  | 15 => ⟨S128x768, .f32⟩
  | 16 => ⟨S128x768, .f32⟩
  | 17 => ⟨S128x768, .f32⟩
  | 18 => ⟨S1x48x64, .f32⟩
  | 19 => ⟨S128x48x64, .f32⟩
  | 20 => ⟨S128x48x64, .f32⟩
  | 21 => ⟨S1x48x64, .f32⟩
  | 22 => ⟨S128x48x64, .f32⟩
  | 23 => ⟨S128x48x64, .f32⟩
  | 24 => ⟨S128x48x64, .f32⟩
  | 25 => ⟨S1x128x48x64, .f32⟩
  | 26 => ⟨S128x48x64, .f32⟩
  | 27 => ⟨S128x48x64, .f32⟩
  | 28 => ⟨S1x48x64, .f32⟩
  | 29 => ⟨S128x48x64, .f32⟩
  | 30 => ⟨S128x48x64, .f32⟩
  | 31 => ⟨S1x48x64, .f32⟩
  | 32 => ⟨S128x48x64, .f32⟩
  | 33 => ⟨S128x48x64, .f32⟩
  | 34 => ⟨S128x48x64, .f32⟩
  | 35 => ⟨S1x128x48x64, .f32⟩
  | 36 => ⟨S128x48x64, .f32⟩
  | 37 => ⟨S128x48x64, .f32⟩
  | 38 => ⟨S48x16x128, .f32⟩
  | 39 => ⟨S128x48x16, .f32⟩
  | 40 => ⟨S48x16x128, .f32⟩
  | 41 => ⟨S128x48x16, .f32⟩
  | 42 => ⟨S128x48x16, .f32⟩
  | 43 => ⟨S48x16, .f32⟩
  | 44 => ⟨S1x128x48x16, .f32⟩
  | 45 => ⟨S128x48x16, .f32⟩
  | 46 => ⟨S1x48x16, .f32⟩
  | 47 => ⟨S128x48x16, .f32⟩
  | 48 => ⟨S128x48x16, .f32⟩
  | 49 => ⟨S128x48x16, .f32⟩
  | 50 => ⟨S128x768, .f32⟩
  | 51 => ⟨S128x768, .f32⟩
  | 52 => ⟨S128x768, .f32⟩
  | 53 => ⟨S_, .f32⟩
  | 54 => ⟨S128x768, .f32⟩
  | 55 => ⟨S128x768, .f32⟩
  | 56 => ⟨S128x768, .f32⟩
  | 57 => ⟨S_, .f32⟩
  | 58 => ⟨S128x768, .f32⟩
  | 59 => ⟨S128x768, .f32⟩
  | 60 => ⟨S128x768, .f32⟩
  | 61 => ⟨S_, .f32⟩
  | 62 => ⟨S128x768, .f32⟩
  | 63 => ⟨S128x768, .f32⟩
  | 64 => ⟨S_, .f32⟩
  | 65 => ⟨S128x768, .f32⟩
  | 66 => ⟨S128x768, .f32⟩
  | 67 => ⟨S128x768, .f32⟩
  | 68 => ⟨S128x1536, .f32⟩
  | 69 => ⟨S128x768, .f32⟩
  | 70 => ⟨S128x768, .f32⟩
  | 71 => ⟨S128x768, .f32⟩
  | 72 => ⟨S128x768, .f32⟩
  | 73 => ⟨S_, .f32⟩
  | 74 => ⟨S128x768, .f32⟩
  | 75 => ⟨S128x768, .f32⟩
  | 76 => ⟨S_, .f32⟩
  | 77 => ⟨S128x768, .f32⟩
  | 78 => ⟨S128x768, .f32⟩
  | 79 => ⟨S128x768, .f32⟩
  | 80 => ⟨S1x48x64, .f32⟩
  | 81 => ⟨S128x48x64, .f32⟩
  | 82 => ⟨S128x48x64, .f32⟩
  | 83 => ⟨S1x48x64, .f32⟩
  | 84 => ⟨S128x48x64, .f32⟩
  | 85 => ⟨S128x48x64, .f32⟩
  | 86 => ⟨S128x48x64, .f32⟩
  | 87 => ⟨S1x128x48x64, .f32⟩
  | 88 => ⟨S128x48x64, .f32⟩
  | 89 => ⟨S128x48x64, .f32⟩
  | 90 => ⟨S1x48x64, .f32⟩
  | 91 => ⟨S128x48x64, .f32⟩
  | 92 => ⟨S128x48x64, .f32⟩
  | 93 => ⟨S1x48x64, .f32⟩
  | 94 => ⟨S128x48x64, .f32⟩
  | 95 => ⟨S128x48x64, .f32⟩
  | 96 => ⟨S128x48x64, .f32⟩
  | 97 => ⟨S1x128x48x64, .f32⟩
  | 98 => ⟨S128x48x64, .f32⟩
  | 99 => ⟨S128x48x64, .f32⟩
  | 100 => ⟨S48x16x128, .f32⟩
  | 101 => ⟨S128x48x16, .f32⟩
  | 102 => ⟨S48x16x128, .f32⟩
  | 103 => ⟨S128x48x16, .f32⟩
  | 104 => ⟨S128x48x16, .f32⟩
  | 105 => ⟨S48x16, .f32⟩
  | 106 => ⟨S1x128x48x16, .f32⟩
  | 107 => ⟨S128x48x16, .f32⟩
  | 108 => ⟨S1x48x16, .f32⟩
  | 109 => ⟨S128x48x16, .f32⟩
  | 110 => ⟨S128x48x16, .f32⟩
  | 111 => ⟨S128x48x16, .f32⟩
  | 112 => ⟨S128x768, .f32⟩
  | 113 => ⟨S128x768, .f32⟩
  | 114 => ⟨S128x768, .f32⟩
  | 115 => ⟨S_, .f32⟩
  | 116 => ⟨S128x768, .f32⟩
  | 117 => ⟨S128x768, .f32⟩
  | 118 => ⟨S128x768, .f32⟩
  | 119 => ⟨S_, .f32⟩
  | 120 => ⟨S128x768, .f32⟩
  | 121 => ⟨S128x768, .f32⟩
  | 122 => ⟨S128x768, .f32⟩
  | 123 => ⟨S_, .f32⟩
  | 124 => ⟨S128x768, .f32⟩
  | 125 => ⟨S128x768, .f32⟩
  | 126 => ⟨S_, .f32⟩
  | 127 => ⟨S128x768, .f32⟩
  | _ => ⟨S4x128x768, .f32⟩

abbrev hbmTy0_2 (i : Nat) : BufTy := match i % 128 with
  | 0 => ⟨S128x768, .f32⟩
  | 1 => ⟨S128x768, .f32⟩
  | 2 => ⟨S128x1536, .f32⟩
  | 3 => ⟨S128x768, .f32⟩
  | 4 => ⟨S128x768, .f32⟩
  | 5 => ⟨S128x768, .f32⟩
  | 6 => ⟨S128x768, .f32⟩
  | 7 => ⟨S_, .f32⟩
  | 8 => ⟨S128x768, .f32⟩
  | 9 => ⟨S128x768, .f32⟩
  | 10 => ⟨S_, .f32⟩
  | 11 => ⟨S128x768, .f32⟩
  | 12 => ⟨S128x768, .f32⟩
  | 13 => ⟨S128x768, .f32⟩
  | 14 => ⟨S1x128x768, .f32⟩
  | 15 => ⟨S1x128x768, .f32⟩
  | 16 => ⟨S1x128x768, .f32⟩
  | 17 => ⟨S1x128x768, .f32⟩
  | 18 => ⟨S4x128x768, .f32⟩
  | 19 => ⟨S128x3072, .f32⟩
  | 20 => ⟨S128x3072, .f32⟩
  | _ => ⟨S4x128x768, .f32⟩

abbrev hbmTy (i : Nat) : BufTy := match i / 128 with
  | 0 => hbmTy0_0 i
  | 1 => hbmTy0_1 i
  | 2 => hbmTy0_2 i
  | _ => ⟨S4x128x768, .f32⟩

abbrev bufTy : (tb : Table) → Fin (tcTables nBuf tb) → BufTy
  | .hbm, ⟨i, _⟩ => hbmTy i
  | _, _ => ⟨S4x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_0 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_1 : Ref sig .tc := ⟨.hbm, 65, rfl⟩
abbrev main_v52 : Ref sig .tc := ⟨.hbm, 66, rfl⟩
abbrev main_v53 : Ref sig .tc := ⟨.hbm, 67, rfl⟩
abbrev main_cst_2 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_3 : Ref sig .tc := ⟨.hbm, 77, rfl⟩
abbrev main_v62 : Ref sig .tc := ⟨.hbm, 78, rfl⟩
abbrev main_v63 : Ref sig .tc := ⟨.hbm, 79, rfl⟩
abbrev main_cst_4 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_5 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_cst_6 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_cst_7 : Ref sig .tc := ⟨.hbm, 127, rfl⟩
abbrev main_v108 : Ref sig .tc := ⟨.hbm, 128, rfl⟩
abbrev main_v109 : Ref sig .tc := ⟨.hbm, 129, rfl⟩
abbrev main_cst_8 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_cst_9 : Ref sig .tc := ⟨.hbm, 139, rfl⟩
abbrev main_v118 : Ref sig .tc := ⟨.hbm, 140, rfl⟩
abbrev main_v119 : Ref sig .tc := ⟨.hbm, 141, rfl⟩
abbrev main_cst_10 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_cst_11 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_cst_12 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_cst_13 : Ref sig .tc := ⟨.hbm, 189, rfl⟩
abbrev main_v164 : Ref sig .tc := ⟨.hbm, 190, rfl⟩
abbrev main_v165 : Ref sig .tc := ⟨.hbm, 191, rfl⟩
abbrev main_cst_14 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_cst_15 : Ref sig .tc := ⟨.hbm, 201, rfl⟩
abbrev main_v174 : Ref sig .tc := ⟨.hbm, 202, rfl⟩
abbrev main_v175 : Ref sig .tc := ⟨.hbm, 203, rfl⟩
abbrev main_cst_16 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_cst_17 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_cst_18 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_cst_19 : Ref sig .tc := ⟨.hbm, 251, rfl⟩
abbrev main_v220 : Ref sig .tc := ⟨.hbm, 252, rfl⟩
abbrev main_v221 : Ref sig .tc := ⟨.hbm, 253, rfl⟩
abbrev main_cst_20 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_v227 : Ref sig .tc := ⟨.hbm, 260, rfl⟩
abbrev main_v228 : Ref sig .tc := ⟨.hbm, 261, rfl⟩
abbrev main_v229 : Ref sig .tc := ⟨.hbm, 262, rfl⟩
abbrev main_cst_21 : Ref sig .tc := ⟨.hbm, 263, rfl⟩
abbrev main_v230 : Ref sig .tc := ⟨.hbm, 264, rfl⟩
abbrev main_v231 : Ref sig .tc := ⟨.hbm, 265, rfl⟩
abbrev main_cst_22 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩

abbrev nD : Nat := 1
abbrev τ : Topo := Topo.v7x

variable {F : FTy → Type} [FloatOps F]
-- ==== Proof.Rows.lean ====
/-
  The row mathematics the three dense calls share, over the extended reals: the root-mean-square norm of one row of
  1024 numbers, the hidden row of a gated feed-forward layer, and half a feed-forward step added to the row it came
  from. Nothing here speaks of a program.
-/
module

public import Idealize.ShloMosaic.Lib.Pointwise
public import Idealize.ShloMosaic.Lib.Pipeline.ValueKit
public import Idealize.ShloMosaic.Lib.Pipeline.CanonAppend
public import Idealize.ShloMosaic.Lib.Ring

@[expose] public section

noncomputable section

open Idealize.ShloMosaic

namespace Cert.Rows

/-- Entry `k` of a row's root-mean-square norm with gain `g`. -/
def rms (x g : Fin 1024 → EReal) (k : Fin 1024) : EReal :=
  x k * Ideal.rsqrt (Ideal.div (∑ l, x l * x l) (Ideal.ofBits .f32 0x44800000#32) + Ideal.ofBits .f32 0x358637BD#32) * g k

/-- Hidden entry `f` of the gated layer at the row `n`: `silu (n · wg) * (n · wu)`. -/
def hidRow (n : Fin 1024 → EReal) (wg wu : Fin 1024 → Fin 2816 → EReal) (f : Fin 2816) : EReal :=
  (∑ k, n k * wg k f) * Ideal.logistic (∑ k, n k * wg k f) * ∑ k, n k * wu k f

/-- Entry `j` of half a feed-forward step: the row plus half of the layer's output at its norm. -/
def half (x g : Fin 1024 → EReal) (wg wu : Fin 1024 → Fin 2816 → EReal) (wd : Fin 2816 → Fin 1024 → EReal)
    (j : Fin 1024) : EReal :=
  x j + Ideal.ofBits .f32 0x3F000000#32 * ∑ f, hidRow (rms x g) wg wu f * wd f j

/-- A load of a scratch array whose writes cover it, each holding its part of one function `G`, reads `G`. -/
theorem readCov_parts {Val : EltTy → Type} [∀ e, Nonempty (Val e)] {sig : RefSig} {κ : Kind} {sp : Space} {s : Shape}
    {e : EltTy} (v : View sig κ sp s e) (G : s.Idx → Val e) (L : List (View.Piece Val s e)) (B : LoadRect s)
    (hp : ∀ p ∈ L, ∀ x : p.1.shape.Idx, p.2 x = G (p.1.emb x)) (hc : ∀ y, ∃ p ∈ L, y ∈ p.1.set) :
    v.readCov L B = fun j => G (B.idx j) := by
  rw [View.readCov_eq_canon']
  funext j
  rw [← List.append_nil L]
  exact View.canon_append_of_pieces G [] L hp _ (hc _)

end Cert.Rows

end
-- ==== Proof.Attn.lean ====
/-
  One row of the memory cross attention over the extended reals: the plain formula, and the two ways in which a kernel
  may write it (all lanes at once with the other heads' queries zeroed; one division after the weighted sum).
-/
module

public import proofs.«01_k».proof.Proof.Rows
public import Idealize.ShloMosaic.Lib.Pipeline.ValueKit.Acc

@[expose] public section

noncomputable section

open Idealize.ShloMosaic

namespace Cert.Rows

/-- Lane `d` of head `h` among the 256 lanes of the four heads. -/
def lane (h : Fin 4) (d : Fin 64) : Fin 256 := ⟨h.val * 64 + d.val, by have := h.isLt; have := d.isLt; omega⟩

/-- The head a lane belongs to. -/
def headOf (l : Fin 256) : Fin 4 := ⟨l.val / 64, by have := l.isLt; omega⟩

/-- The scaled score of head `h` of the query row `q` with memory slot `m`. -/
def score (q : Fin 256 → EReal) (k : Fin 256 → Fin 256 → EReal) (h : Fin 4) (m : Fin 256) : EReal :=
  (∑ d, q (lane h d) * k m (lane h d)) * Ideal.ofBits .f32 0x3E000000#32

/-- The largest of a row of scores. -/
def top (s : Fin 256 → EReal) : EReal := Finset.univ.fold max (Ideal.ofBits .f32 0xFF800000#32) s

/-- The unnormalized weight of memory slot `m`. -/
def weight (s : Fin 256 → EReal) (m : Fin 256) : EReal := Ideal.exp (s m - top s)

/-- Lane `l` of the attention's output: the values averaged with the normalized weights of the lane's head. -/
def attend (q : Fin 256 → EReal) (k v : Fin 256 → Fin 256 → EReal) (l : Fin 256) : EReal :=
  ∑ m, v m l * Ideal.div (weight (score q k (headOf l)) m) (∑ n, weight (score q k (headOf l)) n)

/-- The residual row after the mixer's and the attention's outputs are projected and added. -/
def merged (x : Fin 1024 → EReal) (mix : Fin 768 → EReal) (a : Fin 256 → EReal) (w : Fin 1024 → Fin 1024 → EReal)
    (j : Fin 1024) : EReal :=
  x j + (∑ i : Fin 768, mix i * w ⟨i.val, lt_of_lt_of_le i.isLt (by decide)⟩ j
    + ∑ i : Fin 256, a i * w ⟨768 + i.val, Nat.add_lt_add_left i.isLt 768⟩ j)

/-- The scale is an eighth. -/
theorem eighth : Ideal.ofBits .f32 0x3E000000#32 = ((1 / 8 : ℝ) : EReal) := by
  simp [Ideal.ofBits, Ideal.ieee, -EReal.coe_mul]; norm_num

/-- A maximum starts at the least extended real. -/
theorem neg_inf : Ideal.ofBits .f32 0xFF800000#32 = ⊥ := by
  simp [Ideal.ofBits, Ideal.ieee]

/-- A factor that is a real of no negative value may be drawn into a sum. -/
theorem sum_mul_real {ι : Type} [Fintype ι] (c : ℝ) (hc : 0 ≤ c) (f : ι → EReal) :
    (∑ i, f i) * (c : EReal) = ∑ i, f i * (c : EReal) := by
  classical
  refine Finset.induction_on (motive := fun s => (∑ i ∈ s, f i) * (c : EReal) = ∑ i ∈ s, f i * (c : EReal)) Finset.univ (by simp) ?_
  intro a s ha ih
  rw [Finset.sum_insert ha, Finset.sum_insert ha,
    EReal.right_distrib_of_nonneg_of_ne_top (EReal.coe_nonneg.2 hc) (EReal.coe_ne_top c), ih]

/-- A finite sum of reals is a real. -/
theorem sum_coe {ι : Type} [Fintype ι] (f : ι → ℝ) : (∑ i, (f i : EReal)) = ((∑ i, f i : ℝ) : EReal) := by
  classical
  refine Finset.induction_on (motive := fun s => (∑ i ∈ s, (f i : EReal)) = ((∑ i ∈ s, f i : ℝ) : EReal)) Finset.univ (by simp) ?_
  intro a s ha ih
  rw [Finset.sum_insert ha, Finset.sum_insert ha, ih, EReal.coe_add]

/-- The score with the other heads' query lanes zeroed and the scale put on the query is the head's scaled score. -/
theorem masked_score (q : Fin 256 → EReal) (k : Fin 256 → Fin 256 → EReal) (h : Fin 4) (m : Fin 256) :
    ∑ l : Fin 256, (if l.val / 64 = h.val then q l * Ideal.ofBits .f32 0x3E000000#32 else 0) * k m l = score q k h m := by
  rw [← Fin.sum_mul_add_fin 4 64 (fun l : Fin 256 =>
    (if l.val / 64 = h.val then q l * Ideal.ofBits .f32 0x3E000000#32 else 0) * k m l) rfl]
  rw [Finset.sum_eq_single h]
  · unfold score
    rw [eighth, sum_mul_real _ (by norm_num)]
    refine Finset.sum_congr rfl fun d _ => ?_
    have hd : (h.val * 64 + d.val) / 64 = h.val := by have := d.isLt; omega
    rw [if_pos hd]
    exact mul_right_comm _ _ _
  · intro s _ hs
    refine Finset.sum_eq_zero fun d _ => ?_
    have hd : ¬ (s.val * 64 + d.val) / 64 = h.val := by
      have := d.isLt
      intro e
      exact hs (Fin.ext (by omega))
    rw [if_neg hd, zero_mul]
  · intro hn
    exact absurd (Finset.mem_univ h) hn

/-- The largest score of a row is one of its scores. -/
theorem top_mem (s : Fin 256 → EReal) : ∃ i, top s = s i := by
  obtain ⟨i, _, hi⟩ := Finset.exists_mem_eq_sup (Finset.univ : Finset (Fin 256)) ⟨0, Finset.mem_univ _⟩ s
  exact ⟨i, by rw [← hi, top, neg_inf]; rfl⟩

/-- Where the scores are reals, dividing the weighted sum once is averaging with the normalized weights. -/
theorem div_after (s : Fin 256 → EReal) (hs : ∀ m, ∃ r : ℝ, s m = r) (v : Fin 256 → EReal) :
    Ideal.div (∑ m, weight s m * v m) (∑ n, weight s n) = ∑ m, v m * Ideal.div (weight s m) (∑ n, weight s n) := by
  choose r hr using hs
  obtain ⟨i, hi⟩ := top_mem s
  have hw : ∀ m, weight s m = ((Real.exp (r m - r i) : ℝ) : EReal) := fun m => by
    rw [weight, hi, hr, hr, ← EReal.coe_sub, Ideal.exp_coe]
  have hL : ∑ n, weight s n = ((∑ n, Real.exp (r n - r i) : ℝ) : EReal) := by
    rw [← sum_coe]
    exact Finset.sum_congr rfl fun n _ => hw n
  have hp : 0 < ∑ n : Fin 256, Real.exp (r n - r i) :=
    Finset.sum_pos (fun n _ => Real.exp_pos _) ⟨0, Finset.mem_univ _⟩
  rw [hL, Ideal.div_coe hp.ne', sum_mul_real _ (by positivity)]
  refine Finset.sum_congr rfl fun m _ => ?_
  rw [Ideal.div_coe hp.ne', mul_comm (weight s m) (v m), mul_assoc]

/-- The scores of real queries and keys are reals. -/
theorem score_real (q : Fin 256 → EReal) (k : Fin 256 → Fin 256 → EReal) (hq : ∀ l, ∃ r : ℝ, q l = r)
    (hk : ∀ m l, ∃ r : ℝ, k m l = r) (h : Fin 4) (m : Fin 256) : ∃ r : ℝ, score q k h m = r := by
  choose a ha using hq
  choose b hb using hk
  refine ⟨(∑ d, a (lane h d) * b m (lane h d)) * (1 / 8), ?_⟩
  rw [score, eighth, EReal.coe_mul, ← sum_coe]
  refine congrArg (· * _) (Finset.sum_congr rfl fun d _ => ?_)
  rw [ha, hb, EReal.coe_mul]

end Cert.Rows

end
-- ==== Proof.CrossValue.lean ====
/-
  What the cross attention and feed-forward kernel computes: every block of 512 rows of its result, row by row. The four
  heads are attended together, each on 512 of 2048 rows whose query lanes outside the head are zero; the lanes of each
  head are then picked out. The hidden layer is built in a scratch array in eleven chunks of 256 columns.
-/
module

public import proofs.«01_k».proof.Proof.Gen.CrossIdeal.Value
public import proofs.«01_k».proof.Proof.Attn

@[expose] public section

set_option maxRecDepth 16384

noncomputable section

open Idealize.ShloMosaic Idealize.ShloMosaic.TcCoe Idealize.SL.Sem
open Idealize.ShloMosaic.Pipeline (Dat)

namespace Cert.CrossIdeal.Read

open Cert.CrossIdeal Cert.CrossIdeal.Gen Cert.Rows

/-- The hidden layer of a block of normed rows, at the one stacked weight the block's buffers hold. -/
def hid (n : FVec Ideal S512x1024 .bf16) (wg wu : FVec Ideal S1x1024x2816 .bf16) : FVec Ideal S512x2816 .bf16 := fun y =>
  hidRow (fun k => n (ix2 (y 0) k)) (fun k f => wg (ix3 0 k f)) (fun k f => wu (ix3 0 k f)) (y 1)

/-- A chunk of 256 weight columns loaded from column `o` on, at an index. -/
theorem ld_col (o : ℕ) (h : ∀ a, (![0, 0, o] : Fin 3 → ℕ) a + S1x1024x256.size a ≤ S1x1024x2816.size a)
    (h' : ∀ a, (![0, o] : Fin 2 → ℕ) a + S512x256.size a ≤ S512x2816.size a)
    (w : FVec Ideal S1x1024x2816 .bf16) (k : Fin 1024) (x : S512x256.Idx) :
    View.ld (Val := Elt Ideal) (S := S1x1024x2816) (e' := .bf16) w (Rect.unit (s := S1x1024x2816) ![0, 0, o] S1x1024x256.size h) (ix3 0 k (x 1))
      = w (ix3 0 k ((Rect.unit (s := S512x2816) ![0, o] S512x256.size h').emb x 1)) := by
  refine congrArg w (funext fun a => Fin.ext ?_)
  fin_cases a <;> simp [Rect.emb_apply]

/-- The chunk of hidden columns from column `o` on, computed from the weight columns there, is that part of the hidden
    layer. -/
theorem chunk (o : ℕ) (h : ∀ a, (![0, 0, o] : Fin 3 → ℕ) a + S1x1024x256.size a ≤ S1x1024x2816.size a)
    (h' : ∀ a, (![0, o] : Fin 2 → ℕ) a + S512x256.size a ≤ S512x2816.size a)
    (n : FVec Ideal S512x1024 .bf16) (wg wu : FVec Ideal S1x1024x2816 .bf16) (x : S512x256.Idx) :
    k0_pay15 n (View.ld (Val := Elt Ideal) (S := S1x1024x2816) (e' := .bf16) wg (Rect.unit (s := S1x1024x2816) ![0, 0, o] S1x1024x256.size h))
        (View.ld (Val := Elt Ideal) (S := S1x1024x2816) (e' := .bf16) wu (Rect.unit (s := S1x1024x2816) ![0, 0, o] S1x1024x256.size h)) x
      = hid n wg wu ((Rect.unit (s := S512x2816) ![0, o] S512x256.size h').emb x) := by
  have e0 : (Rect.unit (s := S512x2816) ![0, o] S512x256.size h').emb x 0 = x 0 := Fin.ext (by simp [Rect.emb_apply])
  unfold hid hidRow
  simp only [e0, ← ld_col o h h']
  pointwise [k0_pay15]

/-- What the block writes to the scratch array at columns `o` to `o + 255`. -/
def part (o : ℕ) (h : ∀ a, (![0, 0, o] : Fin 3 → ℕ) a + S1x1024x256.size a ≤ S1x1024x2816.size a)
    (h' : ∀ a, (![0, o] : Fin 2 → ℕ) a + S512x256.size a ≤ S512x2816.size a)
    (n : FVec Ideal S512x1024 .bf16) (wg wu : FVec Ideal S1x1024x2816 .bf16) : View.Piece (Elt Ideal) S512x2816 .bf16 :=
  ⟨Rect.unit (s := S512x2816) ![0, o] S512x256.size h', k0_pay15 n
    (View.ld (Val := Elt Ideal) (S := S1x1024x2816) (e' := .bf16) wg (Rect.unit (s := S1x1024x2816) ![0, 0, o] S1x1024x256.size h))
    (View.ld (Val := Elt Ideal) (S := S1x1024x2816) (e' := .bf16) wu (Rect.unit (s := S1x1024x2816) ![0, 0, o] S1x1024x256.size h))⟩

/-- The eleven parts, the last written first. -/
def parts (n : FVec Ideal S512x1024 .bf16) (wg wu : FVec Ideal S1x1024x2816 .bf16) : List (View.Piece (Elt Ideal) S512x2816 .bf16) :=
  [part 2560 (by decide) (by decide) n wg wu, part 2304 (by decide) (by decide) n wg wu, part 2048 (by decide) (by decide) n wg wu, part 1792 (by decide) (by decide) n wg wu, part 1536 (by decide) (by decide) n wg wu, part 1280 (by decide) (by decide) n wg wu, part 1024 (by decide) (by decide) n wg wu, part 768 (by decide) (by decide) n wg wu, part 512 (by decide) (by decide) n wg wu, part 256 (by decide) (by decide) n wg wu, part 0 (by decide) (by decide) n wg wu]

/-- Loading the whole scratch array gives each entry of it. -/
theorem scratch_idx (y : S512x2816.Idx) : (Rect.unit (s := S512x2816) ![0, 0] ![512, 2816] inb_S512x2816_S512x2816_0_0).toLoadRect.idx y = y := by
  funext a
  apply Fin.ext
  fin_cases a <;> simp [LoadRect.idx]

/-- The scratch array read back whole is the hidden layer of the block. -/
theorem scratch_read {κ : Kind} {sp : Space} (v : View sig κ sp S512x2816 .bf16) (n : FVec Ideal S512x1024 .bf16) (wg wu : FVec Ideal S1x1024x2816 .bf16) :
    v.readCov (parts n wg wu) (Rect.unit (s := S512x2816) ![0, 0] ![512, 2816] inb_S512x2816_S512x2816_0_0).toLoadRect
      = hid n wg wu := by
  refine (readCov_parts _ (hid n wg wu) _ _ ?_ ?_).trans (funext fun j => congrArg _ (scratch_idx j))
  · refine List.forall_mem_cons.2 ⟨fun x => chunk 2560 (by decide) (by decide) n wg wu x,
      List.forall_mem_cons.2 ⟨fun x => chunk 2304 (by decide) (by decide) n wg wu x,
      List.forall_mem_cons.2 ⟨fun x => chunk 2048 (by decide) (by decide) n wg wu x,
      List.forall_mem_cons.2 ⟨fun x => chunk 1792 (by decide) (by decide) n wg wu x,
      List.forall_mem_cons.2 ⟨fun x => chunk 1536 (by decide) (by decide) n wg wu x,
      List.forall_mem_cons.2 ⟨fun x => chunk 1280 (by decide) (by decide) n wg wu x,
      List.forall_mem_cons.2 ⟨fun x => chunk 1024 (by decide) (by decide) n wg wu x,
      List.forall_mem_cons.2 ⟨fun x => chunk 768 (by decide) (by decide) n wg wu x,
      List.forall_mem_cons.2 ⟨fun x => chunk 512 (by decide) (by decide) n wg wu x,
      List.forall_mem_cons.2 ⟨fun x => chunk 256 (by decide) (by decide) n wg wu x,
      List.forall_mem_cons.2 ⟨fun x => chunk 0 (by decide) (by decide) n wg wu x,
      List.forall_mem_nil _⟩⟩⟩⟩⟩⟩⟩⟩⟩⟩⟩
  · exact View.cover_of_tiledL _ S512x256.size (by sl_kernel_rfl)

/-- The kernel's integer code for a lane's head. -/
theorem head_code (l : Fin 256) : k0_pay4 (ix2 0 l) = BitVec.ofNat 32 (l.val / 64) := by
  revert l
  decide +kernel

/-- Choosing by a comparison of head numbers. -/
theorem select_head (a b : ℕ) (ha : a < 4) (hb : b < 4) (u w : EReal) :
    Scalar.select (IntOp.cmpi CmpIPredicate.eq (BitVec.ofNat 32 a) (BitVec.ofNat 32 b)) u w = if a = b then u else w := by
  interval_cases a <;> interval_cases b <;> rfl

/-- The query lanes of head `h` of a block, scaled, the other lanes zero. -/
def lanes (q : FVec Ideal S512x256 .f32) (h : ℕ) (r : Fin 512) (l : Fin 256) : EReal :=
  if l.val / 64 = h then q (ix2 r l) * Ideal.ofBits .f32 0x3E000000#32 else 0

theorem head_lt (l : Fin 256) : l.val / 64 < 4 := by have := l.isLt; omega

theorem masked0 (q : FVec Ideal S512x256 .f32) (r : Fin 512) (l : Fin 256) : k0_pay6 (F := Ideal) q (ix2 r l) = lanes q 0 r l := by
  have e := head_code l
  unfold k0_pay6
  revert e
  generalize k0_pay4 = h
  intro e
  pointwise [k0_pay3, k0_pay5]
  rw [e]
  exact select_head _ 0 (head_lt l) (by decide) _ _

theorem masked1 (q : FVec Ideal S512x256 .f32) (r : Fin 512) (l : Fin 256) : k0_pay7 (F := Ideal) q (ix2 r l) = lanes q 1 r l := by
  have e := head_code l
  unfold k0_pay7
  revert e
  generalize k0_pay4 = h
  intro e
  pointwise [k0_pay3, k0_pay5]
  rw [e]
  exact select_head _ 1 (head_lt l) (by decide) _ _

theorem masked2 (q : FVec Ideal S512x256 .f32) (r : Fin 512) (l : Fin 256) : k0_pay8 (F := Ideal) q (ix2 r l) = lanes q 2 r l := by
  have e := head_code l
  unfold k0_pay8
  revert e
  generalize k0_pay4 = h
  intro e
  pointwise [k0_pay3, k0_pay5]
  rw [e]
  exact select_head _ 2 (head_lt l) (by decide) _ _

/-- Row `i` of the four stacked masked queries. -/
def stacked (a b c d : FVec Ideal S512x256 .f32) (h : IVec S1x256 32) (z : FVec Ideal S512x256 .f32) (i : Fin 2048) (l : Fin 256) : EReal :=
  if h0 : i.val < 512 then a (ix2 ⟨i.val, h0⟩ l)
  else if h1 : i.val - 512 < 512 then b (ix2 ⟨i.val - 512, h1⟩ l)
  else if h2 : i.val - 512 - 512 < 512 then c (ix2 ⟨i.val - 512 - 512, h2⟩ l)
  else Scalar.select (IntOp.cmpi CmpIPredicate.eq (h (ix2 0 l)) 3#32)
    (d (ix2 ⟨i.val - 512 - 512 - 512, by have := i.isLt; omega⟩ l)) (z (ix2 ⟨i.val - 512 - 512 - 512, by have := i.isLt; omega⟩ l))

/-- The scores of a stacked row. -/
def rowScore (a b c d : FVec Ideal S512x256 .f32) (h : IVec S1x256 32) (z : FVec Ideal S512x256 .f32) (k : FVec Ideal S1x256x256 .f32)
    (i : Fin 2048) (n : Fin 256) : EReal := ∑ l, stacked a b c d h z i l * k (ix3 0 n l)

/-- The stacked attention: every row's weighted sum of the values, divided by the sum of its weights. -/
theorem attended (d : FVec Ideal S512x256 .f32) (h : IVec S1x256 32) (z a b c : FVec Ideal S512x256 .f32) (k v : FVec Ideal S1x256x256 .f32)
    (i : Fin 2048) (l : Fin 256) : k0_pay9 (F := Ideal) d h z a b c 3#32 k v (ix2 i l)
      = Ideal.div (∑ n, weight (rowScore a b c d h z k i) n * v (ix3 0 n l)) (∑ n, weight (rowScore a b c d h z k i) n) := by
  pointwise [k0_pay9, weight, top, rowScore, stacked]

/-- The row of the stack that holds head `h` of row `r`. -/
def stackRow (h : Fin 4) (r : Fin 512) : Fin 2048 := ⟨512 * h.val + r.val, by have := h.isLt; have := r.isLt; omega⟩

/-- Row `stackRow h r` of the stack is the query row `r` masked to head `h`. -/
theorem stacked_eq (q : FVec Ideal S512x256 .f32) (h : Fin 4) (r : Fin 512) (l : Fin 256) :
    stacked (k0_pay6 q) (k0_pay7 q) (k0_pay8 q) (k0_pay3 q) k0_pay4 k0_pay5 (stackRow h r) l = lanes q h.val r l := by
  have hr := r.isLt
  unfold stacked
  match h with
  | 0 =>
    have e : (stackRow 0 r).val = r.val := by simp [stackRow]
    rw [dif_pos (by rw [e]; exact hr)]
    exact (congrArg (fun i => k0_pay6 (F := Ideal) q (ix2 i l)) (Fin.ext e)).trans (masked0 q r l)
  | 1 =>
    have e : (stackRow 1 r).val = 512 + r.val := by simp [stackRow]
    rw [dif_neg (by omega), dif_pos (by omega)]
    exact (congrArg (fun i => k0_pay7 (F := Ideal) q (ix2 i l)) (Fin.ext (by simp only [e]; omega))).trans (masked1 q r l)
  | 2 =>
    have e : (stackRow 2 r).val = 1024 + r.val := by simp [stackRow]
    rw [dif_neg (by omega), dif_neg (by omega), dif_pos (by omega)]
    exact (congrArg (fun i => k0_pay8 (F := Ideal) q (ix2 i l)) (Fin.ext (by simp only [e]; omega))).trans (masked2 q r l)
  | 3 =>
    have e : (stackRow 3 r).val = 1536 + r.val := by simp [stackRow]
    rw [dif_neg (by omega), dif_neg (by omega), dif_neg (by omega)]
    have e' : (⟨(stackRow 3 r).val - 512 - 512 - 512, by omega⟩ : Fin 512) = r := Fin.ext (by simp only [e]; omega)
    rw [e', head_code, select_head _ 3 (head_lt l) (by decide)]
    unfold lanes
    refine if_congr Iff.rfl ?_ ?_
    · pointwise [k0_pay3]
    · pointwise [k0_pay5]

/-- Lane `l` of the stack's row for the lane's head is the attention of the query row. -/
theorem attended_eq (q : FVec Ideal S512x256 .f32) (k v : FVec Ideal S1x256x256 .f32) (hq : ∀ r l, ∃ u : ℝ, q (ix2 r l) = u)
    (hk : ∀ n l, ∃ u : ℝ, k (ix3 0 n l) = u) (r : Fin 512) (l : Fin 256) :
    k0_pay9 (F := Ideal) (k0_pay3 q) k0_pay4 k0_pay5 (k0_pay6 q) (k0_pay7 q) (k0_pay8 q) 3#32 k v (ix2 (stackRow (headOf l) r) l)
      = attend (fun l => q (ix2 r l)) (fun n l => k (ix3 0 n l)) (fun n l => v (ix3 0 n l)) l := by
  have hs : rowScore (k0_pay6 q) (k0_pay7 q) (k0_pay8 q) (k0_pay3 q) k0_pay4 k0_pay5 k (stackRow (headOf l) r)
      = score (fun l => q (ix2 r l)) (fun n l => k (ix3 0 n l)) (headOf l) := funext fun n => by
    rw [← masked_score]
    exact Finset.sum_congr rfl fun l' _ => congrArg (· * k (ix3 0 n l')) (stacked_eq q (headOf l) r l')
  rw [attended, hs]
  exact div_after _ (score_real _ _ (hq r) hk (headOf l)) _

/-- Picking every head's lanes out of the stack. -/
theorem picked (o : FVec Ideal S2048x256 .f32) (h : IVec S1x256 32) (hh : ∀ l : Fin 256, h (ix2 0 l) = BitVec.ofNat 32 (l.val / 64))
    (r : Fin 512) (l : Fin 256) :
    (0 : EReal) + Scalar.select (IntOp.cmpi CmpIPredicate.eq (h (ix2 0 l)) 0#32) (o (ix2 (stackRow 0 r) l)) 0
      + Scalar.select (IntOp.cmpi CmpIPredicate.eq (h (ix2 0 l)) 1#32) (o (ix2 (stackRow 1 r) l)) 0
      + Scalar.select (IntOp.cmpi CmpIPredicate.eq (h (ix2 0 l)) 2#32) (o (ix2 (stackRow 2 r) l)) 0
      + Scalar.select (IntOp.cmpi CmpIPredicate.eq (h (ix2 0 l)) 3#32) (o (ix2 (stackRow 3 r) l)) 0
      = o (ix2 (stackRow (headOf l) r) l) := by
  have hl := head_lt l
  rw [hh, select_head _ 0 hl (by decide), select_head _ 1 hl (by decide), select_head _ 2 hl (by decide), select_head _ 3 hl (by decide)]
  have e : ∀ h : Fin 4, h.val = l.val / 64 → o (ix2 (stackRow h r) l) = o (ix2 (stackRow (headOf l) r) l) := fun h e => by
    rw [show h = headOf l from Fin.ext e]
  have hc : l.val / 64 = 0 ∨ l.val / 64 = 1 ∨ l.val / 64 = 2 ∨ l.val / 64 = 3 := by omega
  rcases hc with c | c | c | c <;> simp only [c, if_true, if_false, zero_add, add_zero, Nat.zero_ne_one, OfNat.ofNat_ne_zero, OfNat.zero_ne_ofNat, reduceIte, Nat.reduceEqDiff, one_ne_zero, OfNat.ofNat_ne_one, OfNat.one_ne_ofNat]
  · exact e 0 c.symm
  · exact e 1 c.symm
  · exact e 2 c.symm
  · exact e 3 c.symm

/-- The residual block after the attention, as the kernel composes it. -/
def mixed (x : FVec Ideal S512x1024 .f32) (mix : FVec Ideal S512x768 .f32) (q : FVec Ideal S512x256 .f32) (k v : FVec Ideal S1x256x256 .f32) (wm : FVec Ideal S768x1024 .bf16) (wc : FVec Ideal S256x1024 .bf16) : FVec Ideal S512x1024 .f32 :=
  k0_pay11 (F := Ideal) k0_pay4 k0_pay5 (k0_pay9 (k0_pay3 q) k0_pay4 k0_pay5 (k0_pay6 q) (k0_pay7 q) (k0_pay8 q) 3#32 k v) (k0_pay10 (k0_pay3 q) k0_pay4 k0_pay5 (k0_pay6 q) (k0_pay7 q) (k0_pay8 q) 3#32 k v) 3#32 x mix wm wc

/-- Its rows, given that queries and keys are reals. -/
theorem mixed_eq (x : FVec Ideal S512x1024 .f32) (mix : FVec Ideal S512x768 .f32) (q : FVec Ideal S512x256 .f32) (k v : FVec Ideal S1x256x256 .f32) (wm : FVec Ideal S768x1024 .bf16) (wc : FVec Ideal S256x1024 .bf16) (hq : ∀ r l, ∃ u : ℝ, q (ix2 r l) = u) (hk : ∀ n l, ∃ u : ℝ, k (ix3 0 n l) = u) (r : Fin 512) (j : Fin 1024) :
    mixed x mix q k v wm wc (ix2 r j) = x (ix2 r j) + (∑ i, mix (ix2 r i) * wm (ix2 i j)
      + ∑ l, attend (fun l => q (ix2 r l)) (fun n l => k (ix3 0 n l)) (fun n l => v (ix3 0 n l)) l * wc (ix2 l j)) := by
  have ha := fun l => (picked _ _ head_code r l).trans (attended_eq q k v hq hk r l)
  unfold mixed k0_pay11 k0_pay10
  rw [← add_assoc]
  simp only [← ha]
  generalize k0_pay9 (F := Ideal) (k0_pay3 q) k0_pay4 k0_pay5 (k0_pay6 q) (k0_pay7 q) (k0_pay8 q) 3#32 k v = o
  generalize k0_pay4 = h
  pointwise [k0_pay5, stackRow]

/-- The normed residual block. -/
def normed (x : FVec Ideal S512x1024 .f32) (mix : FVec Ideal S512x768 .f32) (q : FVec Ideal S512x256 .f32) (k v : FVec Ideal S1x256x256 .f32) (wm : FVec Ideal S768x1024 .bf16) (wc : FVec Ideal S256x1024 .bf16) (g : FVec Ideal S1x1024 .f32) : FVec Ideal S512x1024 .bf16 :=
  k0_pay12 (F := Ideal) k0_pay4 k0_pay5 (k0_pay9 (k0_pay3 q) k0_pay4 k0_pay5 (k0_pay6 q) (k0_pay7 q) (k0_pay8 q) 3#32 k v) (k0_pay10 (k0_pay3 q) k0_pay4 k0_pay5 (k0_pay6 q) (k0_pay7 q) (k0_pay8 q) 3#32 k v) 3#32 x mix wm wc g

theorem normed_eq (x : FVec Ideal S512x1024 .f32) (mix : FVec Ideal S512x768 .f32) (q : FVec Ideal S512x256 .f32) (k v : FVec Ideal S1x256x256 .f32) (wm : FVec Ideal S768x1024 .bf16) (wc : FVec Ideal S256x1024 .bf16) (g : FVec Ideal S1x1024 .f32) (r : Fin 512) (j : Fin 1024) :
    normed x mix q k v wm wc g (ix2 r j) = rms (fun j => mixed x mix q k v wm wc (ix2 r j)) (fun j => g (ix2 0 j)) j := by
  unfold normed mixed k0_pay12
  generalize k0_pay11 (F := Ideal) k0_pay4 k0_pay5 (k0_pay9 (k0_pay3 q) k0_pay4 k0_pay5 (k0_pay6 q) (k0_pay7 q) (k0_pay8 q) 3#32 k v) (k0_pay10 (k0_pay3 q) k0_pay4 k0_pay5 (k0_pay6 q) (k0_pay7 q) (k0_pay8 q) 3#32 k v) 3#32 x mix wm wc = z
  pointwise [rms]

/-- The stored block from the residual block and the hidden layer. -/
theorem stored (z : FVec Ideal S512x1024 .f32) (s : FVec Ideal S512x2816 .bf16) (wd : FVec Ideal S1x2816x1024 .bf16) (gf : FVec Ideal S1x1024 .f32)
    (y : S512x1024.Idx) : k0_pay2 (F := Ideal) z s wd gf y
      = rms (fun j => z (ix2 (y 0) j) + Ideal.ofBits .f32 0x3F000000#32 * ∑ f, s (ix2 (y 0) f) * wd (ix3 0 f j)) (fun j => gf (ix2 0 j)) (y 1) := by
  idx_vars y
  pointwise [k0_pay2, rms]

/-- The memory cross attention's output for row `r`: batch `r / 8192` has its own memory. -/
def crossRow (q : FVec Ideal S16384x256 .f32) (k v : FVec Ideal S2x256x256 .f32) (r : Fin 16384) : Fin 256 → EReal :=
  attend (fun l => q (ix2 r l)) (fun n l => k (ix3 ⟨r.val / 8192, by have := r.isLt; omega⟩ n l))
    (fun n l => v (ix3 ⟨r.val / 8192, by have := r.isLt; omega⟩ n l))

/-- Row `r` of the residual stream after the mixer's and the attention's outputs are added. -/
def midRow (x : FVec Ideal S16384x1024 .f32) (mix : FVec Ideal S16384x768 .f32) (q : FVec Ideal S16384x256 .f32)
    (k v : FVec Ideal S2x256x256 .f32) (w : FVec Ideal S1024x1024 .f32) (r : Fin 16384) : Fin 1024 → EReal :=
  merged (fun j => x (ix2 r j)) (fun i => mix (ix2 r i)) (crossRow q k v r) (fun i j => w (ix2 i j))

/-- The call's result as one function of the arguments: half a feed-forward step with the weights of index three on the
    merged row, then the final norm. -/
def out (x : FVec Ideal S16384x1024 .f32) (mix : FVec Ideal S16384x768 .f32) (q : FVec Ideal S16384x256 .f32) (k : FVec Ideal S2x256x256 .f32) (v : FVec Ideal S2x256x256 .f32) (w : FVec Ideal S1024x1024 .f32) (g : FVec Ideal S1024 .f32) (wg : FVec Ideal S4x1024x2816 .bf16) (wu : FVec Ideal S4x1024x2816 .bf16) (wd : FVec Ideal S4x2816x1024 .bf16) (gf : FVec Ideal S1024 .f32) : FVec Ideal S16384x1024 .f32 := fun i =>
  rms (half (midRow x mix q k v w (i 0)) (fun k => g (ix1 k)) (fun k f => wg (ix3 3 k f)) (fun k f => wu (ix3 3 k f))
    (fun f k => wd (ix3 3 f k))) (fun k => gf (ix1 k)) (i 1)

variable (m : (ℓ : Loc nD τ sig) → Buf (Elt Ideal) ℓ) (ρ : Dev nD → PrngReg)

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![t.val, 0] :=
  (by decide +kernel : ∀ t : Fin grid0.N, win0_2.index t = ![t.val, 0])
theorem index3 : ∀ t : Fin cfg0.N, win0_3.index t = ![t.val / 16, 0, 0] :=
  (by decide +kernel : ∀ t : Fin grid0.N, win0_3.index t = ![t.val / 16, 0, 0])
theorem index4 : ∀ t : Fin cfg0.N, win0_4.index t = ![t.val / 16, 0, 0] :=
  (by decide +kernel : ∀ t : Fin grid0.N, win0_4.index t = ![t.val / 16, 0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![3, 0, 0] :=
  (by decide +kernel : ∀ t : Fin grid0.N, win0_8.index t = ![3, 0, 0])
theorem index9 : ∀ t : Fin cfg0.N, win0_9.index t = ![3, 0, 0] :=
  (by decide +kernel : ∀ t : Fin grid0.N, win0_9.index t = ![3, 0, 0])
theorem index10 : ∀ t : Fin cfg0.N, win0_10.index t = ![3, 0, 0] :=
  (by decide +kernel : ∀ t : Fin grid0.N, win0_10.index t = ![3, 0, 0])
theorem index11 : ∀ t : Fin cfg0.N, win0_11.index t = ![0, 0] :=
  (by decide +kernel : ∀ t : Fin grid0.N, win0_11.index t = ![0, 0])
theorem index12 : ∀ t : Fin cfg0.N, win0_12.index t = ![t.val, 0] :=
  (by decide +kernel : ∀ t : Fin grid0.N, win0_12.index t = ![t.val, 0])

/-- The two gains reach the kernel as rows, -/
theorem V_gain (c : Dev nD) : V m c main_v4
    = shapeCast S1x1024 (m ((c.tc : Thread nD τ).loc main_arg6) : FVec Ideal S1024 .f32) shapeCasts_S1024_S1x1024 := by
  unfold V
  after_results <;> rfl
theorem V_gain_final (c : Dev nD) : V m c main_v5
    = shapeCast S1x1024 (m ((c.tc : Thread nD τ).loc main_arg10) : FVec Ideal S1024 .f32) shapeCasts_S1024_S1x1024 := by
  unfold V
  after_results <;> rfl
/-- and the output projection's weights cut in two. -/
theorem V_wm (c : Dev nD) : V m c main_v1
    = truncf (F := Ideal) .bf16 (extractStridedSlice S768x1024 ![0, 0] (m ((c.tc : Thread nD τ).loc main_arg5) : FVec Ideal S1024x1024 .f32) slices_S1024x1024_S768x1024_0_0) bitsLt_bf16_f32 := by
  unfold V
  after_results <;> rfl
theorem V_wc (c : Dev nD) : V m c main_v3
    = truncf (F := Ideal) .bf16 (extractStridedSlice S256x1024 ![768, 0] (m ((c.tc : Thread nD τ).loc main_arg5) : FVec Ideal S1024x1024 .f32) slices_S1024x1024_S256x1024_768_0) bitsLt_bf16_f32 := by
  unfold V
  after_results <;> rfl

/-- The row of the arrays a block's row lies at, and the batch of the block. -/
def row (t : Fin cfg0.N) (r : Fin 512) : Fin 16384 := ⟨512 * t.val + r.val, by
  have ht : t.val < 32 := t.isLt
  have := r.isLt
  omega⟩
def batch (t : Fin cfg0.N) : Fin 2 := ⟨t.val / 16, by
  have ht : t.val < 32 := t.isLt
  omega⟩

theorem blk0 (c : Dev nD) (t : Fin cfg0.N) (r : Fin 512) (k : Fin 1024) : iblk m c 0 t (ix2 r k)
    = m ((c.tc : Thread nD τ).loc main_arg0) (ix2 (row t r) k) := by
  blk_simp [iblk, V_main_arg0]
  refine congrArg _ ?_
  blk_ext [index0, row]

theorem blk1 (c : Dev nD) (t : Fin cfg0.N) (r : Fin 512) (k : Fin 768) : iblk m c 1 t (ix2 r k)
    = m ((c.tc : Thread nD τ).loc main_arg1) (ix2 (row t r) k) := by
  blk_simp [iblk, V_main_arg1]
  refine congrArg _ ?_
  blk_ext [index1, row]

theorem blk2 (c : Dev nD) (t : Fin cfg0.N) (r : Fin 512) (k : Fin 256) : iblk m c 2 t (ix2 r k)
    = m ((c.tc : Thread nD τ).loc main_arg2) (ix2 (row t r) k) := by
  blk_simp [iblk, V_main_arg2]
  refine congrArg _ ?_
  blk_ext [index2, row]

theorem blk3 (c : Dev nD) (t : Fin cfg0.N) (n l : Fin 256) : iblk m c 3 t (ix3 0 n l)
    = m ((c.tc : Thread nD τ).loc main_arg3) (ix3 (batch t) n l) := by
  blk_simp [iblk, V_main_arg3]
  refine congrArg _ ?_
  blk_ext [index3, batch]

theorem blk4 (c : Dev nD) (t : Fin cfg0.N) (n l : Fin 256) : iblk m c 4 t (ix3 0 n l)
    = m ((c.tc : Thread nD τ).loc main_arg4) (ix3 (batch t) n l) := by
  blk_simp [iblk, V_main_arg4]
  refine congrArg _ ?_
  blk_ext [index4, batch]

theorem blk5 (c : Dev nD) (t : Fin cfg0.N) (i : Fin 768) (j : Fin 1024) : iblk m c 5 t (ix2 i j)
    = m ((c.tc : Thread nD τ).loc main_arg5) (ix2 ⟨i.val, lt_of_lt_of_le i.isLt (by decide)⟩ j) := by
  blk_simp [iblk]
  have e : (win0_5.blk t).view.emb (ix2 i j) = ix2 i j := by blk_ext [index5]
  rw [e, V_wm]
  pointwise

theorem blk6 (c : Dev nD) (t : Fin cfg0.N) (i : Fin 256) (j : Fin 1024) : iblk m c 6 t (ix2 i j)
    = m ((c.tc : Thread nD τ).loc main_arg5) (ix2 ⟨768 + i.val, Nat.add_lt_add_left i.isLt 768⟩ j) := by
  blk_simp [iblk]
  have e : (win0_6.blk t).view.emb (ix2 i j) = ix2 i j := by blk_ext [index6]
  rw [e, V_wc]
  pointwise

theorem blk7 (c : Dev nD) (t : Fin cfg0.N) (k : Fin 1024) : iblk m c 7 t (ix2 0 k)
    = m ((c.tc : Thread nD τ).loc main_arg6) (ix1 k) := by
  blk_simp [iblk]
  have e : (win0_7.blk t).view.emb (ix2 0 k) = ix2 0 k := by blk_ext [index7]
  rw [e, V_gain]
  pointwise

theorem blk8 (c : Dev nD) (t : Fin cfg0.N) (k : Fin 1024) (f : Fin 2816) : iblk m c 8 t (ix3 0 k f)
    = m ((c.tc : Thread nD τ).loc main_arg7) (ix3 3 k f) := by
  blk_simp [iblk, V_main_arg7]
  refine congrArg _ ?_
  blk_ext [index8]

theorem blk9 (c : Dev nD) (t : Fin cfg0.N) (k : Fin 1024) (f : Fin 2816) : iblk m c 9 t (ix3 0 k f)
    = m ((c.tc : Thread nD τ).loc main_arg8) (ix3 3 k f) := by
  blk_simp [iblk, V_main_arg8]
  refine congrArg _ ?_
  blk_ext [index9]

theorem blk10 (c : Dev nD) (t : Fin cfg0.N) (k : Fin 1024) (f : Fin 2816) : iblk m c 10 t (ix3 0 f k)
    = m ((c.tc : Thread nD τ).loc main_arg9) (ix3 3 f k) := by
  blk_simp [iblk, V_main_arg9]
  refine congrArg _ ?_
  blk_ext [index10]

theorem blk11 (c : Dev nD) (t : Fin cfg0.N) (k : Fin 1024) : iblk m c 11 t (ix2 0 k)
    = m ((c.tc : Thread nD τ).loc main_arg10) (ix1 k) := by
  blk_simp [iblk]
  have e : (win0_11.blk t).view.emb (ix2 0 k) = ix2 0 k := by blk_ext [index11]
  rw [e, V_gain_final]
  pointwise

/-- Every element of the array is a real number. -/
def AllReal {s : Shape} (a : FVec Ideal s .f32) : Prop := ∀ i, ∃ u : ℝ, a i = u

section Finite

variable (hq : ∀ c : Dev nD, AllReal (m ((c.tc : Thread nD τ).loc main_arg2) : FVec Ideal S16384x256 .f32))
    (hk : ∀ c : Dev nD, AllReal (m ((c.tc : Thread nD τ).loc main_arg3) : FVec Ideal S2x256x256 .f32))
include hq hk

/-- A block's residual rows after the attention are those of the whole array. -/
theorem mixed_row (c : Dev nD) (t : Fin cfg0.N) (r : Fin 512) :
    (fun j => mixed (iblk m c 0 t) (iblk m c 1 t) (iblk m c 2 t) (iblk m c 3 t) (iblk m c 4 t) (iblk m c 5 t) (iblk m c 6 t) (ix2 r j)) = midRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (row t r) := by
  funext j
  refine (mixed_eq (iblk m c 0 t) (iblk m c 1 t) (iblk m c 2 t) (iblk m c 3 t) (iblk m c 4 t) (iblk m c 5 t) (iblk m c 6 t) (fun r l => by rw [blk2]; exact hq c _) (fun n l => by rw [blk3]; exact hk c _) r j).trans ?_
  have hb : (⟨(row t r).val / 8192, by have := (row t r).isLt; omega⟩ : Fin 2) = batch t := by
    apply Fin.ext
    have := r.isLt
    simp only [row, batch]
    omega
  unfold midRow merged crossRow
  rw [hb]
  simp only [blk0, blk1, blk2, blk3, blk4, blk5, blk6]

/-- The stored block `t`, from the blocks the point loads. -/
theorem block_eq (c : Dev nD) (t : Fin cfg0.N) (y : S512x1024.Idx) :
    k0_pay2 (F := Ideal) (mixed (iblk m c 0 t) (iblk m c 1 t) (iblk m c 2 t) (iblk m c 3 t) (iblk m c 4 t) (iblk m c 5 t) (iblk m c 6 t)) (hid (normed (iblk m c 0 t) (iblk m c 1 t) (iblk m c 2 t) (iblk m c 3 t) (iblk m c 4 t) (iblk m c 5 t) (iblk m c 6 t) (iblk m c 7 t)) (iblk m c 8 t) (iblk m c 9 t)) (iblk m c 10 t) (iblk m c 11 t) y
      = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (((View.whole main_v6).slice (win0_12.rect t)).emb y) := by
  have e0 : ((View.whole main_v6).slice (win0_12.rect t)).emb y = ix2 (row t (y 0)) (y 1) := by blk_ext [index12, row]
  have hm := mixed_row m hq hk c t (y 0)
  refine (stored _ _ _ _ y).trans (Eq.trans ?_ (congrArg (out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) e0).symm)
  have hn : (fun k => normed (iblk m c 0 t) (iblk m c 1 t) (iblk m c 2 t) (iblk m c 3 t) (iblk m c 4 t) (iblk m c 5 t) (iblk m c 6 t) (iblk m c 7 t) (ix2 (y 0) k))
      = rms (midRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (row t (y 0))) (fun k => m ((c.tc : Thread nD τ).loc main_arg6) (ix1 k)) := by
    rw [← hm]
    exact funext fun k => (normed_eq (iblk m c 0 t) (iblk m c 1 t) (iblk m c 2 t) (iblk m c 3 t) (iblk m c 4 t) (iblk m c 5 t) (iblk m c 6 t) (iblk m c 7 t) (y 0) k).trans
      (congrArg (fun g => rms (fun j => mixed (iblk m c 0 t) (iblk m c 1 t) (iblk m c 2 t) (iblk m c 3 t) (iblk m c 4 t) (iblk m c 5 t) (iblk m c 6 t) (ix2 (y 0) j)) g k) (funext (blk7 m c t)))
  have hw : ∀ f, hid (normed (iblk m c 0 t) (iblk m c 1 t) (iblk m c 2 t) (iblk m c 3 t) (iblk m c 4 t) (iblk m c 5 t) (iblk m c 6 t) (iblk m c 7 t)) (iblk m c 8 t) (iblk m c 9 t) (ix2 (y 0) f)
      = hidRow (rms (midRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (row t (y 0))) (fun k => m ((c.tc : Thread nD τ).loc main_arg6) (ix1 k))) (fun k f => m ((c.tc : Thread nD τ).loc main_arg7) (ix3 3 k f)) (fun k f => m ((c.tc : Thread nD τ).loc main_arg8) (ix3 3 k f)) f := fun f => by
    rw [← hn]
    have h8 : (fun k f => iblk m c 8 t (ix3 0 k f)) = fun k f => m ((c.tc : Thread nD τ).loc main_arg7) (ix3 3 k f) := funext fun k => funext fun f => blk8 m c t k f
    have h9 : (fun k f => iblk m c 9 t (ix3 0 k f)) = fun k f => m ((c.tc : Thread nD τ).loc main_arg8) (ix3 3 k f) := funext fun k => funext fun f => blk9 m c t k f
    rw [← h8, ← h9]
    rfl
  have hz : (fun j => mixed (iblk m c 0 t) (iblk m c 1 t) (iblk m c 2 t) (iblk m c 3 t) (iblk m c 4 t) (iblk m c 5 t) (iblk m c 6 t) (ix2 (y 0) j) + Ideal.ofBits .f32 0x3F000000#32 * ∑ f, hid (normed (iblk m c 0 t) (iblk m c 1 t) (iblk m c 2 t) (iblk m c 3 t) (iblk m c 4 t) (iblk m c 5 t) (iblk m c 6 t) (iblk m c 7 t)) (iblk m c 8 t) (iblk m c 9 t) (ix2 (y 0) f) * iblk m c 10 t (ix3 0 f j))
      = half (midRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (row t (y 0))) (fun k => m ((c.tc : Thread nD τ).loc main_arg6) (ix1 k)) (fun k f => m ((c.tc : Thread nD τ).loc main_arg7) (ix3 3 k f)) (fun k f => m ((c.tc : Thread nD τ).loc main_arg8) (ix3 3 k f)) (fun f k => m ((c.tc : Thread nD τ).loc main_arg9) (ix3 3 f k)) := by
    funext j
    refine congrArg₂ (· + ·) (congrFun hm j) (congrArg (Ideal.ofBits .f32 0x3F000000#32 * ·) (Finset.sum_congr rfl fun f _ => ?_))
    exact congrArg₂ (· * ·) (hw f) (blk10 m c t j f)
  exact congrFun (congrArg₂ rms hz (funext (blk11 m c t))) (y 1)

/-- The array the result ends with. -/
theorem final12 (c : Dev nD) : (dats m 0 c).arrAt 12 cfg0.N = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (dats m 0 c).arrAt_eq_of_covers 12 _ (by decide +kernel) fun t hf y => ?_
  blk_simp
  rw [after0_12]
  unfold outsAt0
  frame_out
  refine Eq.trans ?_ (block_eq m hq hk c t y)
  exact congrFun (congrArg (fun z : FVec Ideal S512x2816 .bf16 => k0_pay2 (F := Ideal) (mixed (iblk m c 0 t) (iblk m c 1 t) (iblk m c 2 t) (iblk m c 3 t) (iblk m c 4 t) (iblk m c 5 t) (iblk m c 6 t)) z (iblk m c 10 t) (iblk m c 11 t))
    (scratch_read _ (normed (iblk m c 0 t) (iblk m c 1 t) (iblk m c 2 t) (iblk m c 3 t) (iblk m c 4 t) (iblk m c 5 t) (iblk m c 6 t) (iblk m c 7 t)) (iblk m c 8 t) (iblk m c 9 t))) y

/-- The kernel runs and leaves `out` of its arguments. -/
theorem run : θ_run defs (onTc (τ := τ) (main (F := Ideal))) ⟨m, fun _ => 0, ρ⟩ fun r => ∀ c : Dev nD,
      r.2.mem ((c.tc : Thread nD τ).loc main_v6) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (final12 m hq hk c), (h c).2⟩) (Value.run_blocks m ρ)

end Finite

end Cert.CrossIdeal.Read

end
-- ==== Proof.CrossRef.lean ====
/-
  What the plain reference of the cross attention call computes, row by row.
-/
module

public import proofs.«01_k».proof.Proof.Gen.CrossRefIdeal.Run
public import proofs.«01_k».proof.Proof.Attn

@[expose] public section

set_option maxRecDepth 16384

noncomputable section

open Idealize.ShloMosaic Idealize.ShloMosaic.TcCoe Idealize.SL.Sem
open Idealize.ShloMosaic.Pipeline (Dat)

namespace Cert.CrossRefIdeal.Read

open Cert.CrossRefIdeal Cert.CrossRefIdeal.Gen Cert.Rows Idealize.ShloMosaic.StableHlo

/-- The memory cross attention's output for row `r`: batch `r / 8192` has its own memory. -/
def crossRow (q : FVec Ideal S16384x256 .f32) (k v : FVec Ideal S2x256x256 .f32) (r : Fin 16384) : Fin 256 → EReal :=
  attend (fun l => q (ix2 r l)) (fun n l => k (ix3 ⟨r.val / 8192, by have := r.isLt; omega⟩ n l))
    (fun n l => v (ix3 ⟨r.val / 8192, by have := r.isLt; omega⟩ n l))

/-- Row `r` of the residual stream after the mixer's and the attention's outputs are added. -/
def midRow (x : FVec Ideal S16384x1024 .f32) (mix : FVec Ideal S16384x768 .f32) (q : FVec Ideal S16384x256 .f32)
    (k v : FVec Ideal S2x256x256 .f32) (w : FVec Ideal S1024x1024 .f32) (r : Fin 16384) : Fin 1024 → EReal :=
  merged (fun j => x (ix2 r j)) (fun i => mix (ix2 r i)) (crossRow q k v r) (fun i j => w (ix2 i j))

/-- The call's result as one function of the arguments: half a feed-forward step with the weights of index three on the
    merged row, then the final norm. -/
def out (x : FVec Ideal S16384x1024 .f32) (mix : FVec Ideal S16384x768 .f32) (q : FVec Ideal S16384x256 .f32) (k : FVec Ideal S2x256x256 .f32) (v : FVec Ideal S2x256x256 .f32) (w : FVec Ideal S1024x1024 .f32) (g : FVec Ideal S1024 .f32) (wg : FVec Ideal S4x1024x2816 .bf16) (wu : FVec Ideal S4x1024x2816 .bf16) (wd : FVec Ideal S4x2816x1024 .bf16) (gf : FVec Ideal S1024 .f32) : FVec Ideal S16384x1024 .f32 := fun i =>
  rms (half (midRow x mix q k v w (i 0)) (fun k => g (ix1 k)) (fun k f => wg (ix3 3 k f)) (fun k f => wu (ix3 3 k f))
    (fun f k => wd (ix3 3 f k))) (fun k => gf (ix1 k)) (i 1)

variable (V0 : Valuation τ sig (Elt Ideal))

/-- The row of the arrays that holds position `t` of batch `b`. -/
def pos (b : Fin 2) (t : Fin 8192) : Fin 16384 := ⟨b.val * 8192 + t.val, by have := b.isLt; have := t.isLt; omega⟩

/-- The scaled scores. -/
theorem scores (b : Fin 2) (h : Fin 4) (t : Fin 8192) (n : Fin 256) : Value.res_main_v6 V0 (ix4 b h t n)
    = score (fun l => (V0 (Proc.devRef .tc main_arg2)) (ix2 (pos b t) l)) (fun n l => (V0 (Proc.devRef .tc main_arg3)) (ix3 b n l)) h n := by
  unfold Value.res_main_v6
  generalize (V0 (Proc.devRef .tc main_arg2) : FVec Ideal S16384x256 .f32) = q
  generalize (V0 (Proc.devRef .tc main_arg3) : FVec Ideal S2x256x256 .f32) = k
  pointwise [score, lane, pos]

/-- Indices that agree up to the last axis are those of one line. -/
theorem line (b : Fin 2) (h : Fin 4) (t : Fin 8192)
    {inst : DecidablePred fun i : S2x4x8192x256.Idx => reducesTo_S2x4x8192x256_S2x4x8192_d3.drop i = ix3 b h t} :
    (Finset.univ.filter fun i : S2x4x8192x256.Idx => reducesTo_S2x4x8192x256_S2x4x8192_d3.drop i = ix3 b h t)
      = Finset.univ.map ⟨fun n : Fin 256 => (ix4 b h t n : S2x4x8192x256.Idx), fun _ _ e => congrFun e 3⟩ := by
  ext i
  simp only [Finset.mem_filter, Finset.mem_univ, true_and, Finset.mem_map, Function.Embedding.coeFn_mk]
  constructor
  · intro e
    have e0 := congrArg Fin.val (congrFun e 0)
    have e1 := congrArg Fin.val (congrFun e 1)
    have e2 := congrArg Fin.val (congrFun e 2)
    refine ⟨i 3, funext fun a => Fin.ext ?_⟩
    fin_cases a
    · exact e0.symm
    · exact e1.symm
    · exact e2.symm
    · rfl
  · rintro ⟨n, rfl⟩
    funext a
    fin_cases a <;> rfl

/-- So the maximum over them is the largest of the line. -/
theorem top_line (s : FVec Ideal S2x4x8192x256 .f32) (b : Fin 2) (h : Fin 4) (t : Fin 8192) :
    Host.reduce (FloatOps.maximumf (F := Ideal) (φ := .f32)) s (constant S_ .f32 0xFF800000#32) reducesTo_S2x4x8192x256_S2x4x8192_d3 h_S_ (ix3 b h t)
      = top (fun n => s (ix4 b h t n)) := by
  refine (Host.reduce_eq_fold (FloatOps.maximumf (F := Ideal) (φ := .f32)) s _ _ _ _).trans ?_
  rw [line, Finset.fold_map]
  rfl

/-- The exponential of the scores less a maximum that starts at the least value. -/
theorem exp_of (s : FVec Ideal S2x4x8192x256 .f32) (M : FVec Ideal S2x4x8192 .f32) (b : Fin 2) (h : Fin 4) (t : Fin 8192) (n : Fin 256) :
    Host.exp (subf s (broadcastInDim S2x4x8192x256 ![0, 1, 2, 3] bcast_S2x4x8192x1_S2x4x8192x256_0_1_2_3
      (broadcastInDim S2x4x8192x1 ![0, 1, 2] bcast_S2x4x8192_S2x4x8192x1_0_1_2 (maximumf
        (broadcastInDim S2x4x8192 ![] bcast_S_S2x4x8192 (constant S_ .f32 0xFF800000#32)) M)))) (ix4 b h t n)
      = Ideal.exp (s (ix4 b h t n) - M (ix3 b h t)) := by
  pointwise
  rw [neg_inf, max_eq_right bot_le]

/-- The unnormalized weights. -/
theorem weights (b : Fin 2) (h : Fin 4) (t : Fin 8192) (n : Fin 256) : Value.res_main_v13 V0 (ix4 b h t n)
    = weight (score (fun l => (V0 (Proc.devRef .tc main_arg2)) (ix2 (pos b t) l)) (fun n l => (V0 (Proc.devRef .tc main_arg3)) (ix3 b n l)) h) n := by
  have hs : (fun n => Value.res_main_v6 V0 (ix4 b h t n))
      = score (fun l => (V0 (Proc.devRef .tc main_arg2)) (ix2 (pos b t) l)) (fun n l => (V0 (Proc.devRef .tc main_arg3)) (ix3 b n l)) h := funext (scores V0 b h t)
  unfold Value.res_main_v13
  refine (exp_of (Value.res_main_v6 V0) _ b h t n).trans ?_
  rw [← hs, weight]
  exact congrArg (fun y : EReal => Ideal.exp (HSub.hSub (α := EReal) (β := EReal) (Value.res_main_v6 V0 (ix4 b h t n)) y)) (top_line _ b h t)

/-- The residual stream after the attention. -/
theorem mid_eq (r : Fin 16384) (j : Fin 1024) : Value.res_main_v24 V0 (ix2 r j)
    = midRow (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) r j := by
  have hw := weights V0
  have hr : pos ⟨r.val / 8192, by have := r.isLt; omega⟩ ⟨r.val % 8192, Nat.mod_lt _ (by decide)⟩ = r :=
    Fin.ext (Nat.div_add_mod' r.val 8192)
  unfold Value.res_main_v24
  revert hw
  generalize (Value.res_main_v13 V0 : FVec Ideal S2x4x8192x256 .f32) = p
  generalize (V0 (Proc.devRef .tc main_arg0) : FVec Ideal S16384x1024 .f32) = x
  generalize (V0 (Proc.devRef .tc main_arg1) : FVec Ideal S16384x768 .f32) = mix
  generalize (V0 (Proc.devRef .tc main_arg2) : FVec Ideal S16384x256 .f32) = q
  generalize (V0 (Proc.devRef .tc main_arg3) : FVec Ideal S2x256x256 .f32) = k
  generalize (V0 (Proc.devRef .tc main_arg4) : FVec Ideal S2x256x256 .f32) = v
  generalize (V0 (Proc.devRef .tc main_arg5) : FVec Ideal S1024x1024 .f32) = w
  intro hw
  have hl : ∀ l : Fin 256, (⟨l.val / 64 * 64 + l.val % 64, by have := l.isLt; omega⟩ : Fin 256) = l :=
    fun l => Fin.ext (Nat.div_add_mod' l.val 64)
  pointwise [midRow, merged, crossRow, attend]
  simp only [hw, hr, hl]
  rfl

/-- The reference runs and leaves `out` of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (by
    have hm : ∀ (r : Fin 16384) (j : Fin 1024), Value.res_main_v24 (launchContents m c) (ix2 r j)
        = midRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) r j := mid_eq (launchContents m c)
    unfold Value.res_main_v54 Value.res_main_v47 Value.res_main_v46
    revert hm
    generalize (Value.res_main_v24 (launchContents m c) : FVec Ideal S16384x1024 .f32) = z
    intro hm
    funext i
    idx_vars i
    refine Eq.trans ?_ (congrArg (fun y : Fin 16384 → Fin 1024 → EReal => rms (half (y i0) (fun k => (m ((c.tc : Thread nD τ).loc main_arg6)) (ix1 k)) (fun k f => (m ((c.tc : Thread nD τ).loc main_arg7)) (ix3 3 k f))
      (fun k f => (m ((c.tc : Thread nD τ).loc main_arg8)) (ix3 3 k f)) (fun f k => (m ((c.tc : Thread nD τ).loc main_arg9)) (ix3 3 f k))) (fun k => (m ((c.tc : Thread nD τ).loc main_arg10)) (ix1 k)) i1) (funext fun r => funext (hm r)))
    pointwise [half, hidRow, rms]
    rfl), (h c).2⟩) (Value.run m ρ)

end Cert.CrossRefIdeal.Read

end
-- ==== Proof.CrossFinite.lean ====
/-
  What the precondition of the cross attention says: that queries and memory keys are real numbers.
-/
module

public import proofs.«01_k».proof.Defs
public import proofs.«01_k».proof.Proof.CrossValue

@[expose] public section

noncomputable section

namespace Cert.CrossIdeal.Read

open Idealize.ShloMosaic Idealize.ShloMosaic.TcCoe

/-- The shape relations the precondition's operations take. -/
theorem finite_facts : Cert.Pre_finite_scores.Facts := ⟨by decide, by decide⟩

/-- The constant the precondition compares with is the upper bound of the extended reals. -/
theorem top_const : Ideal.ofBits .f32 0x7F800000#32 = ⊤ := by simp [Ideal.ofBits, Ideal.ieee]

/-- A number whose absolute value lies below the upper bound is real. -/
theorem real_of_abs_lt (x : EReal) (h : max x (-x) < ⊤) : ∃ u : ℝ, x = u := by
  induction x with
  | bot => simp at h
  | top => simp at h
  | coe u => exact ⟨u, rfl⟩

/-- A comparison that gives one says that the absolute value lies below the bound. -/
theorem real_of_cmp {s : Shape} (a b : FVec Ideal s .f32) (hb : ∀ i, b i = (⊤ : EReal)) (h : cmpf .olt (Host.absf a) b = fun _ => 1#1) :
    AllReal a := fun i => by
  have e : Ideal.cmp .olt (max (a i) (-(a i))) (b i) = 1#1 := congrFun h i
  rw [hb i] at e
  exact real_of_abs_lt _ (by by_contra hn; simp [Ideal.cmp, hn] at e)

/-- The precondition: queries and memory keys are real numbers. -/
theorem all_real (m : (ℓ : Loc nD τ sig) → Buf (Elt Ideal) ℓ)
    (h : Cert.Pre_CrossIdeal_finite_scores (hPre_finite_scores := finite_facts) m) (c : Dev nD) :
    AllReal (m ((c.tc : Thread nD τ).loc main_arg2) : FVec Ideal S16384x256 .f32)
      ∧ AllReal (m ((c.tc : Thread nD τ).loc main_arg3) : FVec Ideal S2x256x256 .f32) :=
  ⟨real_of_cmp _ _ (fun _ => top_const) (h c).1, real_of_cmp _ _ (fun _ => top_const) (h c).2⟩

end Cert.CrossIdeal.Read

end
-- ==== Proof.ProjValue.lean ====
/-
  What the projecting feed-forward kernel computes: every block of 512 rows of its three results, row by row. The
  hidden layer is built in a scratch array in eleven chunks of 256 columns; read back whole it is the hidden layer.
-/
module

public import proofs.«01_k».proof.Proof.Gen.ProjIdeal.Value
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.ProjIdeal.Read

open Cert.ProjIdeal Cert.ProjIdeal.Gen Cert.Rows

/-- The hidden layer of a block of normed rows, at the one stacked weight the block's buffers hold. -/
def hid (n : FVec Ideal S512x1024 .bf16) (wg wu : FVec Ideal S1x1024x2816 .bf16) : FVec Ideal S512x2816 .bf16 := fun y =>
  hidRow (fun k => n (ix2 (y 0) k)) (fun k f => wg (ix3 0 k f)) (fun k f => wu (ix3 0 k f)) (y 1)

/-- A chunk of 256 weight columns loaded from column `o` on, at an index. -/
theorem ld_col (o : ℕ) (h : ∀ a, (![0, 0, o] : Fin 3 → ℕ) a + S1x1024x256.size a ≤ S1x1024x2816.size a)
    (h' : ∀ a, (![0, o] : Fin 2 → ℕ) a + S512x256.size a ≤ S512x2816.size a)
    (w : FVec Ideal S1x1024x2816 .bf16) (k : Fin 1024) (x : S512x256.Idx) :
    View.ld (Val := Elt Ideal) (S := S1x1024x2816) (e' := .bf16) w (Rect.unit (s := S1x1024x2816) ![0, 0, o] S1x1024x256.size h) (ix3 0 k (x 1))
      = w (ix3 0 k ((Rect.unit (s := S512x2816) ![0, o] S512x256.size h').emb x 1)) := by
  refine congrArg w (funext fun a => Fin.ext ?_)
  fin_cases a <;> simp [Rect.emb_apply]

/-- The chunk of hidden columns from column `o` on, computed from the weight columns there, is that part of the hidden
    layer. -/
theorem chunk (o : ℕ) (h : ∀ a, (![0, 0, o] : Fin 3 → ℕ) a + S1x1024x256.size a ≤ S1x1024x2816.size a)
    (h' : ∀ a, (![0, o] : Fin 2 → ℕ) a + S512x256.size a ≤ S512x2816.size a)
    (n : FVec Ideal S512x1024 .bf16) (wg wu : FVec Ideal S1x1024x2816 .bf16) (x : S512x256.Idx) :
    k0_pay10 n (View.ld (Val := Elt Ideal) (S := S1x1024x2816) (e' := .bf16) wg (Rect.unit (s := S1x1024x2816) ![0, 0, o] S1x1024x256.size h))
        (View.ld (Val := Elt Ideal) (S := S1x1024x2816) (e' := .bf16) wu (Rect.unit (s := S1x1024x2816) ![0, 0, o] S1x1024x256.size h)) x
      = hid n wg wu ((Rect.unit (s := S512x2816) ![0, o] S512x256.size h').emb x) := by
  have e0 : (Rect.unit (s := S512x2816) ![0, o] S512x256.size h').emb x 0 = x 0 := Fin.ext (by simp [Rect.emb_apply])
  unfold hid hidRow
  simp only [e0, ← ld_col o h h']
  pointwise [k0_pay10]

/-- What the block writes to the scratch array at columns `o` to `o + 255`. -/
def part (o : ℕ) (h : ∀ a, (![0, 0, o] : Fin 3 → ℕ) a + S1x1024x256.size a ≤ S1x1024x2816.size a)
    (h' : ∀ a, (![0, o] : Fin 2 → ℕ) a + S512x256.size a ≤ S512x2816.size a)
    (n : FVec Ideal S512x1024 .bf16) (wg wu : FVec Ideal S1x1024x2816 .bf16) : View.Piece (Elt Ideal) S512x2816 .bf16 :=
  ⟨Rect.unit (s := S512x2816) ![0, o] S512x256.size h', k0_pay10 n
    (View.ld (Val := Elt Ideal) (S := S1x1024x2816) (e' := .bf16) wg (Rect.unit (s := S1x1024x2816) ![0, 0, o] S1x1024x256.size h))
    (View.ld (Val := Elt Ideal) (S := S1x1024x2816) (e' := .bf16) wu (Rect.unit (s := S1x1024x2816) ![0, 0, o] S1x1024x256.size h))⟩

/-- The eleven parts, the last written first. -/
def parts (n : FVec Ideal S512x1024 .bf16) (wg wu : FVec Ideal S1x1024x2816 .bf16) : List (View.Piece (Elt Ideal) S512x2816 .bf16) :=
  [part 2560 (by decide) (by decide) n wg wu, part 2304 (by decide) (by decide) n wg wu, part 2048 (by decide) (by decide) n wg wu, part 1792 (by decide) (by decide) n wg wu, part 1536 (by decide) (by decide) n wg wu, part 1280 (by decide) (by decide) n wg wu, part 1024 (by decide) (by decide) n wg wu, part 768 (by decide) (by decide) n wg wu, part 512 (by decide) (by decide) n wg wu, part 256 (by decide) (by decide) n wg wu, part 0 (by decide) (by decide) n wg wu]

/-- Loading the whole scratch array gives each entry of it. -/
theorem scratch_idx (y : S512x2816.Idx) : (Rect.unit (s := S512x2816) ![0, 0] ![512, 2816] inb_S512x2816_S512x2816_0_0).toLoadRect.idx y = y := by
  funext a
  apply Fin.ext
  fin_cases a <;> simp [LoadRect.idx]

/-- The scratch array read back whole is the hidden layer of the block. -/
theorem scratch_read {κ : Kind} {sp : Space} (v : View sig κ sp S512x2816 .bf16) (n : FVec Ideal S512x1024 .bf16) (wg wu : FVec Ideal S1x1024x2816 .bf16) :
    v.readCov (parts n wg wu) (Rect.unit (s := S512x2816) ![0, 0] ![512, 2816] inb_S512x2816_S512x2816_0_0).toLoadRect
      = hid n wg wu := by
  refine (readCov_parts _ (hid n wg wu) _ _ ?_ ?_).trans (funext fun j => congrArg _ (scratch_idx j))
  · refine List.forall_mem_cons.2 ⟨fun x => chunk 2560 (by decide) (by decide) n wg wu x,
      List.forall_mem_cons.2 ⟨fun x => chunk 2304 (by decide) (by decide) n wg wu x,
      List.forall_mem_cons.2 ⟨fun x => chunk 2048 (by decide) (by decide) n wg wu x,
      List.forall_mem_cons.2 ⟨fun x => chunk 1792 (by decide) (by decide) n wg wu x,
      List.forall_mem_cons.2 ⟨fun x => chunk 1536 (by decide) (by decide) n wg wu x,
      List.forall_mem_cons.2 ⟨fun x => chunk 1280 (by decide) (by decide) n wg wu x,
      List.forall_mem_cons.2 ⟨fun x => chunk 1024 (by decide) (by decide) n wg wu x,
      List.forall_mem_cons.2 ⟨fun x => chunk 768 (by decide) (by decide) n wg wu x,
      List.forall_mem_cons.2 ⟨fun x => chunk 512 (by decide) (by decide) n wg wu x,
      List.forall_mem_cons.2 ⟨fun x => chunk 256 (by decide) (by decide) n wg wu x,
      List.forall_mem_cons.2 ⟨fun x => chunk 0 (by decide) (by decide) n wg wu x,
      List.forall_mem_nil _⟩⟩⟩⟩⟩⟩⟩⟩⟩⟩⟩
  · exact View.cover_of_tiledL _ S512x256.size (by sl_kernel_rfl)

/-- The residual rows of a block, computed from the blocks it loads. -/
def blockMid (x0 : FVec Ideal S512x1024 .f32) (x1 : FVec Ideal S1x1024 .f32) (x2 x3 : FVec Ideal S1x1024x2816 .bf16)
    (x4 : FVec Ideal S1x2816x1024 .bf16) (r : Fin 512) : Fin 1024 → EReal :=
  half (fun k => x0 (ix2 r k)) (fun k => x1 (ix2 0 k)) (fun k f => x2 (ix3 0 k f)) (fun k f => x3 (ix3 0 k f))
    (fun f k => x4 (ix3 0 f k))

/-- The stored residual block. -/
theorem block_mid (x0 : FVec Ideal S512x1024 .f32) (x1 : FVec Ideal S1x1024 .f32) (x2 x3 : FVec Ideal S1x1024x2816 .bf16)
    (x4 : FVec Ideal S1x2816x1024 .bf16) (y : S512x1024.Idx) :
    k0_pay1 (F := Ideal) x0 (k0_pay21 (hid (k0_pay5 x0 x1) x2 x3) x4) k0_pay22 y = blockMid x0 x1 x2 x3 x4 (y 0) (y 1) := by
  idx_vars y
  pointwise [k0_pay1, k0_pay5, k0_pay21, k0_pay22, hid, blockMid, half, hidRow, rms]

/-- The first stored projection from the residual block. -/
theorem block_proj1 (x0 a b : FVec Ideal S512x1024 .f32) (x5 : FVec Ideal S1x1024 .f32) (x6 : FVec Ideal S1024x768 .bf16)
    (y : S512x768.Idx) : k0_pay3 (F := Ideal) x0 a b x5 x6 y
      = ∑ k, rms (fun l => k0_pay1 (F := Ideal) x0 a b (ix2 (y 0) l)) (fun k => x5 (ix2 0 k)) k * x6 (ix2 k (y 1)) := by
  unfold k0_pay3 k0_pay2
  generalize k0_pay1 (F := Ideal) x0 a b = z
  idx_vars y
  pointwise [rms]

/-- The second stored projection from the residual block. -/
theorem block_proj2 (x0 a b : FVec Ideal S512x1024 .f32) (x5 : FVec Ideal S1x1024 .f32) (x6 : FVec Ideal S1024x256 .bf16)
    (y : S512x256.Idx) : k0_pay4 (F := Ideal) x0 a b x5 x6 y
      = ∑ k, rms (fun l => k0_pay1 (F := Ideal) x0 a b (ix2 (y 0) l)) (fun k => x5 (ix2 0 k)) k * x6 (ix2 k (y 1)) := by
  unfold k0_pay4 k0_pay2
  generalize k0_pay1 (F := Ideal) x0 a b = z
  idx_vars y
  pointwise [rms]

/-- Row `r` of the residual stream after half a feed-forward step with the weights of layer zero. -/
def mid (x : FVec Ideal S16384x1024 .f32) (g : FVec Ideal S1024 .f32) (wg : FVec Ideal S4x1024x2816 .bf16) (wu : FVec Ideal S4x1024x2816 .bf16) (wd : FVec Ideal S4x2816x1024 .bf16) (gm : FVec Ideal S1024 .f32) (wi : FVec Ideal S1024x1024 .f32) (r : Fin 16384) : Fin 1024 → EReal :=
  half (fun k => x (ix2 r k)) (fun k => g (ix1 k)) (fun k f => wg (ix3 0 k f)) (fun k f => wu (ix3 0 k f))
    (fun f k => wd (ix3 0 f k))

/-- The residual stream as one function of the arguments. -/
def out0 (x : FVec Ideal S16384x1024 .f32) (g : FVec Ideal S1024 .f32) (wg : FVec Ideal S4x1024x2816 .bf16) (wu : FVec Ideal S4x1024x2816 .bf16) (wd : FVec Ideal S4x2816x1024 .bf16) (gm : FVec Ideal S1024 .f32) (wi : FVec Ideal S1024x1024 .f32) : FVec Ideal S16384x1024 .f32 := fun i =>
  mid x g wg wu wd gm wi (i 0) (i 1)

/-- The recurrence's part of the input projection: the first 768 columns. -/
def out1 (x : FVec Ideal S16384x1024 .f32) (g : FVec Ideal S1024 .f32) (wg : FVec Ideal S4x1024x2816 .bf16) (wu : FVec Ideal S4x1024x2816 .bf16) (wd : FVec Ideal S4x2816x1024 .bf16) (gm : FVec Ideal S1024 .f32) (wi : FVec Ideal S1024x1024 .f32) : FVec Ideal S16384x768 .f32 := fun i =>
  ∑ k, rms (mid x g wg wu wd gm wi (i 0)) (fun k => gm (ix1 k)) k * wi (ix2 k ⟨(i 1).val, lt_of_lt_of_le (i 1).isLt (by decide)⟩)

/-- The cross attention's part of the input projection: the last 256 columns. -/
def out2 (x : FVec Ideal S16384x1024 .f32) (g : FVec Ideal S1024 .f32) (wg : FVec Ideal S4x1024x2816 .bf16) (wu : FVec Ideal S4x1024x2816 .bf16) (wd : FVec Ideal S4x2816x1024 .bf16) (gm : FVec Ideal S1024 .f32) (wi : FVec Ideal S1024x1024 .f32) : FVec Ideal S16384x256 .f32 := fun i =>
  ∑ k, rms (mid x g wg wu wd gm wi (i 0)) (fun k => gm (ix1 k)) k * wi (ix2 k ⟨768 + (i 1).val, Nat.add_lt_add_left (i 1).isLt 768⟩)

variable (m : (ℓ : Loc nD τ sig) → Buf (Elt Ideal) ℓ) (ρ : Dev nD → PrngReg)

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0, 0] :=
  (by decide +kernel : ∀ t : Fin grid0.N, win0_2.index t = ![0, 0, 0])
theorem index3 : ∀ t : Fin cfg0.N, win0_3.index t = ![0, 0, 0] :=
  (by decide +kernel : ∀ t : Fin grid0.N, win0_3.index t = ![0, 0, 0])
theorem index4 : ∀ t : Fin cfg0.N, win0_4.index t = ![0, 0, 0] :=
  (by decide +kernel : ∀ t : Fin grid0.N, win0_4.index t = ![0, 0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![t.val, 0] :=
  (by decide +kernel : ∀ t : Fin grid0.N, win0_8.index t = ![t.val, 0])
theorem index9 : ∀ t : Fin cfg0.N, win0_9.index t = ![t.val, 0] :=
  (by decide +kernel : ∀ t : Fin grid0.N, win0_9.index t = ![t.val, 0])
theorem index10 : ∀ t : Fin cfg0.N, win0_10.index t = ![t.val, 0] :=
  (by decide +kernel : ∀ t : Fin grid0.N, win0_10.index t = ![t.val, 0])

/-- The two gains reach the kernel as rows, -/
theorem V_gain (c : Dev nD) : V m c main_v2
    = shapeCast S1x1024 (m ((c.tc : Thread nD τ).loc main_arg1) : FVec Ideal S1024 .f32) shapeCasts_S1024_S1x1024 := by
  unfold V
  after_results <;> rfl
theorem V_gain_mix (c : Dev nD) : V m c main_v3
    = shapeCast S1x1024 (m ((c.tc : Thread nD τ).loc main_arg5) : FVec Ideal S1024 .f32) shapeCasts_S1024_S1x1024 := by
  unfold V
  after_results <;> rfl
/-- and the projection's weights cut in two. -/
theorem V_w1 (c : Dev nD) : V m c main_v4
    = truncf (F := Ideal) .bf16 (extractStridedSlice S1024x768 ![0, 0] (m ((c.tc : Thread nD τ).loc main_arg6) : FVec Ideal S1024x1024 .f32) slices_S1024x1024_S1024x768_0_0) bitsLt_bf16_f32 := by
  unfold V
  after_results <;> rfl
theorem V_w2 (c : Dev nD) : V m c main_v5
    = truncf (F := Ideal) .bf16 (extractStridedSlice S1024x256 ![0, 768] (m ((c.tc : Thread nD τ).loc main_arg6) : FVec Ideal S1024x1024 .f32) slices_S1024x1024_S1024x256_0_768) bitsLt_bf16_f32 := by
  unfold V
  after_results <;> rfl

/-- The row of the arrays a block's row lies at. -/
def row (t : Fin cfg0.N) (r : Fin 512) : Fin 16384 := ⟨512 * t.val + r.val, by
  have ht : t.val < 32 := t.isLt
  have := r.isLt
  omega⟩

theorem blk0 (c : Dev nD) (t : Fin cfg0.N) (r : Fin 512) (k : Fin 1024) : iblk m c 0 t (ix2 r k)
    = m ((c.tc : Thread nD τ).loc main_arg0) (ix2 (row t r) k) := by
  blk_simp [iblk, V_main_arg0]
  refine congrArg _ ?_
  blk_ext [index0, row]

theorem blk1 (c : Dev nD) (t : Fin cfg0.N) (k : Fin 1024) :
    iblk m c 1 t (ix2 0 k) = m ((c.tc : Thread nD τ).loc main_arg1) (ix1 k) := by
  blk_simp [iblk]
  have e : (win0_1.blk t).view.emb (ix2 0 k) = ix2 0 k := by blk_ext [index1]
  rw [e, V_gain]
  pointwise

theorem blk2 (c : Dev nD) (t : Fin cfg0.N) (k : Fin 1024) (f : Fin 2816) :
    iblk m c 2 t (ix3 0 k f) = m ((c.tc : Thread nD τ).loc main_arg2) (ix3 0 k f) := by
  blk_simp [iblk, V_main_arg2]
  refine congrArg _ ?_
  blk_ext [index2]

theorem blk3 (c : Dev nD) (t : Fin cfg0.N) (k : Fin 1024) (f : Fin 2816) :
    iblk m c 3 t (ix3 0 k f) = m ((c.tc : Thread nD τ).loc main_arg3) (ix3 0 k f) := by
  blk_simp [iblk, V_main_arg3]
  refine congrArg _ ?_
  blk_ext [index3]

theorem blk4 (c : Dev nD) (t : Fin cfg0.N) (k : Fin 1024) (f : Fin 2816) :
    iblk m c 4 t (ix3 0 f k) = m ((c.tc : Thread nD τ).loc main_arg4) (ix3 0 f k) := by
  blk_simp [iblk, V_main_arg4]
  refine congrArg _ ?_
  blk_ext [index4]

theorem blk5 (c : Dev nD) (t : Fin cfg0.N) (k : Fin 1024) :
    iblk m c 5 t (ix2 0 k) = m ((c.tc : Thread nD τ).loc main_arg5) (ix1 k) := by
  blk_simp [iblk]
  have e : (win0_5.blk t).view.emb (ix2 0 k) = ix2 0 k := by blk_ext [index5]
  rw [e, V_gain_mix]
  pointwise

theorem blk6 (c : Dev nD) (t : Fin cfg0.N) (k : Fin 1024) (j : Fin 768) : iblk m c 6 t (ix2 k j)
    = m ((c.tc : Thread nD τ).loc main_arg6) (ix2 k ⟨j.val, lt_of_lt_of_le j.isLt (by decide)⟩) := by
  blk_simp [iblk]
  have e : (win0_6.blk t).view.emb (ix2 k j) = ix2 k j := by blk_ext [index6]
  rw [e, V_w1]
  pointwise

theorem blk7 (c : Dev nD) (t : Fin cfg0.N) (k : Fin 1024) (j : Fin 256) : iblk m c 7 t (ix2 k j)
    = m ((c.tc : Thread nD τ).loc main_arg6) (ix2 k ⟨768 + j.val, Nat.add_lt_add_left j.isLt 768⟩) := by
  blk_simp [iblk]
  have e : (win0_7.blk t).view.emb (ix2 k j) = ix2 k j := by blk_ext [index7]
  rw [e, V_w2]
  pointwise

/-- A block's residual rows are those of the whole array. -/
theorem mid_eq (c : Dev nD) (t : Fin cfg0.N) (r : Fin 512) :
    blockMid (iblk m c 0 t) (iblk m c 1 t) (iblk m c 2 t) (iblk m c 3 t) (iblk m c 4 t) r
      = mid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (row t r) := by
  unfold blockMid mid
  simp only [blk0, blk1, blk2, blk3, blk4]

/-- The residual block `t`, from the blocks the point loads. -/
theorem block_eq8 (c : Dev nD) (t : Fin cfg0.N) (y : S512x1024.Idx) :
    k0_pay1 (F := Ideal) (iblk m c 0 t) (k0_pay21 (hid (k0_pay5 (iblk m c 0 t) (iblk m c 1 t)) (iblk m c 2 t) (iblk m c 3 t))
        (iblk m c 4 t)) k0_pay22 y
      = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (((View.whole main_v6_0).slice (win0_8.rect t)).emb y) := by
  have e0 : ((View.whole main_v6_0).slice (win0_8.rect t)).emb y = ix2 (row t (y 0)) (y 1) := by blk_ext [index8, row]
  exact (block_mid _ _ _ _ _ y).trans ((congrFun (mid_eq m c t (y 0)) (y 1)).trans (congrArg (out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) e0).symm)

theorem block_eq9 (c : Dev nD) (t : Fin cfg0.N) (y : S512x768.Idx) :
    k0_pay3 (F := Ideal) (iblk m c 0 t) (k0_pay21 (hid (k0_pay5 (iblk m c 0 t) (iblk m c 1 t)) (iblk m c 2 t) (iblk m c 3 t))
        (iblk m c 4 t)) k0_pay22 (iblk m c 5 t) (iblk m c 6 t) y
      = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (((View.whole main_v6_1).slice (win0_9.rect t)).emb y) := by
  have e0 : ((View.whole main_v6_1).slice (win0_9.rect t)).emb y = ix2 (row t (y 0)) (y 1) := by blk_ext [index9, row]
  have h1 : (fun l => k0_pay1 (F := Ideal) (iblk m c 0 t) (k0_pay21 (hid (k0_pay5 (iblk m c 0 t) (iblk m c 1 t)) (iblk m c 2 t)
      (iblk m c 3 t)) (iblk m c 4 t)) k0_pay22 (ix2 (y 0) l)) = mid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (row t (y 0)) :=
    funext fun l => (block_mid _ _ _ _ _ _).trans (congrFun (mid_eq m c t (y 0)) l)
  have h2 : (fun k => iblk m c 5 t (ix2 0 k)) = fun k => m ((c.tc : Thread nD τ).loc main_arg5) (ix1 k) := funext (blk5 m c t)
  refine (block_proj1 _ _ _ _ _ y).trans (Eq.trans ?_ (congrArg (out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) e0).symm)
  exact Finset.sum_congr rfl fun k _ => congrArg₂ (· * ·) (congrFun (congrArg₂ rms h1 h2) k) (blk6 m c t k (y 1))

theorem block_eq10 (c : Dev nD) (t : Fin cfg0.N) (y : S512x256.Idx) :
    k0_pay4 (F := Ideal) (iblk m c 0 t) (k0_pay21 (hid (k0_pay5 (iblk m c 0 t) (iblk m c 1 t)) (iblk m c 2 t) (iblk m c 3 t))
        (iblk m c 4 t)) k0_pay22 (iblk m c 5 t) (iblk m c 7 t) y
      = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (((View.whole main_v6_2).slice (win0_10.rect t)).emb y) := by
  have e0 : ((View.whole main_v6_2).slice (win0_10.rect t)).emb y = ix2 (row t (y 0)) (y 1) := by blk_ext [index10, row]
  have h1 : (fun l => k0_pay1 (F := Ideal) (iblk m c 0 t) (k0_pay21 (hid (k0_pay5 (iblk m c 0 t) (iblk m c 1 t)) (iblk m c 2 t)
      (iblk m c 3 t)) (iblk m c 4 t)) k0_pay22 (ix2 (y 0) l)) = mid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (row t (y 0)) :=
    funext fun l => (block_mid _ _ _ _ _ _).trans (congrFun (mid_eq m c t (y 0)) l)
  have h2 : (fun k => iblk m c 5 t (ix2 0 k)) = fun k => m ((c.tc : Thread nD τ).loc main_arg5) (ix1 k) := funext (blk5 m c t)
  refine (block_proj2 _ _ _ _ _ y).trans (Eq.trans ?_ (congrArg (out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) e0).symm)
  exact Finset.sum_congr rfl fun k _ => congrArg₂ (· * ·) (congrFun (congrArg₂ rms h1 h2) k) (blk7 m c t k (y 1))

/-- The array output 0 ends with. -/
theorem final8 (c : Dev nD) : (dats m 0 c).arrAt 8 cfg0.N = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 8 _ (by decide +kernel) fun t hf y => ?_
  blk_simp
  rw [after0_8]
  unfold outsAt0
  frame_out
  refine Eq.trans ?_ (block_eq8 m c t y)
  exact congrFun (congrArg (fun z : FVec Ideal S512x2816 .bf16 => k0_pay1 (F := Ideal) (iblk m c 0 t)
    (k0_pay21 z (iblk m c 4 t)) k0_pay22) (scratch_read _ (k0_pay5 (iblk m c 0 t) (iblk m c 1 t)) (iblk m c 2 t) (iblk m c 3 t))) y

/-- The array output 1 ends with. -/
theorem final9 (c : Dev nD) : (dats m 0 c).arrAt 9 cfg0.N = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 9 _ (by decide +kernel) fun t hf y => ?_
  blk_simp
  rw [after0_9]
  unfold outsAt0
  frame_out
  refine Eq.trans ?_ (block_eq9 m c t y)
  exact congrFun (congrArg (fun z : FVec Ideal S512x2816 .bf16 => k0_pay3 (F := Ideal) (iblk m c 0 t)
    (k0_pay21 z (iblk m c 4 t)) k0_pay22 (iblk m c 5 t) (iblk m c 6 t)) (scratch_read _ (k0_pay5 (iblk m c 0 t) (iblk m c 1 t)) (iblk m c 2 t) (iblk m c 3 t))) y

/-- The array output 2 ends with. -/
theorem final10 (c : Dev nD) : (dats m 0 c).arrAt 10 cfg0.N = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 10 _ (by decide +kernel) fun t hf y => ?_
  blk_simp
  rw [after0_10]
  unfold outsAt0
  frame_out
  refine Eq.trans ?_ (block_eq10 m c t y)
  exact congrFun (congrArg (fun z : FVec Ideal S512x2816 .bf16 => k0_pay4 (F := Ideal) (iblk m c 0 t)
    (k0_pay21 z (iblk m c 4 t)) k0_pay22 (iblk m c 5 t) (iblk m c 7 t)) (scratch_read _ (k0_pay5 (iblk m c 0 t) (iblk m c 1 t)) (iblk m c 2 t) (iblk m c 3 t))) y

/-- The kernel runs and leaves `out0`, `out1` and `out2` of its arguments. -/
theorem run : θ_run defs (onTc (τ := τ) (main (F := Ideal))) ⟨m, fun _ => 0, ρ⟩ fun r => ∀ c : Dev nD,
      r.2.mem ((c.tc : Thread nD τ).loc main_v6_0) = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v6_1) = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v6_2) = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (final8 m c), (h c).2.1.trans (final9 m c),
    (h c).2.2.1.trans (final10 m c), (h c).2.2.2⟩) (Value.run_blocks m ρ)

end Cert.ProjIdeal.Read

end
-- ==== Proof.ProjRef.lean ====
/-
  What the plain reference of the projecting feed-forward call computes, row by row.
-/
module

public import proofs.«01_k».proof.Proof.Gen.ProjRefIdeal.Run
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.ProjRefIdeal.Read

open Cert.ProjRefIdeal Cert.ProjRefIdeal.Gen Cert.Rows

/-- Row `r` of the residual stream after half a feed-forward step with the weights of layer zero. -/
def mid (x : FVec Ideal S16384x1024 .f32) (g : FVec Ideal S1024 .f32) (wg : FVec Ideal S4x1024x2816 .bf16) (wu : FVec Ideal S4x1024x2816 .bf16) (wd : FVec Ideal S4x2816x1024 .bf16) (gm : FVec Ideal S1024 .f32) (wi : FVec Ideal S1024x1024 .f32) (r : Fin 16384) : Fin 1024 → EReal :=
  half (fun k => x (ix2 r k)) (fun k => g (ix1 k)) (fun k f => wg (ix3 0 k f)) (fun k f => wu (ix3 0 k f))
    (fun f k => wd (ix3 0 f k))

/-- The residual stream as one function of the arguments. -/
def out0 (x : FVec Ideal S16384x1024 .f32) (g : FVec Ideal S1024 .f32) (wg : FVec Ideal S4x1024x2816 .bf16) (wu : FVec Ideal S4x1024x2816 .bf16) (wd : FVec Ideal S4x2816x1024 .bf16) (gm : FVec Ideal S1024 .f32) (wi : FVec Ideal S1024x1024 .f32) : FVec Ideal S16384x1024 .f32 := fun i =>
  mid x g wg wu wd gm wi (i 0) (i 1)

/-- The recurrence's part of the input projection: the first 768 columns. -/
def out1 (x : FVec Ideal S16384x1024 .f32) (g : FVec Ideal S1024 .f32) (wg : FVec Ideal S4x1024x2816 .bf16) (wu : FVec Ideal S4x1024x2816 .bf16) (wd : FVec Ideal S4x2816x1024 .bf16) (gm : FVec Ideal S1024 .f32) (wi : FVec Ideal S1024x1024 .f32) : FVec Ideal S16384x768 .f32 := fun i =>
  ∑ k, rms (mid x g wg wu wd gm wi (i 0)) (fun k => gm (ix1 k)) k * wi (ix2 k ⟨(i 1).val, lt_of_lt_of_le (i 1).isLt (by decide)⟩)

/-- The cross attention's part of the input projection: the last 256 columns. -/
def out2 (x : FVec Ideal S16384x1024 .f32) (g : FVec Ideal S1024 .f32) (wg : FVec Ideal S4x1024x2816 .bf16) (wu : FVec Ideal S4x1024x2816 .bf16) (wd : FVec Ideal S4x2816x1024 .bf16) (gm : FVec Ideal S1024 .f32) (wi : FVec Ideal S1024x1024 .f32) : FVec Ideal S16384x256 .f32 := fun i =>
  ∑ k, rms (mid x g wg wu wd gm wi (i 0)) (fun k => gm (ix1 k)) k * wi (ix2 k ⟨768 + (i 1).val, Nat.add_lt_add_left (i 1).isLt 768⟩)

/-- The reference runs and leaves `out0`, `out1` and `out2` of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v44) = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v45) = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (by
    generalize (m ((c.tc : Thread nD τ).loc main_arg0) : FVec Ideal S16384x1024 .f32) = x
    generalize (m ((c.tc : Thread nD τ).loc main_arg1) : FVec Ideal S1024 .f32) = g
    generalize (m ((c.tc : Thread nD τ).loc main_arg2) : FVec Ideal S4x1024x2816 .bf16) = wg
    generalize (m ((c.tc : Thread nD τ).loc main_arg3) : FVec Ideal S4x1024x2816 .bf16) = wu
    generalize (m ((c.tc : Thread nD τ).loc main_arg4) : FVec Ideal S4x2816x1024 .bf16) = wd
    generalize (m ((c.tc : Thread nD τ).loc main_arg5) : FVec Ideal S1024 .f32) = gm
    generalize (m ((c.tc : Thread nD τ).loc main_arg6) : FVec Ideal S1024x1024 .f32) = wi
    funext i
    idx_vars i
    pointwise [out0, mid, half, hidRow, rms]
    rfl), (h c).2.1.trans (by
    unfold Value.res_main_v44
    generalize (m ((c.tc : Thread nD τ).loc main_arg0) : FVec Ideal S16384x1024 .f32) = x
    generalize (m ((c.tc : Thread nD τ).loc main_arg1) : FVec Ideal S1024 .f32) = g
    generalize (m ((c.tc : Thread nD τ).loc main_arg2) : FVec Ideal S4x1024x2816 .bf16) = wg
    generalize (m ((c.tc : Thread nD τ).loc main_arg3) : FVec Ideal S4x1024x2816 .bf16) = wu
    generalize (m ((c.tc : Thread nD τ).loc main_arg4) : FVec Ideal S4x2816x1024 .bf16) = wd
    generalize (m ((c.tc : Thread nD τ).loc main_arg5) : FVec Ideal S1024 .f32) = gm
    generalize (m ((c.tc : Thread nD τ).loc main_arg6) : FVec Ideal S1024x1024 .f32) = wi
    funext i
    idx_vars i
    pointwise [out1, mid, half, hidRow, rms]
    rfl), (h c).2.2.1.trans (by
    unfold Value.res_main_v45
    generalize (m ((c.tc : Thread nD τ).loc main_arg0) : FVec Ideal S16384x1024 .f32) = x
    generalize (m ((c.tc : Thread nD τ).loc main_arg1) : FVec Ideal S1024 .f32) = g
    generalize (m ((c.tc : Thread nD τ).loc main_arg2) : FVec Ideal S4x1024x2816 .bf16) = wg
    generalize (m ((c.tc : Thread nD τ).loc main_arg3) : FVec Ideal S4x1024x2816 .bf16) = wu
    generalize (m ((c.tc : Thread nD τ).loc main_arg4) : FVec Ideal S4x2816x1024 .bf16) = wd
    generalize (m ((c.tc : Thread nD τ).loc main_arg5) : FVec Ideal S1024 .f32) = gm
    generalize (m ((c.tc : Thread nD τ).loc main_arg6) : FVec Ideal S1024x1024 .f32) = wi
    funext i
    idx_vars i
    pointwise [out2, mid, half, hidRow, rms]
    rfl), (h c).2.2.2⟩) (Value.run m ρ)

end Cert.ProjRefIdeal.Read

end
-- ==== Proof.FfnValue.lean ====
/-
  What the feed-forward kernel computes: every block of 512 rows of the result holds, row by row, half a feed-forward
  step of the argument's rows. The hidden layer is built in a scratch array in eleven chunks of 256 columns; read back
  whole it is the hidden layer.
-/
module

public import proofs.«01_k».proof.Proof.Gen.FfnIdeal.Value
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.FfnIdeal.Read

open Cert.FfnIdeal Cert.FfnIdeal.Gen Cert.Rows

/-- The hidden layer of a block of normed rows, at the one stacked weight the block's buffers hold. -/
def hid (n : FVec Ideal S512x1024 .bf16) (wg wu : FVec Ideal S1x1024x2816 .bf16) : FVec Ideal S512x2816 .bf16 := fun y =>
  hidRow (fun k => n (ix2 (y 0) k)) (fun k f => wg (ix3 0 k f)) (fun k f => wu (ix3 0 k f)) (y 1)

/-- A chunk of 256 weight columns loaded from column `o` on, at an index. -/
theorem ld_col (o : ℕ) (h : ∀ a, (![0, 0, o] : Fin 3 → ℕ) a + S1x1024x256.size a ≤ S1x1024x2816.size a)
    (h' : ∀ a, (![0, o] : Fin 2 → ℕ) a + S512x256.size a ≤ S512x2816.size a)
    (w : FVec Ideal S1x1024x2816 .bf16) (k : Fin 1024) (x : S512x256.Idx) :
    View.ld (Val := Elt Ideal) (S := S1x1024x2816) (e' := .bf16) w (Rect.unit (s := S1x1024x2816) ![0, 0, o] S1x1024x256.size h) (ix3 0 k (x 1))
      = w (ix3 0 k ((Rect.unit (s := S512x2816) ![0, o] S512x256.size h').emb x 1)) := by
  refine congrArg w (funext fun a => Fin.ext ?_)
  fin_cases a <;> simp [Rect.emb_apply]

/-- The chunk of hidden columns from column `o` on, computed from the weight columns there, is that part of the hidden
    layer. -/
theorem chunk (o : ℕ) (h : ∀ a, (![0, 0, o] : Fin 3 → ℕ) a + S1x1024x256.size a ≤ S1x1024x2816.size a)
    (h' : ∀ a, (![0, o] : Fin 2 → ℕ) a + S512x256.size a ≤ S512x2816.size a)
    (n : FVec Ideal S512x1024 .bf16) (wg wu : FVec Ideal S1x1024x2816 .bf16) (x : S512x256.Idx) :
    k0_pay7 n (View.ld (Val := Elt Ideal) (S := S1x1024x2816) (e' := .bf16) wg (Rect.unit (s := S1x1024x2816) ![0, 0, o] S1x1024x256.size h))
        (View.ld (Val := Elt Ideal) (S := S1x1024x2816) (e' := .bf16) wu (Rect.unit (s := S1x1024x2816) ![0, 0, o] S1x1024x256.size h)) x
      = hid n wg wu ((Rect.unit (s := S512x2816) ![0, o] S512x256.size h').emb x) := by
  have e0 : (Rect.unit (s := S512x2816) ![0, o] S512x256.size h').emb x 0 = x 0 := Fin.ext (by simp [Rect.emb_apply])
  unfold hid hidRow
  simp only [e0, ← ld_col o h h']
  pointwise [k0_pay7]

variable (m : (ℓ : Loc nD τ sig) → Buf (Elt Ideal) ℓ) (ρ : Dev nD → PrngReg)

/-- The result of a block: the loaded rows plus half the hidden layer times the down weights. -/
theorem block_out (x0 : FVec Ideal S512x1024 .f32) (x1 : FVec Ideal S1x1024 .f32) (x2 x3 : FVec Ideal S1x1024x2816 .bf16)
    (x4 : FVec Ideal S1x2816x1024 .bf16) (y : S512x1024.Idx) :
    k0_pay1 (F := Ideal) x0 (k0_pay18 (hid (k0_pay2 x0 x1) x2 x3) x4) k0_pay19 y
      = half (fun k => x0 (ix2 (y 0) k)) (fun k => x1 (ix2 0 k)) (fun k f => x2 (ix3 0 k f)) (fun k f => x3 (ix3 0 k f))
          (fun f k => x4 (ix3 0 f k)) (y 1) := by
  idx_vars y
  pointwise [k0_pay1, k0_pay2, k0_pay18, k0_pay19, hid, half, hidRow, rms]

/-- The result as one function of the arguments: row by row half a feed-forward step with the weights of layer two. -/
def out (x : FVec Ideal S16384x1024 .f32) (g : FVec Ideal S1024 .f32) (wg wu : FVec Ideal S4x1024x2816 .bf16)
    (wd : FVec Ideal S4x2816x1024 .bf16) : FVec Ideal S16384x1024 .f32 := fun i =>
  half (fun k => x (ix2 (i 0) k)) (fun k => g (ix1 k)) (fun k f => wg (ix3 2 k f)) (fun k f => wu (ix3 2 k f))
    (fun f k => wd (ix3 2 f k)) (i 1)

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![2, 0, 0] :=
  (by decide +kernel : ∀ t : Fin grid0.N, win0_2.index t = ![2, 0, 0])
theorem index3 : ∀ t : Fin cfg0.N, win0_3.index t = ![2, 0, 0] :=
  (by decide +kernel : ∀ t : Fin grid0.N, win0_3.index t = ![2, 0, 0])
theorem index4 : ∀ t : Fin cfg0.N, win0_4.index t = ![2, 0, 0] :=
  (by decide +kernel : ∀ t : Fin grid0.N, win0_4.index t = ![2, 0, 0])
theorem index5 : ∀ t : Fin cfg0.N, win0_5.index t = ![t.val, 0] :=
  (by decide +kernel : ∀ t : Fin grid0.N, win0_5.index t = ![t.val, 0])

/-- The gain reaches the kernel as a row. -/
theorem V_gain (c : Dev nD) : V m c main_v0
    = shapeCast S1x1024 (m ((c.tc : Thread nD τ).loc main_arg1) : FVec Ideal S1024 .f32) shapeCasts_S1024_S1x1024 := by
  unfold V
  after_results <;> rfl

theorem blk0 (c : Dev nD) (t : Fin cfg0.N) (y : S512x1024.Idx) (k : Fin 1024) : iblk m c 0 t (ix2 (y 0) k)
    = m ((c.tc : Thread nD τ).loc main_arg0) (ix2 (((View.whole main_v1).slice (win0_5.rect t)).emb y 0) k) := by
  blk_simp [iblk, V_main_arg0]
  refine congrArg _ ?_
  blk_ext [index0, index5]

theorem blk1 (c : Dev nD) (t : Fin cfg0.N) (k : Fin 1024) :
    iblk m c 1 t (ix2 0 k) = m ((c.tc : Thread nD τ).loc main_arg1) (ix1 k) := by
  blk_simp [iblk]
  have e : (win0_1.blk t).view.emb (ix2 0 k) = ix2 0 k := by blk_ext [index1]
  rw [e, V_gain]
  pointwise

theorem blk2 (c : Dev nD) (t : Fin cfg0.N) (k : Fin 1024) (f : Fin 2816) :
    iblk m c 2 t (ix3 0 k f) = m ((c.tc : Thread nD τ).loc main_arg2) (ix3 2 k f) := by
  blk_simp [iblk, V_main_arg2]
  refine congrArg _ ?_
  blk_ext [index2]

theorem blk3 (c : Dev nD) (t : Fin cfg0.N) (k : Fin 1024) (f : Fin 2816) :
    iblk m c 3 t (ix3 0 k f) = m ((c.tc : Thread nD τ).loc main_arg3) (ix3 2 k f) := by
  blk_simp [iblk, V_main_arg3]
  refine congrArg _ ?_
  blk_ext [index3]

theorem blk4 (c : Dev nD) (t : Fin cfg0.N) (k : Fin 1024) (f : Fin 2816) :
    iblk m c 4 t (ix3 0 f k) = m ((c.tc : Thread nD τ).loc main_arg4) (ix3 2 f k) := by
  blk_simp [iblk, V_main_arg4]
  refine congrArg _ ?_
  blk_ext [index4]

theorem col5 (t : Fin cfg0.N) (y : S512x1024.Idx) :
    y 1 = ((View.whole main_v1).slice (win0_5.rect t)).emb y 1 := by
  apply Fin.ext; blk_simp [index5]

/-- Block `t` of the result, computed from the blocks the point loads. -/
theorem block_eq (c : Dev nD) (t : Fin cfg0.N) (y : S512x1024.Idx) :
    k0_pay1 (F := Ideal) (iblk m c 0 t) (k0_pay18 (hid (k0_pay2 (iblk m c 0 t) (iblk m c 1 t)) (iblk m c 2 t) (iblk m c 3 t))
        (iblk m c 4 t)) k0_pay19 y
      = out (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4))
      (((View.whole main_v1).slice (win0_5.rect t)).emb y) := by
  refine (block_out _ _ _ _ _ y).trans ?_
  unfold out
  rw [← col5 t y]
  simp only [blk0, blk1, blk2, blk3, blk4]

/-- The scratch array read back whole is the hidden layer of the block. -/
theorem scratch_idx (y : S512x2816.Idx) : (Rect.unit (s := S512x2816) ![0, 0] ![512, 2816] inb_S512x2816_S512x2816_0_0).toLoadRect.idx y = y := by
  funext a
  apply Fin.ext
  fin_cases a <;> simp [LoadRect.idx]

/-- The array the output ends with. -/
theorem final (c : Dev nD) : (dats m 0 c).arrAt 5 cfg0.N = out (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4)) := by
  refine (dats m 0 c).arrAt_eq_of_covers 5 _ (by decide +kernel) fun t hf y => ?_
  blk_simp
  rw [after0_5]
  unfold outsAt0
  frame_out
  refine Eq.trans ?_ (block_eq m c t y)
  refine congrFun (congrArg (fun z : FVec Ideal S512x2816 .bf16 => k0_pay1 (F := Ideal) (iblk m c 0 t)
    (k0_pay18 z (iblk m c 4 t)) k0_pay19) ((readCov_parts _
      (hid (k0_pay2 (iblk m c 0 t) (iblk m c 1 t)) (iblk m c 2 t) (iblk m c 3 t)) _ _ ?_ ?_).trans ?_)) y
  · refine List.forall_mem_cons.2 ⟨fun x => chunk 2560 (by decide) (by decide) (k0_pay2 (iblk m c 0 t) (iblk m c 1 t)) (iblk m c 2 t) (iblk m c 3 t) x,
      List.forall_mem_cons.2 ⟨fun x => chunk 2304 (by decide) (by decide) (k0_pay2 (iblk m c 0 t) (iblk m c 1 t)) (iblk m c 2 t) (iblk m c 3 t) x,
      List.forall_mem_cons.2 ⟨fun x => chunk 2048 (by decide) (by decide) (k0_pay2 (iblk m c 0 t) (iblk m c 1 t)) (iblk m c 2 t) (iblk m c 3 t) x,
      List.forall_mem_cons.2 ⟨fun x => chunk 1792 (by decide) (by decide) (k0_pay2 (iblk m c 0 t) (iblk m c 1 t)) (iblk m c 2 t) (iblk m c 3 t) x,
      List.forall_mem_cons.2 ⟨fun x => chunk 1536 (by decide) (by decide) (k0_pay2 (iblk m c 0 t) (iblk m c 1 t)) (iblk m c 2 t) (iblk m c 3 t) x,
      List.forall_mem_cons.2 ⟨fun x => chunk 1280 (by decide) (by decide) (k0_pay2 (iblk m c 0 t) (iblk m c 1 t)) (iblk m c 2 t) (iblk m c 3 t) x,
      List.forall_mem_cons.2 ⟨fun x => chunk 1024 (by decide) (by decide) (k0_pay2 (iblk m c 0 t) (iblk m c 1 t)) (iblk m c 2 t) (iblk m c 3 t) x,
      List.forall_mem_cons.2 ⟨fun x => chunk 768 (by decide) (by decide) (k0_pay2 (iblk m c 0 t) (iblk m c 1 t)) (iblk m c 2 t) (iblk m c 3 t) x,
      List.forall_mem_cons.2 ⟨fun x => chunk 512 (by decide) (by decide) (k0_pay2 (iblk m c 0 t) (iblk m c 1 t)) (iblk m c 2 t) (iblk m c 3 t) x,
      List.forall_mem_cons.2 ⟨fun x => chunk 256 (by decide) (by decide) (k0_pay2 (iblk m c 0 t) (iblk m c 1 t)) (iblk m c 2 t) (iblk m c 3 t) x,
      List.forall_mem_cons.2 ⟨fun x => chunk 0 (by decide) (by decide) (k0_pay2 (iblk m c 0 t) (iblk m c 1 t)) (iblk m c 2 t) (iblk m c 3 t) x, List.forall_mem_nil _⟩⟩⟩⟩⟩⟩⟩⟩⟩⟩⟩
  · exact View.cover_of_tiledL _ S512x256.size (by sl_kernel_rfl)
  · exact funext fun j => congrArg _ (scratch_idx j)

/-- The kernel runs and leaves `out` of its arguments. -/
theorem run : θ_run defs (onTc (τ := τ) (main (F := Ideal))) ⟨m, fun _ => 0, ρ⟩ fun r => ∀ c : Dev nD,
      r.2.mem ((c.tc : Thread nD τ).loc main_v1) = out (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final m c), (h c).2⟩) (Value.run_blocks m ρ)

end Cert.FfnIdeal.Read

end
-- ==== Proof.FfnRef.lean ====
/-
  What the plain feed-forward reference computes: every row of the result is `Rows.half` of the argument's row.
-/
module

public import proofs.«01_k».proof.Proof.Gen.FfnRefIdeal.Run
public import proofs.«01_k».proof.Proof.Rows

@[expose] public section

set_option maxRecDepth 16384

noncomputable section

open Idealize.ShloMosaic Idealize.ShloMosaic.TcCoe Idealize.SL.Sem

namespace Cert.FfnRefIdeal.Read

open Cert.FfnRefIdeal Cert.FfnRefIdeal.Gen Cert.Rows

/-- The result as one function of the arguments: row by row half a feed-forward step with the weights of layer two. -/
def out (x : FVec Ideal S16384x1024 .f32) (g : FVec Ideal S1024 .f32) (wg wu : FVec Ideal S4x1024x2816 .bf16)
    (wd : FVec Ideal S4x2816x1024 .bf16) : FVec Ideal S16384x1024 .f32 := fun i =>
  half (fun k => x (ix2 (i 0) k)) (fun k => g (ix1 k)) (fun k f => wg (ix3 2 k f)) (fun k f => wu (ix3 2 k f))
    (fun f k => wd (ix3 2 f k)) (i 1)

/-- The reference runs and leaves `out` of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = out (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by
    generalize (m ((c.tc : Thread nD τ).loc main_arg0) : FVec Ideal S16384x1024 .f32) = x
    generalize (m ((c.tc : Thread nD τ).loc main_arg1) : FVec Ideal S1024 .f32) = g
    generalize (m ((c.tc : Thread nD τ).loc main_arg2) : FVec Ideal S4x1024x2816 .bf16) = wg
    generalize (m ((c.tc : Thread nD τ).loc main_arg3) : FVec Ideal S4x1024x2816 .bf16) = wu
    generalize (m ((c.tc : Thread nD τ).loc main_arg4) : FVec Ideal S4x2816x1024 .bf16) = wd
    funext i
    idx_vars i
    pointwise [out, half, hidRow, rms]
    rfl), (h c).2⟩) (Value.run m ρ)

end Cert.FfnRefIdeal.Read

end
-- ==== Proof.KvValue.lean ====
/-
  What the memory projection computes: its one block holds the normed rows times the halves of the weights.
-/
module

public import proofs.«01_k».proof.Proof.Gen.KvIdeal.Value
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.KvIdeal.Read

open Cert.KvIdeal Cert.KvIdeal.Gen Cert.Rows

/-- The memory keys: the normed rows times the left half of the weights. -/
def out0 (x : FVec Ideal S512x1024 .f32) (g : FVec Ideal S1024 .f32) (w : FVec Ideal S1024x512 .f32) : FVec Ideal S512x256 .f32 := fun i =>
  ∑ k, rms (fun k => x (ix2 (i 0) k)) (fun k => g (ix1 k)) k * w (ix2 k ⟨(i 1).val, lt_of_lt_of_le (i 1).isLt (by decide)⟩)

/-- The memory values: the normed rows times the right half of the weights. -/
def out1 (x : FVec Ideal S512x1024 .f32) (g : FVec Ideal S1024 .f32) (w : FVec Ideal S1024x512 .f32) : FVec Ideal S512x256 .f32 := fun i =>
  ∑ k, rms (fun k => x (ix2 (i 0) k)) (fun k => g (ix1 k)) k * w (ix2 k ⟨256 + (i 1).val, Nat.add_lt_add_left (i 1).isLt 256⟩)

/-- What one product stores, from the loaded rows, gain and weights. -/
theorem product0 (x : FVec Ideal S512x1024 .f32) (g : FVec Ideal S1x1024 .f32) (w : FVec Ideal S1024x256 .bf16) (y : S512x256.Idx) :
    k0_pay2 (F := Ideal) x g w y = ∑ k, rms (fun k => x (ix2 (y 0) k)) (fun k => g (ix2 0 k)) k * w (ix2 k (y 1)) := by
  idx_vars y
  pointwise [k0_pay1, k0_pay2, rms]
theorem product1 (x : FVec Ideal S512x1024 .f32) (g : FVec Ideal S1x1024 .f32) (w : FVec Ideal S1024x256 .bf16) (y : S512x256.Idx) :
    k0_pay3 (F := Ideal) x g w y = ∑ k, rms (fun k => x (ix2 (y 0) k)) (fun k => g (ix2 0 k)) k * w (ix2 k (y 1)) := by
  idx_vars y
  pointwise [k0_pay1, k0_pay3, rms]

variable (m : (ℓ : Loc nD τ sig) → Buf (Elt Ideal) ℓ) (ρ : Dev nD → PrngReg)

theorem index0 : ∀ t : Fin cfg0.N, win0_0.index t = ![0, 0] :=
  (by decide +kernel : ∀ t : Fin grid0.N, win0_0.index t = ![0, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])

/-- The gain reaches the kernel as a row, the weights cut in two. -/
theorem V_gain (c : Dev nD) : V m c main_v2 = shapeCast S1x1024 (m ((c.tc : Thread nD τ).loc main_arg1) : FVec Ideal S1024 .f32) shapeCasts_S1024_S1x1024 := by
  unfold V
  after_results <;> rfl
theorem V_left (c : Dev nD) : V m c main_v3 = truncf (F := Ideal) .bf16 (extractStridedSlice S1024x256 ![0, 0] (m ((c.tc : Thread nD τ).loc main_arg2) : FVec Ideal S1024x512 .f32) slices_S1024x512_S1024x256_0_0) bitsLt_bf16_f32 := by
  unfold V
  after_results <;> rfl
theorem V_right (c : Dev nD) : V m c main_v4 = truncf (F := Ideal) .bf16 (extractStridedSlice S1024x256 ![0, 256] (m ((c.tc : Thread nD τ).loc main_arg2) : FVec Ideal S1024x512 .f32) slices_S1024x512_S1024x256_0_256) bitsLt_bf16_f32 := by
  unfold V
  after_results <;> rfl

theorem blk0 (c : Dev nD) (t : Fin cfg0.N) (r : Fin 512) (k : Fin 1024) : iblk m c 0 t (ix2 r k)
    = m ((c.tc : Thread nD τ).loc main_arg0) (ix2 r k) := by
  blk_simp [iblk]
  have e : (win0_0.blk t).view.emb (ix2 r k) = ix2 r k := by blk_ext [index0]
  rw [e, V_main_arg0]

theorem blk1 (c : Dev nD) (t : Fin cfg0.N) (k : Fin 1024) : iblk m c 1 t (ix2 0 k)
    = m ((c.tc : Thread nD τ).loc main_arg1) (ix1 k) := by
  blk_simp [iblk]
  have e : (win0_1.blk t).view.emb (ix2 0 k) = ix2 0 k := by blk_ext [index1]
  rw [e, V_gain]
  pointwise

theorem blk2 (c : Dev nD) (t : Fin cfg0.N) (k : Fin 1024) (j : Fin 256) : iblk m c 2 t (ix2 k j)
    = m ((c.tc : Thread nD τ).loc main_arg2) (ix2 k ⟨j.val, lt_of_lt_of_le j.isLt (by decide)⟩) := by
  blk_simp [iblk]
  have e : (win0_2.blk t).view.emb (ix2 k j) = ix2 k j := by blk_ext [index2]
  rw [e, V_left]
  pointwise

theorem blk3 (c : Dev nD) (t : Fin cfg0.N) (k : Fin 1024) (j : Fin 256) : iblk m c 3 t (ix2 k j)
    = m ((c.tc : Thread nD τ).loc main_arg2) (ix2 k ⟨256 + j.val, Nat.add_lt_add_left j.isLt 256⟩) := by
  blk_simp [iblk]
  have e : (win0_3.blk t).view.emb (ix2 k j) = ix2 k j := by blk_ext [index3]
  rw [e, V_right]
  pointwise

/-- What is stored for result 0, from the blocks the point loads. -/
theorem block0 (c : Dev nD) (t : Fin cfg0.N) (y : S512x256.Idx) :
    k0_pay2 (F := Ideal) (iblk m c 0 t) (iblk m c 1 t) (iblk m c 2 t) y = out0 (m ((c.tc : Thread nD τ).loc main_arg0)) (m ((c.tc : Thread nD τ).loc main_arg1)) (m ((c.tc : Thread nD τ).loc main_arg2)) y := by
  refine (product0 (iblk m c 0 t) (iblk m c 1 t) (iblk m c 2 t) y).trans ?_
  exact Finset.sum_congr rfl fun k _ => congrArg₂ (· * ·)
    (congrArg₂ (fun a b => rms a b k) (funext (blk0 m c t (y 0))) (funext (blk1 m c t))) (blk2 m c t k (y 1))

/-- The array result 0 ends with. -/
theorem final4 (c : Dev nD) : (dats m 0 c).arrAt 4 cfg0.N = out0 (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  have e0 : ((View.whole main_v5_0).slice (win0_4.rect t)).emb y = y := by
    idx_vars y
    blk_ext [index4]
  blk_simp
  rw [after0_4]
  unfold out0_4
  frame_out
  exact (block0 m c t y).trans (congrArg (out0 (m ((c.tc : Thread nD τ).loc main_arg0)) (m ((c.tc : Thread nD τ).loc main_arg1)) (m ((c.tc : Thread nD τ).loc main_arg2))) e0).symm

/-- What is stored for result 1, from the blocks the point loads. -/
theorem block1 (c : Dev nD) (t : Fin cfg0.N) (y : S512x256.Idx) :
    k0_pay3 (F := Ideal) (iblk m c 0 t) (iblk m c 1 t) (iblk m c 3 t) y = out1 (m ((c.tc : Thread nD τ).loc main_arg0)) (m ((c.tc : Thread nD τ).loc main_arg1)) (m ((c.tc : Thread nD τ).loc main_arg2)) y := by
  refine (product1 (iblk m c 0 t) (iblk m c 1 t) (iblk m c 3 t) y).trans ?_
  exact Finset.sum_congr rfl fun k _ => congrArg₂ (· * ·)
    (congrArg₂ (fun a b => rms a b k) (funext (blk0 m c t (y 0))) (funext (blk1 m c t))) (blk3 m c t k (y 1))

/-- The array result 1 ends with. -/
theorem final5 (c : Dev nD) : (dats m 0 c).arrAt 5 cfg0.N = out1 (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  have e0 : ((View.whole main_v5_1).slice (win0_5.rect t)).emb y = y := by
    idx_vars y
    blk_ext [index5]
  blk_simp
  rw [after0_5]
  unfold out0_5
  frame_out
  exact (block1 m c t y).trans (congrArg (out1 (m ((c.tc : Thread nD τ).loc main_arg0)) (m ((c.tc : Thread nD τ).loc main_arg1)) (m ((c.tc : Thread nD τ).loc main_arg2))) e0).symm

/-- The kernel runs and leaves `out0` and `out1` of its arguments. -/
theorem run : θ_run defs (onTc (τ := τ) (main (F := Ideal))) ⟨m, fun _ => 0, ρ⟩ fun r => ∀ c : Dev nD,
      r.2.mem ((c.tc : Thread nD τ).loc main_v5_0) = out0 (m ((c.tc : Thread nD τ).loc main_arg0)) (m ((c.tc : Thread nD τ).loc main_arg1)) (m ((c.tc : Thread nD τ).loc main_arg2))
      ∧ r.2.mem ((c.tc : Thread nD τ).loc main_v5_1) = out1 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final4 m c), (h c).2.1.trans (final5 m c), (h c).2.2⟩) (Value.run_blocks m ρ)

end Cert.KvIdeal.Read

end
-- ==== Proof.KvRef.lean ====
/-
  What the plain memory projection computes: the halves of the normed rows times the weights.
-/
module

public import proofs.«01_k».proof.Proof.Gen.KvRefIdeal.Run
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.KvRefIdeal.Read

open Cert.KvRefIdeal Cert.KvRefIdeal.Gen Cert.Rows

/-- The memory keys: the normed rows times the left half of the weights. -/
def out0 (x : FVec Ideal S512x1024 .f32) (g : FVec Ideal S1024 .f32) (w : FVec Ideal S1024x512 .f32) : FVec Ideal S512x256 .f32 := fun i =>
  ∑ k, rms (fun k => x (ix2 (i 0) k)) (fun k => g (ix1 k)) k * w (ix2 k ⟨(i 1).val, lt_of_lt_of_le (i 1).isLt (by decide)⟩)

/-- The memory values: the normed rows times the right half of the weights. -/
def out1 (x : FVec Ideal S512x1024 .f32) (g : FVec Ideal S1024 .f32) (w : FVec Ideal S1024x512 .f32) : FVec Ideal S512x256 .f32 := fun i =>
  ∑ k, rms (fun k => x (ix2 (i 0) k)) (fun k => g (ix1 k)) k * w (ix2 k ⟨256 + (i 1).val, Nat.add_lt_add_left (i 1).isLt 256⟩)

/-- The reference runs and leaves `out0` and `out1` of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = out0 (m ((c.tc : Thread nD τ).loc main_arg0)) (m ((c.tc : Thread nD τ).loc main_arg1)) (m ((c.tc : Thread nD τ).loc main_arg2))
      ∧ r.2.mem ((c.tc : Thread nD τ).loc main_v15) = out1 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
    generalize (m ((c.tc : Thread nD τ).loc main_arg0) : FVec Ideal S512x1024 .f32) = x
    generalize (m ((c.tc : Thread nD τ).loc main_arg1) : FVec Ideal S1024 .f32) = g
    generalize (m ((c.tc : Thread nD τ).loc main_arg2) : FVec Ideal S1024x512 .f32) = w
    funext i
    idx_vars i
    pointwise [out0, rms]), (h c).2.1.trans (by
    generalize (m ((c.tc : Thread nD τ).loc main_arg0) : FVec Ideal S512x1024 .f32) = x
    generalize (m ((c.tc : Thread nD τ).loc main_arg1) : FVec Ideal S1024 .f32) = g
    generalize (m ((c.tc : Thread nD τ).loc main_arg2) : FVec Ideal S1024x512 .f32) = w
    funext i
    idx_vars i
    pointwise [out1, rms]), (h c).2.2⟩) (Value.run m ρ)

end Cert.KvRefIdeal.Read

end
-- ==== Proof.LastValue.lean ====
/-
  What the last feed-forward kernel computes: its one block of 512 rows holds, row by row, half a feed-forward step of the
  argument's rows and the final norm. The hidden layer is built in a scratch array in eleven chunks of 256 columns.
-/
module

public import proofs.«01_k».proof.Proof.Gen.LastIdeal.Value
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.LastIdeal.Read

open Cert.LastIdeal Cert.LastIdeal.Gen Cert.Rows

/-- The hidden layer of a block of normed rows, at the one stacked weight the block's buffers hold. -/
def hid (n : FVec Ideal S512x1024 .bf16) (wg wu : FVec Ideal S1x1024x2816 .bf16) : FVec Ideal S512x2816 .bf16 := fun y =>
  hidRow (fun k => n (ix2 (y 0) k)) (fun k f => wg (ix3 0 k f)) (fun k f => wu (ix3 0 k f)) (y 1)

/-- A chunk of 256 weight columns loaded from column `o` on, at an index. -/
theorem ld_col (o : ℕ) (h : ∀ a, (![0, 0, o] : Fin 3 → ℕ) a + S1x1024x256.size a ≤ S1x1024x2816.size a)
    (h' : ∀ a, (![0, o] : Fin 2 → ℕ) a + S512x256.size a ≤ S512x2816.size a)
    (w : FVec Ideal S1x1024x2816 .bf16) (k : Fin 1024) (x : S512x256.Idx) :
    View.ld (Val := Elt Ideal) (S := S1x1024x2816) (e' := .bf16) w (Rect.unit (s := S1x1024x2816) ![0, 0, o] S1x1024x256.size h) (ix3 0 k (x 1))
      = w (ix3 0 k ((Rect.unit (s := S512x2816) ![0, o] S512x256.size h').emb x 1)) := by
  refine congrArg w (funext fun a => Fin.ext ?_)
  fin_cases a <;> simp [Rect.emb_apply]

/-- The chunk of hidden columns from column `o` on, computed from the weight columns there, is that part of the hidden
    layer. -/
theorem chunk (o : ℕ) (h : ∀ a, (![0, 0, o] : Fin 3 → ℕ) a + S1x1024x256.size a ≤ S1x1024x2816.size a)
    (h' : ∀ a, (![0, o] : Fin 2 → ℕ) a + S512x256.size a ≤ S512x2816.size a)
    (n : FVec Ideal S512x1024 .bf16) (wg wu : FVec Ideal S1x1024x2816 .bf16) (x : S512x256.Idx) :
    k0_pay7 n (View.ld (Val := Elt Ideal) (S := S1x1024x2816) (e' := .bf16) wg (Rect.unit (s := S1x1024x2816) ![0, 0, o] S1x1024x256.size h))
        (View.ld (Val := Elt Ideal) (S := S1x1024x2816) (e' := .bf16) wu (Rect.unit (s := S1x1024x2816) ![0, 0, o] S1x1024x256.size h)) x
      = hid n wg wu ((Rect.unit (s := S512x2816) ![0, o] S512x256.size h').emb x) := by
  have e0 : (Rect.unit (s := S512x2816) ![0, o] S512x256.size h').emb x 0 = x 0 := Fin.ext (by simp [Rect.emb_apply])
  unfold hid hidRow
  simp only [e0, ← ld_col o h h']
  pointwise [k0_pay7]

/-- What the block writes to the scratch array at columns `o` to `o + 255`. -/
def part (o : ℕ) (h : ∀ a, (![0, 0, o] : Fin 3 → ℕ) a + S1x1024x256.size a ≤ S1x1024x2816.size a)
    (h' : ∀ a, (![0, o] : Fin 2 → ℕ) a + S512x256.size a ≤ S512x2816.size a)
    (n : FVec Ideal S512x1024 .bf16) (wg wu : FVec Ideal S1x1024x2816 .bf16) : View.Piece (Elt Ideal) S512x2816 .bf16 :=
  ⟨Rect.unit (s := S512x2816) ![0, o] S512x256.size h', k0_pay7 n
    (View.ld (Val := Elt Ideal) (S := S1x1024x2816) (e' := .bf16) wg (Rect.unit (s := S1x1024x2816) ![0, 0, o] S1x1024x256.size h))
    (View.ld (Val := Elt Ideal) (S := S1x1024x2816) (e' := .bf16) wu (Rect.unit (s := S1x1024x2816) ![0, 0, o] S1x1024x256.size h))⟩

/-- The eleven parts, the last written first. -/
def parts (n : FVec Ideal S512x1024 .bf16) (wg wu : FVec Ideal S1x1024x2816 .bf16) : List (View.Piece (Elt Ideal) S512x2816 .bf16) :=
  [part 2560 (by decide) (by decide) n wg wu, part 2304 (by decide) (by decide) n wg wu, part 2048 (by decide) (by decide) n wg wu, part 1792 (by decide) (by decide) n wg wu, part 1536 (by decide) (by decide) n wg wu, part 1280 (by decide) (by decide) n wg wu, part 1024 (by decide) (by decide) n wg wu, part 768 (by decide) (by decide) n wg wu, part 512 (by decide) (by decide) n wg wu, part 256 (by decide) (by decide) n wg wu, part 0 (by decide) (by decide) n wg wu]

/-- Loading the whole scratch array gives each entry of it. -/
theorem scratch_idx (y : S512x2816.Idx) : (Rect.unit (s := S512x2816) ![0, 0] ![512, 2816] inb_S512x2816_S512x2816_0_0).toLoadRect.idx y = y := by
  funext a
  apply Fin.ext
  fin_cases a <;> simp [LoadRect.idx]

/-- The scratch array read back whole is the hidden layer of the block. -/
theorem scratch_read {κ : Kind} {sp : Space} (v : View sig κ sp S512x2816 .bf16) (n : FVec Ideal S512x1024 .bf16) (wg wu : FVec Ideal S1x1024x2816 .bf16) :
    v.readCov (parts n wg wu) (Rect.unit (s := S512x2816) ![0, 0] ![512, 2816] inb_S512x2816_S512x2816_0_0).toLoadRect
      = hid n wg wu := by
  refine (readCov_parts _ (hid n wg wu) _ _ ?_ ?_).trans (funext fun j => congrArg _ (scratch_idx j))
  · refine List.forall_mem_cons.2 ⟨fun x => chunk 2560 (by decide) (by decide) n wg wu x,
      List.forall_mem_cons.2 ⟨fun x => chunk 2304 (by decide) (by decide) n wg wu x,
      List.forall_mem_cons.2 ⟨fun x => chunk 2048 (by decide) (by decide) n wg wu x,
      List.forall_mem_cons.2 ⟨fun x => chunk 1792 (by decide) (by decide) n wg wu x,
      List.forall_mem_cons.2 ⟨fun x => chunk 1536 (by decide) (by decide) n wg wu x,
      List.forall_mem_cons.2 ⟨fun x => chunk 1280 (by decide) (by decide) n wg wu x,
      List.forall_mem_cons.2 ⟨fun x => chunk 1024 (by decide) (by decide) n wg wu x,
      List.forall_mem_cons.2 ⟨fun x => chunk 768 (by decide) (by decide) n wg wu x,
      List.forall_mem_cons.2 ⟨fun x => chunk 512 (by decide) (by decide) n wg wu x,
      List.forall_mem_cons.2 ⟨fun x => chunk 256 (by decide) (by decide) n wg wu x,
      List.forall_mem_cons.2 ⟨fun x => chunk 0 (by decide) (by decide) n wg wu x,
      List.forall_mem_nil _⟩⟩⟩⟩⟩⟩⟩⟩⟩⟩⟩
  · exact View.cover_of_tiledL _ S512x256.size (by sl_kernel_rfl)

/-- The normed rows of the block. -/
theorem normed (x : FVec Ideal S512x1024 .f32) (g : FVec Ideal S1x1024 .f32) (r : Fin 512) (k : Fin 1024) :
    k0_pay2 (F := Ideal) x g (ix2 r k) = rms (fun k => x (ix2 r k)) (fun k => g (ix2 0 k)) k := by
  pointwise [k0_pay2, rms]

/-- One row before the final norm: the loaded row plus half of what the hidden layer comes to. -/
def mix (x : FVec Ideal S512x1024 .f32) (s : FVec Ideal S512x2816 .bf16) (wd : FVec Ideal S1x2816x1024 .bf16) (r : Fin 512) :
    Fin 1024 → Ideal .f32 := fun j =>
  x (ix2 r j) + Ideal.ofBits .f32 0x3F000000#32 * ∑ f, s (ix2 r f) * wd (ix3 0 f j)

/-- The stored block from the loaded rows and the hidden layer. -/
theorem stored (x : FVec Ideal S512x1024 .f32) (s : FVec Ideal S512x2816 .bf16) (wd : FVec Ideal S1x2816x1024 .bf16) (gf : FVec Ideal S1x1024 .f32)
    (y : S512x1024.Idx) : k0_pay1 (F := Ideal) x (k0_pay18 s wd) k0_pay19 gf y
      = rms (mix x s wd (y 0)) (fun j => gf (ix2 0 j)) (y 1) := by
  idx_vars y
  pointwise [k0_pay1, k0_pay18, k0_pay19, rms, mix]

/-- The result as one function of the arguments: row by row half a feed-forward step with the weights at position
    three, then the final norm. -/
def out (x : FVec Ideal S512x1024 .f32) (g : FVec Ideal S1024 .f32) (wg wu : FVec Ideal S4x1024x2816 .bf16)
    (wd : FVec Ideal S4x2816x1024 .bf16) (gf : FVec Ideal S1024 .f32) : FVec Ideal S512x1024 .f32 := fun i =>
  rms (half (fun k => x (ix2 (i 0) k)) (fun k => g (ix1 k)) (fun k f => wg (ix3 3 k f)) (fun k f => wu (ix3 3 k f))
    (fun f k => wd (ix3 3 f k))) (fun k => gf (ix1 k)) (i 1)

variable (m : (ℓ : Loc nD τ sig) → Buf (Elt Ideal) ℓ) (ρ : Dev nD → PrngReg)

theorem index0 : ∀ t : Fin cfg0.N, win0_0.index t = ![0, 0] :=
  (by decide +kernel : ∀ t : Fin grid0.N, win0_0.index t = ![0, 0])
theorem index1 : ∀ t : Fin cfg0.N, win0_1.index t = ![0, 0] :=
  (by decide +kernel : ∀ t : Fin grid0.N, win0_1.index t = ![0, 0])
theorem index2 : ∀ t : Fin cfg0.N, win0_2.index t = ![3, 0, 0] :=
  (by decide +kernel : ∀ t : Fin grid0.N, win0_2.index t = ![3, 0, 0])
theorem index3 : ∀ t : Fin cfg0.N, win0_3.index t = ![3, 0, 0] :=
  (by decide +kernel : ∀ t : Fin grid0.N, win0_3.index t = ![3, 0, 0])
theorem index4 : ∀ t : Fin cfg0.N, win0_4.index t = ![3, 0, 0] :=
  (by decide +kernel : ∀ t : Fin grid0.N, win0_4.index t = ![3, 0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])

/-- The two gains reach the kernel as rows. -/
theorem V_gain (c : Dev nD) : V m c main_v0
    = shapeCast S1x1024 (m ((c.tc : Thread nD τ).loc main_arg1) : FVec Ideal S1024 .f32) shapeCasts_S1024_S1x1024 := by
  unfold V
  after_results <;> rfl
theorem V_gain_final (c : Dev nD) : V m c main_v1
    = shapeCast S1x1024 (m ((c.tc : Thread nD τ).loc main_arg5) : FVec Ideal S1024 .f32) shapeCasts_S1024_S1x1024 := by
  unfold V
  after_results <;> rfl

theorem blk0 (c : Dev nD) (t : Fin cfg0.N) (r : Fin 512) (k : Fin 1024) : iblk m c 0 t (ix2 r k)
    = m ((c.tc : Thread nD τ).loc main_arg0) (ix2 r k) := by
  blk_simp [iblk, V_main_arg0]
  refine congrArg _ ?_
  blk_ext [index0]

theorem blk1 (c : Dev nD) (t : Fin cfg0.N) (k : Fin 1024) : iblk m c 1 t (ix2 0 k)
    = m ((c.tc : Thread nD τ).loc main_arg1) (ix1 k) := by
  blk_simp [iblk]
  have e : (win0_1.blk t).view.emb (ix2 0 k) = ix2 0 k := by blk_ext [index1]
  rw [e, V_gain]
  pointwise

theorem blk2 (c : Dev nD) (t : Fin cfg0.N) (k : Fin 1024) (f : Fin 2816) : iblk m c 2 t (ix3 0 k f)
    = m ((c.tc : Thread nD τ).loc main_arg2) (ix3 3 k f) := by
  blk_simp [iblk, V_main_arg2]
  refine congrArg _ ?_
  blk_ext [index2]

theorem blk3 (c : Dev nD) (t : Fin cfg0.N) (k : Fin 1024) (f : Fin 2816) : iblk m c 3 t (ix3 0 k f)
    = m ((c.tc : Thread nD τ).loc main_arg3) (ix3 3 k f) := by
  blk_simp [iblk, V_main_arg3]
  refine congrArg _ ?_
  blk_ext [index3]

theorem blk4 (c : Dev nD) (t : Fin cfg0.N) (k : Fin 1024) (f : Fin 2816) : iblk m c 4 t (ix3 0 f k)
    = m ((c.tc : Thread nD τ).loc main_arg4) (ix3 3 f k) := by
  blk_simp [iblk, V_main_arg4]
  refine congrArg _ ?_
  blk_ext [index4]

theorem blk5 (c : Dev nD) (t : Fin cfg0.N) (k : Fin 1024) : iblk m c 5 t (ix2 0 k)
    = m ((c.tc : Thread nD τ).loc main_arg5) (ix1 k) := by
  blk_simp [iblk]
  have e : (win0_5.blk t).view.emb (ix2 0 k) = ix2 0 k := by blk_ext [index5]
  rw [e, V_gain_final]
  pointwise

/-- The block of the result, from the blocks the point loads. -/
theorem block_eq (c : Dev nD) (t : Fin cfg0.N) (y : S512x1024.Idx) :
    k0_pay1 (F := Ideal) (iblk m c 0 t) (k0_pay18 (hid (k0_pay2 (iblk m c 0 t) (iblk m c 1 t)) (iblk m c 2 t) (iblk m c 3 t)) (iblk m c 4 t)) k0_pay19 (iblk m c 5 t) y
      = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (((View.whole main_v2).slice (win0_6.rect t)).emb y) := by
  have e0 : ((View.whole main_v2).slice (win0_6.rect t)).emb y = y := by
    idx_vars y
    blk_ext [index6]
  refine (stored _ _ _ _ y).trans (Eq.trans ?_ (congrArg (out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) e0).symm)
  have hn : (fun k => k0_pay2 (F := Ideal) (iblk m c 0 t) (iblk m c 1 t) (ix2 (y 0) k)) = rms (fun k => (m ((c.tc : Thread nD τ).loc main_arg0)) (ix2 (y 0) k)) (fun k => (m ((c.tc : Thread nD τ).loc main_arg1)) (ix1 k)) :=
    funext fun k => (normed _ _ (y 0) k).trans (congrArg₂ (fun a b => rms a b k) (funext (blk0 m c t (y 0))) (funext (blk1 m c t)))
  have hw : ∀ f, hid (k0_pay2 (iblk m c 0 t) (iblk m c 1 t)) (iblk m c 2 t) (iblk m c 3 t) (ix2 (y 0) f) = hidRow (rms (fun k => (m ((c.tc : Thread nD τ).loc main_arg0)) (ix2 (y 0) k)) (fun k => (m ((c.tc : Thread nD τ).loc main_arg1)) (ix1 k))) (fun k f => (m ((c.tc : Thread nD τ).loc main_arg2)) (ix3 3 k f)) (fun k f => (m ((c.tc : Thread nD τ).loc main_arg3)) (ix3 3 k f)) f := fun f => by
    rw [← hn]
    have h2 : (fun k f => iblk m c 2 t (ix3 0 k f)) = fun k f => (m ((c.tc : Thread nD τ).loc main_arg2)) (ix3 3 k f) := funext fun k => funext fun f => blk2 m c t k f
    have h3 : (fun k f => iblk m c 3 t (ix3 0 k f)) = fun k f => (m ((c.tc : Thread nD τ).loc main_arg3)) (ix3 3 k f) := funext fun k => funext fun f => blk3 m c t k f
    rw [← h2, ← h3]
    rfl
  have hz : mix (iblk m c 0 t) (hid (k0_pay2 (iblk m c 0 t) (iblk m c 1 t)) (iblk m c 2 t) (iblk m c 3 t)) (iblk m c 4 t) (y 0)
      = half (fun k => (m ((c.tc : Thread nD τ).loc main_arg0)) (ix2 (y 0) k)) (fun k => (m ((c.tc : Thread nD τ).loc main_arg1)) (ix1 k)) (fun k f => (m ((c.tc : Thread nD τ).loc main_arg2)) (ix3 3 k f)) (fun k f => (m ((c.tc : Thread nD τ).loc main_arg3)) (ix3 3 k f)) (fun f k => (m ((c.tc : Thread nD τ).loc main_arg4)) (ix3 3 f k)) := by
    funext j
    refine congrArg₂ (· + ·) (blk0 m c t (y 0) j) (congrArg (Ideal.ofBits .f32 0x3F000000#32 * ·) (Finset.sum_congr rfl fun f _ => ?_))
    exact congrArg₂ (· * ·) (hw f) (blk4 m c t j f)
  exact congrFun (congrArg₂ rms hz (funext (blk5 m c t))) (y 1)

/-- The array the result ends with. -/
theorem final (c : Dev nD) : (dats m 0 c).arrAt 6 cfg0.N = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 6 _ (by decide +kernel) fun t hf y => ?_
  blk_simp
  rw [after0_6]
  unfold outsAt0
  frame_out
  refine Eq.trans ?_ (block_eq m c t y)
  exact congrFun (congrArg (fun z : FVec Ideal S512x2816 .bf16 => k0_pay1 (F := Ideal) (iblk m c 0 t) (k0_pay18 z (iblk m c 4 t)) k0_pay19 (iblk m c 5 t))
    (scratch_read _ (k0_pay2 (iblk m c 0 t) (iblk m c 1 t)) (iblk m c 2 t) (iblk m c 3 t))) y

/-- The kernel runs and leaves `out` of its arguments. -/
theorem run : θ_run defs (onTc (τ := τ) (main (F := Ideal))) ⟨m, fun _ => 0, ρ⟩ fun r => ∀ c : Dev nD,
      r.2.mem ((c.tc : Thread nD τ).loc main_v2) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (final m c), (h c).2⟩) (Value.run_blocks m ρ)

end Cert.LastIdeal.Read

end
-- ==== Proof.LastRef.lean ====
/-
  What the plain last feed-forward step computes: every row of the result is the norm of `Rows.half` of the argument's row.
-/
module

public import proofs.«01_k».proof.Proof.Gen.LastRefIdeal.Run
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.LastRefIdeal.Read

open Cert.LastRefIdeal Cert.LastRefIdeal.Gen Cert.Rows

/-- The result as one function of the arguments: row by row half a feed-forward step with the weights at position
    three, then the final norm. -/
def out (x : FVec Ideal S512x1024 .f32) (g : FVec Ideal S1024 .f32) (wg wu : FVec Ideal S4x1024x2816 .bf16)
    (wd : FVec Ideal S4x2816x1024 .bf16) (gf : FVec Ideal S1024 .f32) : FVec Ideal S512x1024 .f32 := fun i =>
  rms (half (fun k => x (ix2 (i 0) k)) (fun k => g (ix1 k)) (fun k f => wg (ix3 3 k f)) (fun k f => wu (ix3 3 k f))
    (fun f k => wd (ix3 3 f k))) (fun k => gf (ix1 k)) (i 1)

/-- The reference runs and leaves `out` of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (by
    unfold Value.res_main_v42
    generalize (m ((c.tc : Thread nD τ).loc main_arg0) : FVec Ideal S512x1024 .f32) = x
    generalize (m ((c.tc : Thread nD τ).loc main_arg1) : FVec Ideal S1024 .f32) = g
    generalize (m ((c.tc : Thread nD τ).loc main_arg2) : FVec Ideal S4x1024x2816 .bf16) = wg
    generalize (m ((c.tc : Thread nD τ).loc main_arg3) : FVec Ideal S4x1024x2816 .bf16) = wu
    generalize (m ((c.tc : Thread nD τ).loc main_arg4) : FVec Ideal S4x2816x1024 .bf16) = wd
    generalize (m ((c.tc : Thread nD τ).loc main_arg5) : FVec Ideal S1024 .f32) = gf
    funext i
    idx_vars i
    pointwise [out, half, hidRow, rms]
    rfl), (h c).2⟩) (Value.run m ρ)

end Cert.LastRefIdeal.Read

end
-- ==== Proof.LogSig.lean ====
/-
  The logarithm of the logistic function, over the extended reals, and twelve entries set into 128 lanes.
-/
module

public import Idealize.ShloMosaic.Lib.Pointwise
public import Idealize.ShloMosaic.Lib.KernelVsHost

@[expose] public section

noncomputable section

open Idealize.ShloMosaic

namespace Cert.Rows

/-- The logarithm of the logistic function: the lesser of `x` and zero, less a correction. -/
def logSig (x : EReal) : EReal := min x 0 - Ideal.log1p (Ideal.exp (-(max x (-x))))

/-- The correction is never minus infinity. -/
theorem log1p_exp_ne_bot (x : EReal) : Ideal.log1p (Ideal.exp x) ≠ ⊥ := by
  unfold Ideal.log1p
  have h : (0 : EReal) ≤ Ideal.exp x := by
    induction x with
    | bot => exact le_refl (0 : EReal)
    | top => exact (le_top : (0 : EReal) ≤ ⊤)
    | coe r => exact EReal.coe_nonneg.mpr (Real.exp_pos r).le
  revert h
  generalize Ideal.exp x = e
  intro h
  induction e with
  | bot => simp at h
  | top =>
    have e : (1 : EReal) + ⊤ = ⊤ := rfl
    rw [e]
    exact top_ne_bot
  | coe r =>
    have hr : 0 ≤ r := EReal.coe_nonneg.mp h
    have e : (1 : EReal) + (r : EReal) = ((1 + r : ℝ) : EReal) := by push_cast; rfl
    rw [e]
    have h1 : ¬ (1 + r ≤ 0) := by linarith
    show (if 1 + r ≤ 0 then (⊥ : EReal) else (Real.log (1 + r) : EReal)) ≠ ⊥
    rw [if_neg h1]
    exact EReal.coe_ne_bot _

/-- Minus the greater of `-x` and zero is the lesser of `x` and zero. -/
theorem neg_max_neg (x : EReal) : -(max (-x) 0) = min x 0 := by
  rcases le_total x 0 with h | h
  · rw [max_eq_left (by simpa using EReal.neg_le_neg_iff.mpr h), min_eq_left h, neg_neg]
  · rw [max_eq_right (by simpa using EReal.neg_le_neg_iff.mpr h), min_eq_right h, neg_zero]

/-- The same as minus a smooth maximum of `-x` and zero. -/
theorem logSig_eq (x : EReal) : -(max (-x) 0 + Ideal.log1p (Ideal.exp (-(max x (-x))))) = logSig x := by
  unfold logSig
  rw [EReal.neg_add (Or.inl (ne_of_gt (lt_of_lt_of_le EReal.bot_lt_zero (le_max_right _ _)))) (Or.inr (log1p_exp_ne_bot _)), neg_max_neg]

/-- Twelve entries in the first of 128 lanes, zero in the others. -/
def lanes (f : Fin 12 → EReal) (l : Fin 128) : EReal := if h : l.val < 12 then f ⟨l.val, h⟩ else 0

/-- A product with padded columns plus a padded bias is the padded product plus bias. -/
theorem lanes_dot {n : Nat} (x : Fin n → EReal) (w : Fin n → Fin 12 → EReal) (b : Fin 12 → EReal) (l : Fin 128) :
    (∑ k, x k * lanes (w k) l) + lanes b l = lanes (fun j => (∑ k, x k * w k j) + b j) l := by
  unfold lanes
  split
  · rfl
  · simp

/-- The rows of an array of twelve columns padded with zeros to 128. -/
theorem pad_cols {n : Nat} (x : (⟨2, ![n, 12]⟩ : Shape).Idx → EReal) {u : Shape} (v : u.Idx → EReal)
    (h : (⟨2, ![n, 12]⟩ : Shape).Pads ![0, 0] ![0, 116] ![0, 0] ⟨2, ![n, 128]⟩) (hu : 0 < u.numel) (hv : ∀ j, v j = 0)
    (r : Fin n) (l : Fin 128) :
    pad ⟨2, ![n, 128]⟩ ![0, 0] ![0, 116] ![0, 0] x v h hu (ix2 r l) = lanes (fun j => x (ix2 r j)) l := by
  unfold lanes
  split
  · rename_i hl
    refine pad_apply_of_inside _ _ _ x v h hu (ix2 r l) (ix2 r ⟨l.val, hl⟩) fun a => ?_
    fin_cases a
    · show r.val = 0 + r.val * (0 + 1)
      omega
    · show l.val = 0 + l.val * (0 + 1)
      omega
  · rename_i hl
    refine (pad_apply_of_not_inside _ _ _ x v h hu (ix2 r l) 1 fun ha => hl ?_).trans (hv _)
    have := ha.2.2
    change (l.val - 0) / (0 + 1) < 12 at this
    omega

/-- A vector of twelve entries padded with zeros to 128. -/
theorem pad_vec (x : (⟨1, ![12]⟩ : Shape).Idx → EReal) {u : Shape} (v : u.Idx → EReal)
    (h : (⟨1, ![12]⟩ : Shape).Pads ![0] ![116] ![0] ⟨1, ![128]⟩) (hu : 0 < u.numel) (hv : ∀ j, v j = 0) (l : Fin 128) :
    pad ⟨1, ![128]⟩ ![0] ![116] ![0] x v h hu (ix1 l) = lanes (fun j => x (ix1 j)) l := by
  unfold lanes
  split
  · rename_i hl
    refine pad_apply_of_inside _ _ _ x v h hu (ix1 l) (ix1 ⟨l.val, hl⟩) fun a => ?_
    fin_cases a
    show l.val = 0 + l.val * (0 + 1)
    omega
  · rename_i hl
    refine (pad_apply_of_not_inside _ _ _ x v h hu (ix1 l) 0 fun ha => hl ?_).trans (hv _)
    have := ha.2.2
    change (l.val - 0) / (0 + 1) < 12 at this
    omega

/-- The integer zero as a float is zero. -/
theorem zero_of_int (j : (⟨0, ![]⟩ : Shape).Idx) :
    (sitofp (F := Ideal) .f32 (constantI ⟨0, ![]⟩ 32 0#32) : FVec Ideal ⟨0, ![]⟩ .f32) j = (0 : EReal) := by
  show (((0#32 : BitVec 32).toInt : ℝ) : EReal) = 0
  simp

end Cert.Rows

end
-- ==== Proof.FoxSValue.lean ====
/-
  What the projection of the sample computes: its one block holds the normed rows times the weights' columns, and the
  logarithms of the forget gates twice, once with the positions along the columns.
-/
module

public import proofs.«01_k».proof.Proof.Gen.FoxSIdeal.Value
public import proofs.«01_k».proof.Proof.Rows
public import proofs.«01_k».proof.Proof.LogSig

@[expose] public section

set_option maxRecDepth 16384

noncomputable section

open Idealize.ShloMosaic Idealize.ShloMosaic.TcCoe Idealize.SL.Sem
open Idealize.ShloMosaic.Pipeline (Dat)

namespace Cert.FoxSIdeal.Read

open Cert.FoxSIdeal Cert.FoxSIdeal.Gen Cert.Rows

/-- One entry of the normed rows times the weights' columns from `o` on. -/
def project {n : Nat} (o : Nat) (h : o + n ≤ 2572) (x : FVec Ideal S512x1024 .f32) (g : FVec Ideal S1024 .f32) (w : FVec Ideal S1024x2572 .f32) (r : Fin 512) (j : Fin n) : Ideal .f32 :=
  ∑ k, rms (fun k => x (ix2 r k)) (fun k => g (ix1 k)) k * w (ix2 k ⟨o + j.val, lt_of_lt_of_le (Nat.add_lt_add_left j.isLt o) h⟩)

/-- The queries, scaled by an eighth. -/
def out0 (x : FVec Ideal S512x1024 .f32) (g : FVec Ideal S1024 .f32) (w : FVec Ideal S1024x2572 .f32) : FVec Ideal S512x768 .f32 := fun i =>
  project 0 (by decide) x g w (i 0) (i 1) * Ideal.ofBits .f32 0x3E000000#32

/-- The keys. -/
def out1 (x : FVec Ideal S512x1024 .f32) (g : FVec Ideal S1024 .f32) (w : FVec Ideal S1024x2572 .f32) : FVec Ideal S512x768 .f32 := fun i =>
  project 768 (by decide) x g w (i 0) (i 1)

/-- The values. -/
def out2 (x : FVec Ideal S512x1024 .f32) (g : FVec Ideal S1024 .f32) (w : FVec Ideal S1024x2572 .f32) : FVec Ideal S512x768 .f32 := fun i =>
  project 1536 (by decide) x g w (i 0) (i 1)

/-- The cross-attention queries. -/
def out3 (x : FVec Ideal S512x1024 .f32) (g : FVec Ideal S1024 .f32) (w : FVec Ideal S1024x2572 .f32) : FVec Ideal S512x256 .f32 := fun i =>
  project 2316 (by decide) x g w (i 0) (i 1)

/-- The logarithm of a row's forget gate in one lane: twelve gates, then lanes that hold the gate of zero. -/
def forget (x : FVec Ideal S512x1024 .f32) (g : FVec Ideal S1024 .f32) (w : FVec Ideal S1024x2572 .f32) (b : FVec Ideal S12 .f32) (r : Fin 512) (l : Fin 128) : Ideal .f32 :=
  logSig (lanes (fun j => project 2304 (by decide) x g w r j + b (ix1 j)) l)

/-- The logarithms of the forget gates, a row per position. -/
def out4 (x : FVec Ideal S512x1024 .f32) (g : FVec Ideal S1024 .f32) (w : FVec Ideal S1024x2572 .f32) (b : FVec Ideal S12 .f32) : FVec Ideal S512x128 .f32 := fun i => forget x g w b (i 0) (i 1)

/-- The same with the positions along the columns, for the first sixteen lanes. -/
def out5 (x : FVec Ideal S512x1024 .f32) (g : FVec Ideal S1024 .f32) (w : FVec Ideal S1024x2572 .f32) (b : FVec Ideal S12 .f32) : FVec Ideal S16x512 .f32 := fun i =>
  forget x g w b (i 1) ⟨(i 0).val, lt_of_lt_of_le (i 0).isLt (by decide)⟩

/-- What each product stores, from the loaded rows, gain and weights. -/
theorem product2 (x : FVec Ideal S512x1024 .f32) (g : FVec Ideal S1x1024 .f32) (w : FVec Ideal S1024x768 .bf16) (y : S512x768.Idx) :
    k0_pay2 (F := Ideal) x g w y = (∑ k, rms (fun k => x (ix2 (y 0) k)) (fun k => g (ix2 0 k)) k * w (ix2 k (y 1))) * Ideal.ofBits .f32 0x3E000000#32 := by
  idx_vars y
  pointwise [k0_pay1, k0_pay2, rms]
theorem product3 (x : FVec Ideal S512x1024 .f32) (g : FVec Ideal S1x1024 .f32) (w : FVec Ideal S1024x768 .bf16) (y : S512x768.Idx) :
    k0_pay3 (F := Ideal) x g w y = ∑ k, rms (fun k => x (ix2 (y 0) k)) (fun k => g (ix2 0 k)) k * w (ix2 k (y 1)) := by
  idx_vars y
  pointwise [k0_pay1, k0_pay3, rms]
theorem product4 (x : FVec Ideal S512x1024 .f32) (g : FVec Ideal S1x1024 .f32) (w : FVec Ideal S1024x768 .bf16) (y : S512x768.Idx) :
    k0_pay4 (F := Ideal) x g w y = ∑ k, rms (fun k => x (ix2 (y 0) k)) (fun k => g (ix2 0 k)) k * w (ix2 k (y 1)) := by
  idx_vars y
  pointwise [k0_pay1, k0_pay4, rms]
theorem product5 (x : FVec Ideal S512x1024 .f32) (g : FVec Ideal S1x1024 .f32) (w : FVec Ideal S1024x256 .bf16) (y : S512x256.Idx) :
    k0_pay5 (F := Ideal) (k0_pay1 x g) w y = ∑ k, rms (fun k => x (ix2 (y 0) k)) (fun k => g (ix2 0 k)) k * w (ix2 k (y 1)) := by
  idx_vars y
  pointwise [k0_pay1, k0_pay5, rms]

/-- What the gates store, from the loaded rows, gain, weights and bias. -/
theorem gates6 (x : FVec Ideal S512x1024 .f32) (g : FVec Ideal S1x1024 .f32) (w : FVec Ideal S1024x128 .bf16) (b : FVec Ideal S1x128 .f32)
    (y : S512x128.Idx) : k0_pay6 (F := Ideal) (k0_pay1 x g) w b y
      = logSig ((∑ k, rms (fun k => x (ix2 (y 0) k)) (fun k => g (ix2 0 k)) k * w (ix2 k (y 1))) + b (ix2 0 (y 1))) := by
  idx_vars y
  pointwise [k0_pay1, k0_pay6, rms, logSig]
  exact congrArg (fun z : EReal => min _ 0 - Ideal.log1p (Ideal.exp z)) (zero_sub _)

/-- What the transposed gates store; its product has the factors the other way round. -/
theorem gates7 (x : FVec Ideal S512x1024 .f32) (g : FVec Ideal S1x1024 .f32) (w : FVec Ideal S16x1024 .bf16) (b : FVec Ideal S16x1 .f32)
    (y : S16x512.Idx) : k0_pay7 (F := Ideal) (k0_pay1 x g) w b y
      = logSig ((∑ k, w (ix2 (y 0) k) * rms (fun k => x (ix2 (y 1) k)) (fun k => g (ix2 0 k)) k) + b (ix2 (y 0) 0)) := by
  idx_vars y
  pointwise [k0_pay1, k0_pay7, rms, logSig]
  exact congrArg (fun z : EReal => min _ 0 - Ideal.log1p (Ideal.exp z)) (zero_sub _)

/-- The first sixteen columns of the padded weights, turned. -/
theorem cut_weights (z : FVec Ideal S1024x128 .f32) (k : Fin 1024) (l : Fin 16) :
    truncf (F := Ideal) .bf16 (transpose S16x1024 [1, 0] (extractStridedSlice S1024x16 ![0, 0] z slices_S1024x128_S1024x16_0_0) transposes_S1024x16_S16x1024_1_0) bitsLt_bf16_f32 (ix2 l k)
      = z (ix2 k ⟨l.val, lt_of_lt_of_le l.isLt (by decide)⟩) := by
  pointwise

/-- The padded bias as a row, and its first sixteen entries as a column. -/
theorem row_bias (z : FVec Ideal S128 .f32) (l : Fin 128) : shapeCast S1x128 z shapeCasts_S128_S1x128 (ix2 0 l) = z (ix1 l) := by
  pointwise
theorem cut_bias (z : FVec Ideal S128 .f32) (l : Fin 16) :
    shapeCast S16x1 (shapeCast S16 (extractStridedSlice S1x16 ![0, 0] (shapeCast S1x128 z shapeCasts_S128_S1x128) slices_S1x128_S1x16_0_0) shapeCasts_S1x16_S16) shapeCasts_S16_S16x1 (ix2 l 0)
      = z (ix1 ⟨l.val, lt_of_lt_of_le l.isLt (by decide)⟩) := by
  pointwise

variable (m : (ℓ : Loc nD τ sig) → Buf (Elt Ideal) ℓ) (ρ : Dev nD → PrngReg)

theorem index0 : ∀ t : Fin cfg0.N, win0_0.index t = ![0, 0] :=
  (by decide +kernel : ∀ t : Fin grid0.N, win0_0.index t = ![0, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![0, 0] :=
  (by decide +kernel : ∀ t : Fin grid0.N, win0_8.index t = ![0, 0])
theorem index9 : ∀ t : Fin cfg0.N, win0_9.index t = ![0, 0] :=
  (by decide +kernel : ∀ t : Fin grid0.N, win0_9.index t = ![0, 0])
theorem index10 : ∀ t : Fin cfg0.N, win0_10.index t = ![0, 0] :=
  (by decide +kernel : ∀ t : Fin grid0.N, win0_10.index t = ![0, 0])
theorem index11 : ∀ t : Fin cfg0.N, win0_11.index t = ![0, 0] :=
  (by decide +kernel : ∀ t : Fin grid0.N, win0_11.index t = ![0, 0])
theorem index12 : ∀ t : Fin cfg0.N, win0_12.index t = ![0, 0] :=
  (by decide +kernel : ∀ t : Fin grid0.N, win0_12.index t = ![0, 0])
theorem index13 : ∀ t : Fin cfg0.N, win0_13.index t = ![0, 0] :=
  (by decide +kernel : ∀ t : Fin grid0.N, win0_13.index t = ![0, 0])
theorem index14 : ∀ t : Fin cfg0.N, win0_14.index t = ![0, 0] :=
  (by decide +kernel : ∀ t : Fin grid0.N, win0_14.index t = ![0, 0])
theorem index15 : ∀ t : Fin cfg0.N, win0_15.index t = ![0, 0] :=
  (by decide +kernel : ∀ t : Fin grid0.N, win0_15.index t = ![0, 0])

/-- The gain reaches the kernel as a row, the weights cut in pieces, the gates' pieces padded. -/
theorem V_gain (c : Dev nD) : V m c main_v13 = shapeCast S1x1024 (m ((c.tc : Thread nD τ).loc main_arg1) : FVec Ideal S1024 .f32) shapeCasts_S1024_S1x1024 := by
  simp only [V, hostOps0, hostOps0_1, hostOps0_2, hostOps0_3, hostOps0_4, List.flatten_cons, List.flatten_nil, List.append_nil, List.cons_append,
    List.nil_append, StableHlo.TRef.unary, StableHlo.TRef.binary, StableHlo.TRef.toBuf, StableHlo.TRef.ofBuf, cast_eq]
  after_results <;> rfl
theorem V_q (c : Dev nD) : V m c main_v14 = truncf (F := Ideal) .bf16 (extractStridedSlice S1024x768 ![0, 0] (m ((c.tc : Thread nD τ).loc main_arg2) : FVec Ideal S1024x2572 .f32) slices_S1024x2572_S1024x768_0_0) bitsLt_bf16_f32 := by
  simp only [V, hostOps0, hostOps0_1, hostOps0_2, hostOps0_3, hostOps0_4, List.flatten_cons, List.flatten_nil, List.append_nil, List.cons_append,
    List.nil_append, StableHlo.TRef.unary, StableHlo.TRef.binary, StableHlo.TRef.toBuf, StableHlo.TRef.ofBuf, cast_eq]
  after_results <;> rfl
theorem V_k (c : Dev nD) : V m c main_v15 = truncf (F := Ideal) .bf16 (extractStridedSlice S1024x768 ![0, 768] (m ((c.tc : Thread nD τ).loc main_arg2) : FVec Ideal S1024x2572 .f32) slices_S1024x2572_S1024x768_0_768) bitsLt_bf16_f32 := by
  simp only [V, hostOps0, hostOps0_1, hostOps0_2, hostOps0_3, hostOps0_4, List.flatten_cons, List.flatten_nil, List.append_nil, List.cons_append,
    List.nil_append, StableHlo.TRef.unary, StableHlo.TRef.binary, StableHlo.TRef.toBuf, StableHlo.TRef.ofBuf, cast_eq]
  after_results <;> rfl
theorem V_v (c : Dev nD) : V m c main_v16 = truncf (F := Ideal) .bf16 (extractStridedSlice S1024x768 ![0, 1536] (m ((c.tc : Thread nD τ).loc main_arg2) : FVec Ideal S1024x2572 .f32) slices_S1024x2572_S1024x768_0_1536) bitsLt_bf16_f32 := by
  simp only [V, hostOps0, hostOps0_1, hostOps0_2, hostOps0_3, hostOps0_4, List.flatten_cons, List.flatten_nil, List.append_nil, List.cons_append,
    List.nil_append, StableHlo.TRef.unary, StableHlo.TRef.binary, StableHlo.TRef.toBuf, StableHlo.TRef.ofBuf, cast_eq]
  after_results <;> rfl
theorem V_c (c : Dev nD) : V m c main_v17 = truncf (F := Ideal) .bf16 (extractStridedSlice S1024x256 ![0, 2316] (m ((c.tc : Thread nD τ).loc main_arg2) : FVec Ideal S1024x2572 .f32) slices_S1024x2572_S1024x256_0_2316) bitsLt_bf16_f32 := by
  simp only [V, hostOps0, hostOps0_1, hostOps0_2, hostOps0_3, hostOps0_4, List.flatten_cons, List.flatten_nil, List.append_nil, List.cons_append,
    List.nil_append, StableHlo.TRef.unary, StableHlo.TRef.binary, StableHlo.TRef.toBuf, StableHlo.TRef.ofBuf, cast_eq]
  after_results <;> rfl
theorem V_f (c : Dev nD) : V m c main_v18 = truncf (F := Ideal) .bf16 (pad S1024x128 ![0, 0] ![0, 116] ![0, 0] (extractStridedSlice S1024x12 ![0, 2304] (m ((c.tc : Thread nD τ).loc main_arg2) : FVec Ideal S1024x2572 .f32) slices_S1024x2572_S1024x12_0_2304) (sitofp (F := Ideal) .f32 (constantI S_ 32 0#32)) pads_S1024x12_S1024x128_000_01160 h_S_ : FVec Ideal S1024x128 .f32) bitsLt_bf16_f32 := by
  simp only [V, hostOps0, hostOps0_1, hostOps0_2, hostOps0_3, hostOps0_4, List.flatten_cons, List.flatten_nil, List.append_nil, List.cons_append,
    List.nil_append, StableHlo.TRef.unary, StableHlo.TRef.binary, StableHlo.TRef.toBuf, StableHlo.TRef.ofBuf, cast_eq]
  after_results <;> rfl
theorem V_ft (c : Dev nD) : V m c main_v19 = truncf (F := Ideal) .bf16 (transpose S16x1024 [1, 0] (extractStridedSlice S1024x16 ![0, 0] (pad S1024x128 ![0, 0] ![0, 116] ![0, 0] (extractStridedSlice S1024x12 ![0, 2304] (m ((c.tc : Thread nD τ).loc main_arg2) : FVec Ideal S1024x2572 .f32) slices_S1024x2572_S1024x12_0_2304) (sitofp (F := Ideal) .f32 (constantI S_ 32 0#32)) pads_S1024x12_S1024x128_000_01160 h_S_ : FVec Ideal S1024x128 .f32) slices_S1024x128_S1024x16_0_0) transposes_S1024x16_S16x1024_1_0) bitsLt_bf16_f32 := by
  simp only [V, hostOps0, hostOps0_1, hostOps0_2, hostOps0_3, hostOps0_4, List.flatten_cons, List.flatten_nil, List.append_nil, List.cons_append,
    List.nil_append, StableHlo.TRef.unary, StableHlo.TRef.binary, StableHlo.TRef.toBuf, StableHlo.TRef.ofBuf, cast_eq]
  after_results <;> rfl
theorem V_b (c : Dev nD) : V m c main_v7 = (shapeCast S1x128 (pad S128 ![0] ![116] ![0] (m ((c.tc : Thread nD τ).loc main_arg3) : FVec Ideal S12 .f32) (sitofp (F := Ideal) .f32 (constantI S_ 32 0#32)) pads_S12_S128_01160 h_S_ : FVec Ideal S128 .f32) shapeCasts_S128_S1x128) := by
  simp only [V, hostOps0, hostOps0_1, hostOps0_2, hostOps0_3, hostOps0_4, List.flatten_cons, List.flatten_nil, List.append_nil, List.cons_append,
    List.nil_append, StableHlo.TRef.unary, StableHlo.TRef.binary, StableHlo.TRef.toBuf, StableHlo.TRef.ofBuf, cast_eq]
  after_results <;> rfl
theorem V_bt (c : Dev nD) : V m c main_v12 = shapeCast S16x1 (shapeCast S16 (extractStridedSlice S1x16 ![0, 0] (shapeCast S1x128 (pad S128 ![0] ![116] ![0] (m ((c.tc : Thread nD τ).loc main_arg3) : FVec Ideal S12 .f32) (sitofp (F := Ideal) .f32 (constantI S_ 32 0#32)) pads_S12_S128_01160 h_S_ : FVec Ideal S128 .f32) shapeCasts_S128_S1x128) slices_S1x128_S1x16_0_0) shapeCasts_S1x16_S16) shapeCasts_S16_S16x1 := by
  simp only [V, hostOps0, hostOps0_1, hostOps0_2, hostOps0_3, hostOps0_4, List.flatten_cons, List.flatten_nil, List.append_nil, List.cons_append,
    List.nil_append, StableHlo.TRef.unary, StableHlo.TRef.binary, StableHlo.TRef.toBuf, StableHlo.TRef.ofBuf, cast_eq]
  after_results <;> rfl

theorem blk0 (c : Dev nD) (t : Fin cfg0.N) (r : Fin 512) (k : Fin 1024) : iblk m c 0 t (ix2 r k)
    = m ((c.tc : Thread nD τ).loc main_arg0) (ix2 r k) := by
  blk_simp [iblk]
  have e : (win0_0.blk t).view.emb (ix2 r k) = ix2 r k := by blk_ext [index0]
  rw [e, V_main_arg0]

theorem blk1 (c : Dev nD) (t : Fin cfg0.N) (k : Fin 1024) : iblk m c 1 t (ix2 0 k)
    = m ((c.tc : Thread nD τ).loc main_arg1) (ix1 k) := by
  blk_simp [iblk]
  have e : (win0_1.blk t).view.emb (ix2 0 k) = ix2 0 k := by blk_ext [index1]
  rw [e, V_gain]
  pointwise

theorem blk2 (c : Dev nD) (t : Fin cfg0.N) (k : Fin 1024) (j : Fin 768) : iblk m c 2 t (ix2 k j)
    = m ((c.tc : Thread nD τ).loc main_arg2) (ix2 k ⟨0 + j.val, lt_of_lt_of_le (Nat.add_lt_add_left j.isLt 0) (by decide)⟩) := by
  blk_simp [iblk]
  have e : (win0_2.blk t).view.emb (ix2 k j) = ix2 k j := by blk_ext [index2]
  rw [e, V_q]
  pointwise

theorem blk3 (c : Dev nD) (t : Fin cfg0.N) (k : Fin 1024) (j : Fin 768) : iblk m c 3 t (ix2 k j)
    = m ((c.tc : Thread nD τ).loc main_arg2) (ix2 k ⟨768 + j.val, lt_of_lt_of_le (Nat.add_lt_add_left j.isLt 768) (by decide)⟩) := by
  blk_simp [iblk]
  have e : (win0_3.blk t).view.emb (ix2 k j) = ix2 k j := by blk_ext [index3]
  rw [e, V_k]
  pointwise

theorem blk4 (c : Dev nD) (t : Fin cfg0.N) (k : Fin 1024) (j : Fin 768) : iblk m c 4 t (ix2 k j)
    = m ((c.tc : Thread nD τ).loc main_arg2) (ix2 k ⟨1536 + j.val, lt_of_lt_of_le (Nat.add_lt_add_left j.isLt 1536) (by decide)⟩) := by
  blk_simp [iblk]
  have e : (win0_4.blk t).view.emb (ix2 k j) = ix2 k j := by blk_ext [index4]
  rw [e, V_v]
  pointwise

theorem blk5 (c : Dev nD) (t : Fin cfg0.N) (k : Fin 1024) (j : Fin 256) : iblk m c 5 t (ix2 k j)
    = m ((c.tc : Thread nD τ).loc main_arg2) (ix2 k ⟨2316 + j.val, lt_of_lt_of_le (Nat.add_lt_add_left j.isLt 2316) (by decide)⟩) := by
  blk_simp [iblk]
  have e : (win0_5.blk t).view.emb (ix2 k j) = ix2 k j := by blk_ext [index5]
  rw [e, V_c]
  pointwise

theorem blk6 (c : Dev nD) (t : Fin cfg0.N) (k : Fin 1024) (l : Fin 128) : iblk m c 6 t (ix2 k l)
    = lanes (fun j => m ((c.tc : Thread nD τ).loc main_arg2) (ix2 k ⟨2304 + j.val, lt_of_lt_of_le (Nat.add_lt_add_left j.isLt 2304) (by decide)⟩)) l := by
  blk_simp [iblk]
  have e : (win0_6.blk t).view.emb (ix2 k l) = ix2 k l := by blk_ext [index6]
  rw [e, V_f]
  refine (pad_cols _ _ pads_S1024x12_S1024x128_000_01160 h_S_ zero_of_int k l).trans (congrArg (fun f => lanes f l) (funext fun j => ?_))
  pointwise

theorem blk7 (c : Dev nD) (t : Fin cfg0.N) (k : Fin 1024) (l : Fin 16) : iblk m c 7 t (ix2 l k)
    = lanes (fun j => m ((c.tc : Thread nD τ).loc main_arg2) (ix2 k ⟨2304 + j.val, lt_of_lt_of_le (Nat.add_lt_add_left j.isLt 2304) (by decide)⟩)) ⟨l.val, lt_of_lt_of_le l.isLt (by decide)⟩ := by
  blk_simp [iblk]
  have e : (win0_7.blk t).view.emb (ix2 l k) = ix2 l k := by blk_ext [index7]
  rw [e, V_ft]
  refine (cut_weights _ k l).trans ((pad_cols (extractStridedSlice S1024x12 ![0, 2304] (m ((c.tc : Thread nD τ).loc main_arg2) : FVec Ideal S1024x2572 .f32) slices_S1024x2572_S1024x12_0_2304) _ _ _ zero_of_int k ⟨l.val, lt_of_lt_of_le l.isLt (by decide)⟩).trans (congrArg (fun f => lanes f _) (funext fun j => ?_)))
  pointwise

theorem blk8 (c : Dev nD) (t : Fin cfg0.N) (l : Fin 128) : iblk m c 8 t (ix2 0 l)
    = lanes (fun j => m ((c.tc : Thread nD τ).loc main_arg3) (ix1 j)) l := by
  blk_simp [iblk]
  have e : (win0_8.blk t).view.emb (ix2 0 l) = ix2 0 l := by blk_ext [index8]
  rw [e, V_b]
  exact (row_bias _ l).trans (pad_vec (m ((c.tc : Thread nD τ).loc main_arg3) : FVec Ideal S12 .f32) _ _ _ zero_of_int l)

theorem blk9 (c : Dev nD) (t : Fin cfg0.N) (l : Fin 16) : iblk m c 9 t (ix2 l 0)
    = lanes (fun j => m ((c.tc : Thread nD τ).loc main_arg3) (ix1 j)) ⟨l.val, lt_of_lt_of_le l.isLt (by decide)⟩ := by
  blk_simp [iblk]
  have e : (win0_9.blk t).view.emb (ix2 l 0) = ix2 l 0 := by blk_ext [index9]
  rw [e, V_bt]
  exact (cut_bias _ l).trans (pad_vec (m ((c.tc : Thread nD τ).loc main_arg3) : FVec Ideal S12 .f32) _ _ _ zero_of_int ⟨l.val, lt_of_lt_of_le l.isLt (by decide)⟩)

/-- What is stored for result 0, from the blocks the point loads. -/
theorem block0 (c : Dev nD) (t : Fin cfg0.N) (y : S512x768.Idx) :
    k0_pay2 (F := Ideal) (iblk m c 0 t) (iblk m c 1 t) (iblk m c 2 t) y
      = out0 (m ((c.tc : Thread nD τ).loc main_arg0)) (m ((c.tc : Thread nD τ).loc main_arg1)) (m ((c.tc : Thread nD τ).loc main_arg2)) y := by
  refine (product2 (iblk m c 0 t) (iblk m c 1 t) (iblk m c 2 t) y).trans ?_
  exact congrArg (· * Ideal.ofBits .f32 0x3E000000#32) (Finset.sum_congr rfl fun k _ => congrArg₂ (· * ·)
    (congrArg₂ (fun a b => rms a b k) (funext (blk0 m c t (y 0))) (funext (blk1 m c t))) (blk2 m c t k (y 1)))

/-- The array result 0 ends with. -/
theorem final10 (c : Dev nD) : (dats m 0 c).arrAt 10 cfg0.N = out0 (m ((c.tc : Thread nD τ).loc main_arg0)) (m ((c.tc : Thread nD τ).loc main_arg1)) (m ((c.tc : Thread nD τ).loc main_arg2)) := by
  refine (dats m 0 c).arrAt_eq_of_covers 10 _ (by decide +kernel) fun t hf y => ?_
  have e0 : ((View.whole main_v20_0).slice (win0_10.rect t)).emb y = y := by
    idx_vars y
    blk_ext [index10]
  blk_simp
  rw [after0_10]
  unfold_out out0_10
  frame_out
  exact (block0 m c t y).trans (congrArg (out0 (m ((c.tc : Thread nD τ).loc main_arg0)) (m ((c.tc : Thread nD τ).loc main_arg1)) (m ((c.tc : Thread nD τ).loc main_arg2))) e0).symm

/-- What is stored for result 1, from the blocks the point loads. -/
theorem block1 (c : Dev nD) (t : Fin cfg0.N) (y : S512x768.Idx) :
    k0_pay3 (F := Ideal) (iblk m c 0 t) (iblk m c 1 t) (iblk m c 3 t) y
      = out1 (m ((c.tc : Thread nD τ).loc main_arg0)) (m ((c.tc : Thread nD τ).loc main_arg1)) (m ((c.tc : Thread nD τ).loc main_arg2)) y := by
  refine (product3 (iblk m c 0 t) (iblk m c 1 t) (iblk m c 3 t) y).trans ?_
  exact Finset.sum_congr rfl fun k _ => congrArg₂ (· * ·)
    (congrArg₂ (fun a b => rms a b k) (funext (blk0 m c t (y 0))) (funext (blk1 m c t))) (blk3 m c t k (y 1))

/-- The array result 1 ends with. -/
theorem final11 (c : Dev nD) : (dats m 0 c).arrAt 11 cfg0.N = out1 (m ((c.tc : Thread nD τ).loc main_arg0)) (m ((c.tc : Thread nD τ).loc main_arg1)) (m ((c.tc : Thread nD τ).loc main_arg2)) := by
  refine (dats m 0 c).arrAt_eq_of_covers 11 _ (by decide +kernel) fun t hf y => ?_
  have e0 : ((View.whole main_v20_1).slice (win0_11.rect t)).emb y = y := by
    idx_vars y
    blk_ext [index11]
  blk_simp
  rw [after0_11]
  unfold_out out0_11
  frame_out
  exact (block1 m c t y).trans (congrArg (out1 (m ((c.tc : Thread nD τ).loc main_arg0)) (m ((c.tc : Thread nD τ).loc main_arg1)) (m ((c.tc : Thread nD τ).loc main_arg2))) e0).symm

/-- What is stored for result 2, from the blocks the point loads. -/
theorem block2 (c : Dev nD) (t : Fin cfg0.N) (y : S512x768.Idx) :
    k0_pay4 (F := Ideal) (iblk m c 0 t) (iblk m c 1 t) (iblk m c 4 t) y
      = out2 (m ((c.tc : Thread nD τ).loc main_arg0)) (m ((c.tc : Thread nD τ).loc main_arg1)) (m ((c.tc : Thread nD τ).loc main_arg2)) y := by
  refine (product4 (iblk m c 0 t) (iblk m c 1 t) (iblk m c 4 t) y).trans ?_
  exact Finset.sum_congr rfl fun k _ => congrArg₂ (· * ·)
    (congrArg₂ (fun a b => rms a b k) (funext (blk0 m c t (y 0))) (funext (blk1 m c t))) (blk4 m c t k (y 1))

/-- The array result 2 ends with. -/
theorem final12 (c : Dev nD) : (dats m 0 c).arrAt 12 cfg0.N = out2 (m ((c.tc : Thread nD τ).loc main_arg0)) (m ((c.tc : Thread nD τ).loc main_arg1)) (m ((c.tc : Thread nD τ).loc main_arg2)) := by
  refine (dats m 0 c).arrAt_eq_of_covers 12 _ (by decide +kernel) fun t hf y => ?_
  have e0 : ((View.whole main_v20_2).slice (win0_12.rect t)).emb y = y := by
    idx_vars y
    blk_ext [index12]
  blk_simp
  rw [after0_12]
  unfold_out out0_12
  frame_out
  exact (block2 m c t y).trans (congrArg (out2 (m ((c.tc : Thread nD τ).loc main_arg0)) (m ((c.tc : Thread nD τ).loc main_arg1)) (m ((c.tc : Thread nD τ).loc main_arg2))) e0).symm

/-- What is stored for result 3, from the blocks the point loads. -/
theorem block3 (c : Dev nD) (t : Fin cfg0.N) (y : S512x256.Idx) :
    k0_pay5 (F := Ideal) (k0_pay1 (iblk m c 0 t) (iblk m c 1 t)) (iblk m c 5 t) y
      = out3 (m ((c.tc : Thread nD τ).loc main_arg0)) (m ((c.tc : Thread nD τ).loc main_arg1)) (m ((c.tc : Thread nD τ).loc main_arg2)) y := by
  refine (product5 (iblk m c 0 t) (iblk m c 1 t) (iblk m c 5 t) y).trans ?_
  exact Finset.sum_congr rfl fun k _ => congrArg₂ (· * ·)
    (congrArg₂ (fun a b => rms a b k) (funext (blk0 m c t (y 0))) (funext (blk1 m c t))) (blk5 m c t k (y 1))

/-- The array result 3 ends with. -/
theorem final13 (c : Dev nD) : (dats m 0 c).arrAt 13 cfg0.N = out3 (m ((c.tc : Thread nD τ).loc main_arg0)) (m ((c.tc : Thread nD τ).loc main_arg1)) (m ((c.tc : Thread nD τ).loc main_arg2)) := by
  refine (dats m 0 c).arrAt_eq_of_covers 13 _ (by decide +kernel) fun t hf y => ?_
  have e0 : ((View.whole main_v20_3).slice (win0_13.rect t)).emb y = y := by
    idx_vars y
    blk_ext [index13]
  blk_simp
  rw [after0_13]
  unfold_out out0_13
  frame_out
  exact (block3 m c t y).trans (congrArg (out3 (m ((c.tc : Thread nD τ).loc main_arg0)) (m ((c.tc : Thread nD τ).loc main_arg1)) (m ((c.tc : Thread nD τ).loc main_arg2))) e0).symm

/-- What is stored for result 4, from the blocks the point loads. -/
theorem block4 (c : Dev nD) (t : Fin cfg0.N) (y : S512x128.Idx) :
    k0_pay6 (F := Ideal) (k0_pay1 (iblk m c 0 t) (iblk m c 1 t)) (iblk m c 6 t) (iblk m c 8 t) y
      = out4 (m ((c.tc : Thread nD τ).loc main_arg0)) (m ((c.tc : Thread nD τ).loc main_arg1)) (m ((c.tc : Thread nD τ).loc main_arg2)) (m ((c.tc : Thread nD τ).loc main_arg3)) y := by
  refine (gates6 (iblk m c 0 t) (iblk m c 1 t) (iblk m c 6 t) (iblk m c 8 t) y).trans (congrArg logSig ?_)
  refine Eq.trans (congrArg₂ (· + ·) (Finset.sum_congr rfl fun k _ => congrArg₂ (· * ·)
    (congrArg₂ (fun a b => rms a b k) (funext (blk0 m c t (y 0))) (funext (blk1 m c t))) (blk6 m c t k (y 1))) (blk8 m c t (y 1))) ?_
  exact lanes_dot _ _ _ (y 1)

/-- The array result 4 ends with. -/
theorem final14 (c : Dev nD) : (dats m 0 c).arrAt 14 cfg0.N = out4 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 14 _ (by decide +kernel) fun t hf y => ?_
  have e0 : ((View.whole main_v20_4).slice (win0_14.rect t)).emb y = y := by
    idx_vars y
    blk_ext [index14]
  blk_simp
  rw [after0_14]
  unfold_out out0_14
  frame_out
  exact (block4 m c t y).trans (congrArg (out4 (m ((c.tc : Thread nD τ).loc main_arg0)) (m ((c.tc : Thread nD τ).loc main_arg1)) (m ((c.tc : Thread nD τ).loc main_arg2)) (m ((c.tc : Thread nD τ).loc main_arg3))) e0).symm

/-- What is stored for result 5, from the blocks the point loads. -/
theorem block5 (c : Dev nD) (t : Fin cfg0.N) (y : S16x512.Idx) :
    k0_pay7 (F := Ideal) (k0_pay1 (iblk m c 0 t) (iblk m c 1 t)) (iblk m c 7 t) (iblk m c 9 t) y
      = out5 (m ((c.tc : Thread nD τ).loc main_arg0)) (m ((c.tc : Thread nD τ).loc main_arg1)) (m ((c.tc : Thread nD τ).loc main_arg2)) (m ((c.tc : Thread nD τ).loc main_arg3)) y := by
  refine (gates7 (iblk m c 0 t) (iblk m c 1 t) (iblk m c 7 t) (iblk m c 9 t) y).trans (congrArg logSig ?_)
  refine Eq.trans (congrArg₂ (· + ·) (Finset.sum_congr rfl fun k _ => (congrArg₂ (fun a b : EReal => a * b) (blk7 m c t k (y 0))
    (congrArg₂ (fun a b => rms a b k) (funext (blk0 m c t (y 1))) (funext (blk1 m c t)))).trans (mul_comm _ _)) (blk9 m c t (y 0))) ?_
  exact lanes_dot _ _ _ _

/-- The array result 5 ends with. -/
theorem final15 (c : Dev nD) : (dats m 0 c).arrAt 15 cfg0.N = out5 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 15 _ (by decide +kernel) fun t hf y => ?_
  have e0 : ((View.whole main_v20_5).slice (win0_15.rect t)).emb y = y := by
    idx_vars y
    blk_ext [index15]
  blk_simp
  rw [after0_15]
  unfold_out out0_15
  frame_out
  exact (block5 m c t y).trans (congrArg (out5 (m ((c.tc : Thread nD τ).loc main_arg0)) (m ((c.tc : Thread nD τ).loc main_arg1)) (m ((c.tc : Thread nD τ).loc main_arg2)) (m ((c.tc : Thread nD τ).loc main_arg3))) e0).symm

/-- The kernel runs and leaves the six functions of its arguments. -/
theorem run : θ_run defs (onTc (τ := τ) (main (F := Ideal))) ⟨m, fun _ => 0, ρ⟩ fun r => ∀ c : Dev nD,
      r.2.mem ((c.tc : Thread nD τ).loc main_v20_0) = out0 (m ((c.tc : Thread nD τ).loc main_arg0)) (m ((c.tc : Thread nD τ).loc main_arg1)) (m ((c.tc : Thread nD τ).loc main_arg2))
      ∧ r.2.mem ((c.tc : Thread nD τ).loc main_v20_1) = out1 (m ((c.tc : Thread nD τ).loc main_arg0)) (m ((c.tc : Thread nD τ).loc main_arg1)) (m ((c.tc : Thread nD τ).loc main_arg2))
      ∧ r.2.mem ((c.tc : Thread nD τ).loc main_v20_2) = out2 (m ((c.tc : Thread nD τ).loc main_arg0)) (m ((c.tc : Thread nD τ).loc main_arg1)) (m ((c.tc : Thread nD τ).loc main_arg2))
      ∧ r.2.mem ((c.tc : Thread nD τ).loc main_v20_3) = out3 (m ((c.tc : Thread nD τ).loc main_arg0)) (m ((c.tc : Thread nD τ).loc main_arg1)) (m ((c.tc : Thread nD τ).loc main_arg2))
      ∧ r.2.mem ((c.tc : Thread nD τ).loc main_v20_4) = out4 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v20_5) = out5 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final10 m c), (h c).2.1.trans (final11 m c), (h c).2.2.1.trans (final12 m c), (h c).2.2.2.1.trans (final13 m c), (h c).2.2.2.2.1.trans (final14 m c), (h c).2.2.2.2.2.1.trans (final15 m c), (h c).2.2.2.2.2.2⟩) (Value.run_blocks m ρ)

end Cert.FoxSIdeal.Read

end
-- ==== Proof.FoxSRef.lean ====
/-
  What the plain projection of the sample computes: the normed rows times the weights' columns, and the logarithms of the
  forget gates.
-/
module

public import proofs.«01_k».proof.Proof.Gen.FoxSRefIdeal.Run
public import proofs.«01_k».proof.Proof.Rows
public import proofs.«01_k».proof.Proof.LogSig

@[expose] public section

set_option maxRecDepth 16384

noncomputable section

open Idealize.ShloMosaic Idealize.ShloMosaic.TcCoe Idealize.SL.Sem
open Idealize.ShloMosaic.Pipeline (Dat)

namespace Cert.FoxSRefIdeal.Read

open Cert.FoxSRefIdeal Cert.FoxSRefIdeal.Gen Cert.Rows

/-- One entry of the normed rows times the weights' columns from `o` on. -/
def project {n : Nat} (o : Nat) (h : o + n ≤ 2572) (x : FVec Ideal S512x1024 .f32) (g : FVec Ideal S1024 .f32) (w : FVec Ideal S1024x2572 .f32) (r : Fin 512) (j : Fin n) : Ideal .f32 :=
  ∑ k, rms (fun k => x (ix2 r k)) (fun k => g (ix1 k)) k * w (ix2 k ⟨o + j.val, lt_of_lt_of_le (Nat.add_lt_add_left j.isLt o) h⟩)

/-- The queries, scaled by an eighth. -/
def out0 (x : FVec Ideal S512x1024 .f32) (g : FVec Ideal S1024 .f32) (w : FVec Ideal S1024x2572 .f32) : FVec Ideal S512x768 .f32 := fun i =>
  project 0 (by decide) x g w (i 0) (i 1) * Ideal.ofBits .f32 0x3E000000#32

/-- The keys. -/
def out1 (x : FVec Ideal S512x1024 .f32) (g : FVec Ideal S1024 .f32) (w : FVec Ideal S1024x2572 .f32) : FVec Ideal S512x768 .f32 := fun i =>
  project 768 (by decide) x g w (i 0) (i 1)

/-- The values. -/
def out2 (x : FVec Ideal S512x1024 .f32) (g : FVec Ideal S1024 .f32) (w : FVec Ideal S1024x2572 .f32) : FVec Ideal S512x768 .f32 := fun i =>
  project 1536 (by decide) x g w (i 0) (i 1)

/-- The cross-attention queries. -/
def out3 (x : FVec Ideal S512x1024 .f32) (g : FVec Ideal S1024 .f32) (w : FVec Ideal S1024x2572 .f32) : FVec Ideal S512x256 .f32 := fun i =>
  project 2316 (by decide) x g w (i 0) (i 1)

/-- The logarithm of a row's forget gate in one lane: twelve gates, then lanes that hold the gate of zero. -/
def forget (x : FVec Ideal S512x1024 .f32) (g : FVec Ideal S1024 .f32) (w : FVec Ideal S1024x2572 .f32) (b : FVec Ideal S12 .f32) (r : Fin 512) (l : Fin 128) : Ideal .f32 :=
  logSig (lanes (fun j => project 2304 (by decide) x g w r j + b (ix1 j)) l)

/-- The logarithms of the forget gates, a row per position. -/
def out4 (x : FVec Ideal S512x1024 .f32) (g : FVec Ideal S1024 .f32) (w : FVec Ideal S1024x2572 .f32) (b : FVec Ideal S12 .f32) : FVec Ideal S512x128 .f32 := fun i => forget x g w b (i 0) (i 1)

/-- The same with the positions along the columns, for the first sixteen lanes. -/
def out5 (x : FVec Ideal S512x1024 .f32) (g : FVec Ideal S1024 .f32) (w : FVec Ideal S1024x2572 .f32) (b : FVec Ideal S12 .f32) : FVec Ideal S16x512 .f32 := fun i =>
  forget x g w b (i 1) ⟨(i 0).val, lt_of_lt_of_le (i 0).isLt (by decide)⟩

/-- Zero in every lane. -/
def zeros : FVec Ideal S512x128 .f32 := broadcastInDim S512x128 ![] bcast_S_S512x128 (constant S_ .f32 0x00000000#32)

/-- The logarithm of the logistic function as it is spelt out entry by entry: minus a smooth maximum of `-z` and zero, whose
    guard against a difference unequal to itself never holds. -/
def gate (z : FVec Ideal S512x128 .f32) : FVec Ideal S512x128 .f32 :=
  Host.negf (select (cmpf .une (subf (Host.negf z) zeros) (subf (Host.negf z) zeros)) (addf (Host.negf z) zeros)
    (addf (maximumf (Host.negf z) zeros) (Host.log1p (Host.exp (Host.negf (Host.absf (subf (Host.negf z) zeros)))))))

theorem gate_eq (z : FVec Ideal S512x128 .f32) (r : Fin 512) (l : Fin 128) : gate z (ix2 r l) = logSig (z (ix2 r l)) := by
  have h0 : zeros (ix2 r l) = (0 : EReal) := by pointwise [zeros]
  have hc : cmpf .une (subf (Host.negf z) zeros) (subf (Host.negf z) zeros) (ix2 r l) = 0#1 := by
    show Ideal.cmp .une _ _ = 0#1
    simp [Ideal.cmp]
  refine Eq.trans ?_ (logSig_eq (z (ix2 r l)))
  show -(Scalar.select (cmpf .une (subf (Host.negf z) zeros) (subf (Host.negf z) zeros) (ix2 r l)) _
    (max (-(z (ix2 r l))) (zeros (ix2 r l)) + Ideal.log1p (Ideal.exp (-(max (-(z (ix2 r l)) - zeros (ix2 r l)) (-(-(z (ix2 r l)) - zeros (ix2 r l)))))))) = _
  have hs : ∀ a b : EReal, Scalar.select 0#1 a b = b := fun _ _ => rfl
  rw [hc, hs, h0, sub_zero, neg_neg, max_comm (-(z (ix2 r l))) (z (ix2 r l))]

variable (m : (ℓ : Loc nD τ sig) → Buf (Elt Ideal) ℓ)

/-- The forget gates' logarithms are `out4`. -/
theorem logf4 (c : Dev nD) : Value.res_main_v19 m c = out4 (m ((c.tc : Thread nD τ).loc main_arg0)) (m ((c.tc : Thread nD τ).loc main_arg1)) (m ((c.tc : Thread nD τ).loc main_arg2)) (m ((c.tc : Thread nD τ).loc main_arg3)) := by
  unfold Value.res_main_v19
  generalize (m ((c.tc : Thread nD τ).loc main_arg0) : FVec Ideal S512x1024 .f32) = x
  generalize (m ((c.tc : Thread nD τ).loc main_arg1) : FVec Ideal S1024 .f32) = g
  generalize (m ((c.tc : Thread nD τ).loc main_arg2) : FVec Ideal S1024x2572 .f32) = w
  generalize (m ((c.tc : Thread nD τ).loc main_arg3) : FVec Ideal S12 .f32) = b
  funext i
  idx_vars i
  refine (gate_eq _ i0 i1).trans (congrArg logSig ?_)
  refine (pad_cols _ _ _ _ zero_of_int i0 i1).trans (congrArg (fun f => lanes f i1) (funext fun j => ?_))
  pointwise [project, rms]

/-- The transposed ones are `out5`. -/
theorem logf5 (c : Dev nD) : Value.res_main_v27 m c = out5 (m ((c.tc : Thread nD τ).loc main_arg0)) (m ((c.tc : Thread nD τ).loc main_arg1)) (m ((c.tc : Thread nD τ).loc main_arg2)) (m ((c.tc : Thread nD τ).loc main_arg3)) := by
  have e : Value.res_main_v27 m c = transpose S16x512 [1, 0] (extractStridedSlice S512x16 ![0, 0] (Value.res_main_v19 m c) slices_S512x128_S512x16_0_0) transposes_S512x16_S16x512_1_0 := rfl
  rw [e, logf4 m c]
  generalize (m ((c.tc : Thread nD τ).loc main_arg0) : FVec Ideal S512x1024 .f32) = x
  generalize (m ((c.tc : Thread nD τ).loc main_arg1) : FVec Ideal S1024 .f32) = g
  generalize (m ((c.tc : Thread nD τ).loc main_arg2) : FVec Ideal S1024x2572 .f32) = w
  generalize (m ((c.tc : Thread nD τ).loc main_arg3) : FVec Ideal S12 .f32) = b
  funext i
  idx_vars i
  pointwise [out4, out5]

/-- The reference runs and leaves the six functions of its arguments. -/
theorem run (ρ : Dev nD → PrngReg) :
    θ_run defs (onTc (τ := τ) (main (F := Ideal))) ⟨m, fun _ => 0, ρ⟩ fun r => ∀ c : Dev nD,
      r.2.mem ((c.tc : Thread nD τ).loc main_v22) = out0 (m ((c.tc : Thread nD τ).loc main_arg0)) (m ((c.tc : Thread nD τ).loc main_arg1)) (m ((c.tc : Thread nD τ).loc main_arg2))
      ∧ r.2.mem ((c.tc : Thread nD τ).loc main_v23) = out1 (m ((c.tc : Thread nD τ).loc main_arg0)) (m ((c.tc : Thread nD τ).loc main_arg1)) (m ((c.tc : Thread nD τ).loc main_arg2))
      ∧ r.2.mem ((c.tc : Thread nD τ).loc main_v24) = out2 (m ((c.tc : Thread nD τ).loc main_arg0)) (m ((c.tc : Thread nD τ).loc main_arg1)) (m ((c.tc : Thread nD τ).loc main_arg2))
      ∧ r.2.mem ((c.tc : Thread nD τ).loc main_v25) = out3 (m ((c.tc : Thread nD τ).loc main_arg0)) (m ((c.tc : Thread nD τ).loc main_arg1)) (m ((c.tc : Thread nD τ).loc main_arg2))
      ∧ r.2.mem ((c.tc : Thread nD τ).loc main_v19) = out4 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v27) = out5 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by
    generalize (m ((c.tc : Thread nD τ).loc main_arg0) : FVec Ideal S512x1024 .f32) = x
    generalize (m ((c.tc : Thread nD τ).loc main_arg1) : FVec Ideal S1024 .f32) = g
    generalize (m ((c.tc : Thread nD τ).loc main_arg2) : FVec Ideal S1024x2572 .f32) = w
    funext i
    idx_vars i
    pointwise [out0, project, rms]),
    (h c).2.1.trans (by
    generalize (m ((c.tc : Thread nD τ).loc main_arg0) : FVec Ideal S512x1024 .f32) = x
    generalize (m ((c.tc : Thread nD τ).loc main_arg1) : FVec Ideal S1024 .f32) = g
    generalize (m ((c.tc : Thread nD τ).loc main_arg2) : FVec Ideal S1024x2572 .f32) = w
    funext i
    idx_vars i
    pointwise [out1, project, rms]),
    (h c).2.2.1.trans (by
    generalize (m ((c.tc : Thread nD τ).loc main_arg0) : FVec Ideal S512x1024 .f32) = x
    generalize (m ((c.tc : Thread nD τ).loc main_arg1) : FVec Ideal S1024 .f32) = g
    generalize (m ((c.tc : Thread nD τ).loc main_arg2) : FVec Ideal S1024x2572 .f32) = w
    funext i
    idx_vars i
    pointwise [out2, project, rms]),
    (h c).2.2.2.1.trans (by
    generalize (m ((c.tc : Thread nD τ).loc main_arg0) : FVec Ideal S512x1024 .f32) = x
    generalize (m ((c.tc : Thread nD τ).loc main_arg1) : FVec Ideal S1024 .f32) = g
    generalize (m ((c.tc : Thread nD τ).loc main_arg2) : FVec Ideal S1024x2572 .f32) = w
    funext i
    idx_vars i
    pointwise [out3, project, rms]),
    (h c).2.2.2.2.1.trans (logf4 m c),
    (h c).2.2.2.2.2.1.trans (logf5 m c),
    (h c).2.2.2.2.2.2⟩) (Value.run m ρ)

end Cert.FoxSRefIdeal.Read

end
-- ==== Proof.S5Spec.lean ====
/-
  The recurrent mixer on rows: each of 48 groups drives 64 complex states from its 16 channels, the states step through
  time, and their read-out passes a gate and a gated projection.
-/
module

public import proofs.«01_k».proof.Proof.Rows

@[expose] public section

set_option maxRecDepth 16384

noncomputable section

open Idealize.ShloMosaic Idealize.ShloMosaic.TcCoe Idealize.SL.Sem

namespace Cert.Mixer

/-- The state of group `g`, component `p`, among all 3072; channel `c` of group `g` among all 768. -/
def lane (g : Fin 48) (p : Fin 64) : Fin 3072 := ⟨g.val * 64 + p.val, by omega⟩
def chan (g : Fin 48) (c : Fin 16) : Fin 768 := ⟨g.val * 16 + c.val, by omega⟩
def laneGroup (n : Fin 3072) : Fin 48 := ⟨n.val / 64, by omega⟩
def lanePart (n : Fin 3072) : Fin 64 := ⟨n.val % 64, by omega⟩
def chanGroup (n : Fin 768) : Fin 48 := ⟨n.val / 16, by omega⟩
def chanPart (n : Fin 768) : Fin 16 := ⟨n.val % 16, by omega⟩

theorem lane_split (n : Fin 3072) : lane (laneGroup n) (lanePart n) = n := Fin.ext (Nat.div_add_mod' n.val 64)
theorem chan_split (n : Fin 768) : chan (chanGroup n) (chanPart n) = n := Fin.ext (Nat.div_add_mod' n.val 16)

/-- The states of every row. -/
abbrev States := Fin 128 → Fin 48 → Fin 64 → EReal

/-- What the channels of the rows `u` drive the states with. -/
def drive (u : Fin 128 → Fin 768 → EReal) (bb : Fin 768 → Fin 64 → EReal) : States := fun r g p => ∑ c : Fin 16, u r (chan g c) * bb (chan g c) p

/-- One step of the real and of the imaginary parts. -/
def stepRe (a b : Fin 3072 → EReal) (hr hi d : States) : States := fun r g p => a (lane g p) * hr r g p - b (lane g p) * hi r g p + d r g p
def stepIm (a b : Fin 3072 → EReal) (hr hi d : States) : States := fun r g p => a (lane g p) * hi r g p + b (lane g p) * hr r g p + d r g p

/-- The states after `k` steps: real parts first. -/
def states (u : Fin 4 → Fin 128 → Fin 768 → EReal) (hr hi : Fin 128 → Fin 3072 → EReal) (br bi : Fin 768 → Fin 64 → EReal) (a b : Fin 3072 → EReal) : ℕ → States × States
  | 0 => (fun r g p => hr r (lane g p), fun r g p => hi r (lane g p))
  | k + 1 => (stepRe a b (states u hr hi br bi a b k).1 (states u hr hi br bi a b k).2 (drive (u (Fin.ofNat 4 k)) br),
      stepIm a b (states u hr hi br bi a b k).1 (states u hr hi br bi a b k).2 (drive (u (Fin.ofNat 4 k)) bi))

/-- The read-out of the states at a channel, with the direct term. -/
def value (h : States × States) (cr ci : Fin 48 → Fin 16 → Fin 64 → EReal) (d : Fin 768 → EReal) (u : Fin 128 → Fin 768 → EReal) (r : Fin 128) (ch : Fin 768) : EReal :=
  (∑ p, h.1 r (chanGroup ch) p * cr (chanGroup ch) (chanPart ch) p) - (∑ p, h.2 r (chanGroup ch) p * ci (chanGroup ch) (chanPart ch) p) + d ch * u r ch

/-- The smooth gate of a value (the tanh form). -/
def gelu (y : EReal) : EReal :=
  y * (Ideal.ofBits .f32 0x3F000000#32 * (1 + Ideal.tanh (Ideal.ofBits .f32 0x3F4C422A#32 * (y + Ideal.ofBits .f32 0x3D372713#32 * (y * (y * y))))))

/-- The gated projection of one row of values, at a channel. -/
def glu (g : Fin 768 → EReal) (w : Fin 768 → Fin 1536 → EReal) (ch : Fin 768) : EReal :=
  (∑ k, g k * w k ⟨ch.val, by omega⟩) * Ideal.logistic (∑ k, g k * w k ⟨768 + ch.val, by omega⟩)

end Cert.Mixer

end
-- ==== Proof.S5Steps.lean ====
/-
  What the pieces of the recurrent mixer's body compute from the arrays they load: the input's drive of the state, one
  step of the state, the state read out, and the gated projection.
-/
module

public import proofs.«01_k».proof.Proof.Gen.S5Ideal.Value
public import proofs.«01_k».proof.Proof.S5Spec

@[expose] public section

set_option maxRecDepth 16384

noncomputable section

open Idealize.ShloMosaic Idealize.ShloMosaic.TcCoe Idealize.SL.Sem
open Idealize.ShloMosaic.Pipeline (Dat)

namespace Cert.S5Ideal.Read

open Cert.S5Ideal Cert.S5Ideal.Gen Cert.Rows
open Cert.Mixer (gelu glu)

/-- Splitting a state lane into its tile of 1024 lanes and its place there, and a channel into its tile of 256. -/
def laneTile (n : Fin 3072) : Fin 3 := ⟨n.val / 1024, by omega⟩
def chanTile (n : Fin 768) : Fin 3 := ⟨n.val / 256, by omega⟩
def chan (k : Fin 3) (j : Fin 256) : Fin 768 := ⟨256 * k.val + j.val, by omega⟩
def lane (k : Fin 3) (j : Fin 1024) : Fin 3072 := ⟨1024 * k.val + j.val, by omega⟩
def col (o : Fin 2) (n : Fin 3072) : Fin 2048 := ⟨1024 * o.val + n.val % 1024, by omega⟩

/-- The drive of the state at time `t`: real parts for `o = 0`, imaginary parts for `o = 1`. -/
def driven (o : Fin 2) (x0 : FVec Ideal S4x128x768 .f32) (x3 : FVec Ideal S3x256x2048 .bf16) (t : Fin 4) : FVec Ideal S128x3072 .f32 := fun i =>
  ∑ j : Fin 256, x0 (ix3 t (i 0) (chan (laneTile (i 1)) j)) * x3 (ix3 (laneTile (i 1)) j (col o (i 1)))

/-- One step of the state. -/
def nextRe (a b : FVec Ideal S1x3072 .f32) (hr hi u : FVec Ideal S128x3072 .f32) : FVec Ideal S128x3072 .f32 := fun i =>
  a (ix2 0 (i 1)) * hr i - b (ix2 0 (i 1)) * hi i + u i
def nextIm (a b : FVec Ideal S1x3072 .f32) (hr hi u : FVec Ideal S128x3072 .f32) : FVec Ideal S128x3072 .f32 := fun i =>
  a (ix2 0 (i 1)) * hi i + b (ix2 0 (i 1)) * hr i + u i

theorem next_re (a b : FVec Ideal S1x3072 .f32) (hr hi u : FVec Ideal S128x3072 .f32) :
    k0_pay18 (F := Ideal) (k0_pay2 a) (k0_pay3 b) hr hi u = nextRe a b hr hi u := by
  funext i
  idx_vars i
  pointwise [k0_pay18, k0_pay16, k0_pay17, k0_pay2, k0_pay3, nextRe]
theorem next_im (a b : FVec Ideal S1x3072 .f32) (hr hi u : FVec Ideal S128x3072 .f32) :
    k0_pay20 (F := Ideal) (k0_pay19 (k0_pay2 a) (k0_pay3 b) hr hi) u = nextIm a b hr hi u := by
  funext i
  idx_vars i
  pointwise [k0_pay20, k0_pay19, k0_pay16, k0_pay17, k0_pay2, k0_pay3, nextIm]

/-- A tile of the drive from a loaded time step and a loaded weight tile. -/
def tile (k : Fin 3) (o : Fin 2) (u : FVec Ideal S1x128x768 .f32) (w : FVec Ideal S1x256x2048 .bf16) (r : Fin 128) (n : Fin 1024) : Ideal .f32 :=
  ∑ j : Fin 256, u (ix3 0 r (chan k j)) * w (ix3 0 j ⟨1024 * o.val + n.val, by omega⟩)

theorem tile0_re (u : FVec Ideal S1x128x768 .f32) (w : FVec Ideal S1x256x2048 .bf16) (y : S128x1024.Idx) :
    k0_pay7 (F := Ideal) u w y = tile 0 0 u w (y 0) (y 1) := by
  idx_vars y
  pointwise [k0_pay4, k0_pay5, k0_pay6, k0_pay7, k0_pay8, k0_pay9, k0_pay10, k0_pay11, k0_pay12, k0_pay13, k0_pay14, k0_pay15, tile, chan]

theorem tile0_im (u : FVec Ideal S1x128x768 .f32) (w : FVec Ideal S1x256x2048 .bf16) (y : S128x1024.Idx) :
    k0_pay8 (F := Ideal) u w y = tile 0 1 u w (y 0) (y 1) := by
  idx_vars y
  pointwise [k0_pay4, k0_pay5, k0_pay6, k0_pay7, k0_pay8, k0_pay9, k0_pay10, k0_pay11, k0_pay12, k0_pay13, k0_pay14, k0_pay15, tile, chan]

theorem tile1_re (u : FVec Ideal S1x128x768 .f32) (w : FVec Ideal S1x256x2048 .bf16) (y : S128x1024.Idx) :
    k0_pay11 (F := Ideal) (k0_pay10 u w) y = tile 1 0 u w (y 0) (y 1) := by
  idx_vars y
  pointwise [k0_pay4, k0_pay5, k0_pay6, k0_pay7, k0_pay8, k0_pay9, k0_pay10, k0_pay11, k0_pay12, k0_pay13, k0_pay14, k0_pay15, tile, chan]

theorem tile1_im (u : FVec Ideal S1x128x768 .f32) (w : FVec Ideal S1x256x2048 .bf16) (y : S128x1024.Idx) :
    k0_pay12 (F := Ideal) (k0_pay9 u w) y = tile 1 1 u w (y 0) (y 1) := by
  idx_vars y
  pointwise [k0_pay4, k0_pay5, k0_pay6, k0_pay7, k0_pay8, k0_pay9, k0_pay10, k0_pay11, k0_pay12, k0_pay13, k0_pay14, k0_pay15, tile, chan]

theorem tile2_re (u : FVec Ideal S1x128x768 .f32) (w : FVec Ideal S1x256x2048 .bf16) (y : S128x1024.Idx) :
    k0_pay14 (F := Ideal) (k0_pay5 u) w y = tile 2 0 u w (y 0) (y 1) := by
  idx_vars y
  pointwise [k0_pay4, k0_pay5, k0_pay6, k0_pay7, k0_pay8, k0_pay9, k0_pay10, k0_pay11, k0_pay12, k0_pay13, k0_pay14, k0_pay15, tile, chan]

theorem tile2_im (u : FVec Ideal S1x128x768 .f32) (w : FVec Ideal S1x256x2048 .bf16) (y : S128x1024.Idx) :
    k0_pay15 (F := Ideal) (k0_pay5 u) w y = tile 2 1 u w (y 0) (y 1) := by
  idx_vars y
  pointwise [k0_pay4, k0_pay5, k0_pay6, k0_pay7, k0_pay8, k0_pay9, k0_pay10, k0_pay11, k0_pay12, k0_pay13, k0_pay14, k0_pay15, tile, chan]

/-- A tile of the drive, loaded from the arrays, is that tile of the whole drive. -/
theorem tile_driven (t : Fin 4) (k : Fin 3) (o : Fin 2) (t' k' c : ℕ) (ht : t' = t.val) (hk : k' = k.val) (hc : c = 1024 * k.val)
    (h0 : ∀ a, (![t', 0, 0] : Fin 3 → ℕ) a + S1x128x768.size a ≤ S4x128x768.size a)
    (h3 : ∀ a, (![k', 0, 0] : Fin 3 → ℕ) a + S1x256x2048.size a ≤ S3x256x2048.size a)
    (hs : ∀ a, (![0, c] : Fin 2 → ℕ) a + S128x1024.size a ≤ S128x3072.size a)
    (x0 : FVec Ideal S4x128x768 .f32) (x3 : FVec Ideal S3x256x2048 .bf16) (y : S128x1024.Idx) :
    tile k o (View.ld (Val := Elt Ideal) (S := S4x128x768) (e' := .f32) x0 (Rect.unit (s := S4x128x768) ![t', 0, 0] S1x128x768.size h0)) (View.ld (Val := Elt Ideal) (S := S3x256x2048) (e' := .bf16) x3 (Rect.unit (s := S3x256x2048) ![k', 0, 0] S1x256x2048.size h3)) (y 0) (y 1)
      = driven o x0 x3 t ((Rect.unit (s := S128x3072) ![0, c] S128x1024.size hs).emb y) := by
  subst ht hk hc
  have hy : (y 1).val < 1024 := (y 1).isLt
  have e0 : (Rect.unit (s := S128x3072) ![0, 1024 * k.val] S128x1024.size hs).emb y 0 = y 0 := Fin.ext (by simp [Rect.emb_apply])
  have e1 : ((Rect.unit (s := S128x3072) ![0, 1024 * k.val] S128x1024.size hs).emb y 1).val = 1024 * k.val + (y 1).val := by simp [Rect.emb_apply]
  have et : laneTile ((Rect.unit (s := S128x3072) ![0, 1024 * k.val] S128x1024.size hs).emb y 1) = k := Fin.ext (by
    show _ / 1024 = _
    rw [e1]
    omega)
  unfold tile driven
  rw [e0, et]
  refine Finset.sum_congr rfl fun j _ => congrArg₂ (fun a b : EReal => a * b) (congrArg x0 (funext fun a => Fin.ext ?_)) (congrArg x3 (funext fun a => Fin.ext ?_))
  · fin_cases a <;> simp [Rect.emb_apply]
  · have : (col o ((Rect.unit (s := S128x3072) ![0, 1024 * k.val] S128x1024.size hs).emb y 1)).val = 1024 * o.val + (y 1).val := by
      show _ + _ % 1024 = _
      rw [e1]
      omega
    fin_cases a
    · simp [Rect.emb_apply]
    · simp [Rect.emb_apply]
    · exact (by simp [Rect.emb_apply] : _ = 1024 * o.val + (y 1).val).trans this.symm

/-- Loading a whole array of states gives each entry of it. -/
theorem whole_idx (y : S128x3072.Idx) : (Rect.unit (s := S128x3072) ![0, 0] ![128, 3072] inb_S128x3072_S128x3072_0_0).toLoadRect.idx y = y := by
  funext a
  apply Fin.ext
  fin_cases a <;> simp [LoadRect.idx]

/-- Three tiles just stored, read back whole over whatever was stored before, are the array they are the tiles of. -/
theorem tiles_read {κ : Kind} {sp : Space} (v : View sig κ sp S128x3072 .f32) (G : FVec Ideal S128x3072 .f32) (P0 P1 P2 : FVec Ideal S128x1024 .f32)
    (L : List (View.Piece (Elt Ideal) S128x3072 .f32))
    (e0 : ∀ y, P0 y = G ((Rect.unit (s := S128x3072) ![0, 0] S128x1024.size inb_S128x3072_S128x1024_0_0).emb y))
    (e1 : ∀ y, P1 y = G ((Rect.unit (s := S128x3072) ![0, 1024] S128x1024.size inb_S128x3072_S128x1024_0_1024).emb y))
    (e2 : ∀ y, P2 y = G ((Rect.unit (s := S128x3072) ![0, 2048] S128x1024.size inb_S128x3072_S128x1024_0_2048).emb y)) :
    v.readCov (⟨Rect.unit (s := S128x3072) ![0, 2048] S128x1024.size inb_S128x3072_S128x1024_0_2048, P2⟩
        :: ⟨Rect.unit (s := S128x3072) ![0, 1024] S128x1024.size inb_S128x3072_S128x1024_0_1024, P1⟩
        :: ⟨Rect.unit (s := S128x3072) ![0, 0] S128x1024.size inb_S128x3072_S128x1024_0_0, P0⟩ :: L)
      (Rect.unit (s := S128x3072) ![0, 0] ![128, 3072] inb_S128x3072_S128x3072_0_0).toLoadRect = G := by
  rw [View.readCov_eq_canon']
  funext j
  refine Eq.trans ?_ (congrArg G (whole_idx j))
  have hc : ∀ z : S128x3072.Idx, ∃ p ∈ ([⟨Rect.unit (s := S128x3072) ![0, 2048] S128x1024.size inb_S128x3072_S128x1024_0_2048, P2⟩,
      ⟨Rect.unit (s := S128x3072) ![0, 1024] S128x1024.size inb_S128x3072_S128x1024_0_1024, P1⟩,
      ⟨Rect.unit (s := S128x3072) ![0, 0] S128x1024.size inb_S128x3072_S128x1024_0_0, P0⟩] : List (View.Piece (Elt Ideal) S128x3072 .f32)), z ∈ p.1.set :=
    View.cover_of_tiledL _ S128x1024.size (by sl_kernel_rfl)
  refine View.canon_append_of_pieces G L [_, _, _] ?_ _ (hc _)
  exact List.forall_mem_cons.2 ⟨e2, List.forall_mem_cons.2 ⟨e1, List.forall_mem_cons.2 ⟨e0, List.forall_mem_nil _⟩⟩⟩

theorem drive0_re {κ : Kind} {sp : Space} (v : View sig κ sp S128x3072 .f32) (x0 : FVec Ideal S4x128x768 .f32) (x3 : FVec Ideal S3x256x2048 .bf16)
    (L : List (View.Piece (Elt Ideal) S128x3072 .f32)) :
    v.readCov (⟨Rect.unit (s := S128x3072) ![0, 2048] S128x1024.size inb_S128x3072_S128x1024_0_2048, k0_pay14 (F := Ideal) (k0_pay5 (View.ld (Val := Elt Ideal) (S := S4x128x768) (e' := .f32) x0 (Rect.unit (s := S4x128x768) ![0, 0, 0] S1x128x768.size inb_S4x128x768_S1x128x768_0_0_0))) (View.ld (Val := Elt Ideal) (S := S3x256x2048) (e' := .bf16) x3 (Rect.unit (s := S3x256x2048) ![2, 0, 0] S1x256x2048.size inb_S3x256x2048_S1x256x2048_2_0_0))⟩ :: ⟨Rect.unit (s := S128x3072) ![0, 1024] S128x1024.size inb_S128x3072_S128x1024_0_1024, k0_pay11 (F := Ideal) (k0_pay10 (View.ld (Val := Elt Ideal) (S := S4x128x768) (e' := .f32) x0 (Rect.unit (s := S4x128x768) ![0, 0, 0] S1x128x768.size inb_S4x128x768_S1x128x768_0_0_0)) (View.ld (Val := Elt Ideal) (S := S3x256x2048) (e' := .bf16) x3 (Rect.unit (s := S3x256x2048) ![1, 0, 0] S1x256x2048.size inb_S3x256x2048_S1x256x2048_1_0_0)))⟩ :: ⟨Rect.unit (s := S128x3072) ![0, 0] S128x1024.size inb_S128x3072_S128x1024_0_0, k0_pay7 (F := Ideal) (View.ld (Val := Elt Ideal) (S := S4x128x768) (e' := .f32) x0 (Rect.unit (s := S4x128x768) ![0, 0, 0] S1x128x768.size inb_S4x128x768_S1x128x768_0_0_0)) (View.ld (Val := Elt Ideal) (S := S3x256x2048) (e' := .bf16) x3 (Rect.unit (s := S3x256x2048) ![0, 0, 0] S1x256x2048.size inb_S3x256x2048_S1x256x2048_0_0_0))⟩ :: L)
      (Rect.unit (s := S128x3072) ![0, 0] ![128, 3072] inb_S128x3072_S128x3072_0_0).toLoadRect = driven 0 x0 x3 0 :=
  tiles_read v _ _ _ _ L (fun y => (tile0_re _ _ y).trans (tile_driven 0 0 0 0 0 0 rfl rfl rfl _ _ _ x0 x3 y)) (fun y => (tile1_re _ _ y).trans (tile_driven 0 1 0 0 1 1024 rfl rfl rfl _ _ _ x0 x3 y)) (fun y => (tile2_re _ _ y).trans (tile_driven 0 2 0 0 2 2048 rfl rfl rfl _ _ _ x0 x3 y))

theorem drive0_im {κ : Kind} {sp : Space} (v : View sig κ sp S128x3072 .f32) (x0 : FVec Ideal S4x128x768 .f32) (x3 : FVec Ideal S3x256x2048 .bf16)
    (L : List (View.Piece (Elt Ideal) S128x3072 .f32)) :
    v.readCov (⟨Rect.unit (s := S128x3072) ![0, 2048] S128x1024.size inb_S128x3072_S128x1024_0_2048, k0_pay15 (F := Ideal) (k0_pay5 (View.ld (Val := Elt Ideal) (S := S4x128x768) (e' := .f32) x0 (Rect.unit (s := S4x128x768) ![0, 0, 0] S1x128x768.size inb_S4x128x768_S1x128x768_0_0_0))) (View.ld (Val := Elt Ideal) (S := S3x256x2048) (e' := .bf16) x3 (Rect.unit (s := S3x256x2048) ![2, 0, 0] S1x256x2048.size inb_S3x256x2048_S1x256x2048_2_0_0))⟩ :: ⟨Rect.unit (s := S128x3072) ![0, 1024] S128x1024.size inb_S128x3072_S128x1024_0_1024, k0_pay12 (F := Ideal) (k0_pay9 (View.ld (Val := Elt Ideal) (S := S4x128x768) (e' := .f32) x0 (Rect.unit (s := S4x128x768) ![0, 0, 0] S1x128x768.size inb_S4x128x768_S1x128x768_0_0_0)) (View.ld (Val := Elt Ideal) (S := S3x256x2048) (e' := .bf16) x3 (Rect.unit (s := S3x256x2048) ![1, 0, 0] S1x256x2048.size inb_S3x256x2048_S1x256x2048_1_0_0)))⟩ :: ⟨Rect.unit (s := S128x3072) ![0, 0] S128x1024.size inb_S128x3072_S128x1024_0_0, k0_pay8 (F := Ideal) (View.ld (Val := Elt Ideal) (S := S4x128x768) (e' := .f32) x0 (Rect.unit (s := S4x128x768) ![0, 0, 0] S1x128x768.size inb_S4x128x768_S1x128x768_0_0_0)) (View.ld (Val := Elt Ideal) (S := S3x256x2048) (e' := .bf16) x3 (Rect.unit (s := S3x256x2048) ![0, 0, 0] S1x256x2048.size inb_S3x256x2048_S1x256x2048_0_0_0))⟩ :: L)
      (Rect.unit (s := S128x3072) ![0, 0] ![128, 3072] inb_S128x3072_S128x3072_0_0).toLoadRect = driven 1 x0 x3 0 :=
  tiles_read v _ _ _ _ L (fun y => (tile0_im _ _ y).trans (tile_driven 0 0 1 0 0 0 rfl rfl rfl _ _ _ x0 x3 y)) (fun y => (tile1_im _ _ y).trans (tile_driven 0 1 1 0 1 1024 rfl rfl rfl _ _ _ x0 x3 y)) (fun y => (tile2_im _ _ y).trans (tile_driven 0 2 1 0 2 2048 rfl rfl rfl _ _ _ x0 x3 y))

theorem drive1_re {κ : Kind} {sp : Space} (v : View sig κ sp S128x3072 .f32) (x0 : FVec Ideal S4x128x768 .f32) (x3 : FVec Ideal S3x256x2048 .bf16)
    (L : List (View.Piece (Elt Ideal) S128x3072 .f32)) :
    v.readCov (⟨Rect.unit (s := S128x3072) ![0, 2048] S128x1024.size inb_S128x3072_S128x1024_0_2048, k0_pay35 (F := Ideal) (k0_pay33 (View.ld (Val := Elt Ideal) (S := S4x128x768) (e' := .f32) x0 (Rect.unit (s := S4x128x768) ![1, 0, 0] S1x128x768.size inb_S4x128x768_S1x128x768_1_0_0))) (View.ld (Val := Elt Ideal) (S := S3x256x2048) (e' := .bf16) x3 (Rect.unit (s := S3x256x2048) ![2, 0, 0] S1x256x2048.size inb_S3x256x2048_S1x256x2048_2_0_0))⟩ :: ⟨Rect.unit (s := S128x3072) ![0, 1024] S128x1024.size inb_S128x3072_S128x1024_0_1024, k0_pay31 (F := Ideal) (View.ld (Val := Elt Ideal) (S := S4x128x768) (e' := .f32) x0 (Rect.unit (s := S4x128x768) ![1, 0, 0] S1x128x768.size inb_S4x128x768_S1x128x768_1_0_0)) (View.ld (Val := Elt Ideal) (S := S3x256x2048) (e' := .bf16) x3 (Rect.unit (s := S3x256x2048) ![1, 0, 0] S1x256x2048.size inb_S3x256x2048_S1x256x2048_1_0_0))⟩ :: ⟨Rect.unit (s := S128x3072) ![0, 0] S128x1024.size inb_S128x3072_S128x1024_0_0, k0_pay28 (F := Ideal) (View.ld (Val := Elt Ideal) (S := S4x128x768) (e' := .f32) x0 (Rect.unit (s := S4x128x768) ![1, 0, 0] S1x128x768.size inb_S4x128x768_S1x128x768_1_0_0)) (View.ld (Val := Elt Ideal) (S := S3x256x2048) (e' := .bf16) x3 (Rect.unit (s := S3x256x2048) ![0, 0, 0] S1x256x2048.size inb_S3x256x2048_S1x256x2048_0_0_0))⟩ :: L)
      (Rect.unit (s := S128x3072) ![0, 0] ![128, 3072] inb_S128x3072_S128x3072_0_0).toLoadRect = driven 0 x0 x3 1 :=
  tiles_read v _ _ _ _ L (fun y => (tile0_re _ _ y).trans (tile_driven 1 0 0 1 0 0 rfl rfl rfl _ _ _ x0 x3 y)) (fun y => (tile1_re _ _ y).trans (tile_driven 1 1 0 1 1 1024 rfl rfl rfl _ _ _ x0 x3 y)) (fun y => (tile2_re _ _ y).trans (tile_driven 1 2 0 1 2 2048 rfl rfl rfl _ _ _ x0 x3 y))

theorem drive1_im {κ : Kind} {sp : Space} (v : View sig κ sp S128x3072 .f32) (x0 : FVec Ideal S4x128x768 .f32) (x3 : FVec Ideal S3x256x2048 .bf16)
    (L : List (View.Piece (Elt Ideal) S128x3072 .f32)) :
    v.readCov (⟨Rect.unit (s := S128x3072) ![0, 2048] S128x1024.size inb_S128x3072_S128x1024_0_2048, k0_pay36 (F := Ideal) (k0_pay33 (View.ld (Val := Elt Ideal) (S := S4x128x768) (e' := .f32) x0 (Rect.unit (s := S4x128x768) ![1, 0, 0] S1x128x768.size inb_S4x128x768_S1x128x768_1_0_0))) (View.ld (Val := Elt Ideal) (S := S3x256x2048) (e' := .bf16) x3 (Rect.unit (s := S3x256x2048) ![2, 0, 0] S1x256x2048.size inb_S3x256x2048_S1x256x2048_2_0_0))⟩ :: ⟨Rect.unit (s := S128x3072) ![0, 1024] S128x1024.size inb_S128x3072_S128x1024_0_1024, k0_pay32 (F := Ideal) (View.ld (Val := Elt Ideal) (S := S4x128x768) (e' := .f32) x0 (Rect.unit (s := S4x128x768) ![1, 0, 0] S1x128x768.size inb_S4x128x768_S1x128x768_1_0_0)) (View.ld (Val := Elt Ideal) (S := S3x256x2048) (e' := .bf16) x3 (Rect.unit (s := S3x256x2048) ![1, 0, 0] S1x256x2048.size inb_S3x256x2048_S1x256x2048_1_0_0))⟩ :: ⟨Rect.unit (s := S128x3072) ![0, 0] S128x1024.size inb_S128x3072_S128x1024_0_0, k0_pay29 (F := Ideal) (View.ld (Val := Elt Ideal) (S := S4x128x768) (e' := .f32) x0 (Rect.unit (s := S4x128x768) ![1, 0, 0] S1x128x768.size inb_S4x128x768_S1x128x768_1_0_0)) (View.ld (Val := Elt Ideal) (S := S3x256x2048) (e' := .bf16) x3 (Rect.unit (s := S3x256x2048) ![0, 0, 0] S1x256x2048.size inb_S3x256x2048_S1x256x2048_0_0_0))⟩ :: L)
      (Rect.unit (s := S128x3072) ![0, 0] ![128, 3072] inb_S128x3072_S128x3072_0_0).toLoadRect = driven 1 x0 x3 1 :=
  tiles_read v _ _ _ _ L (fun y => (tile0_im _ _ y).trans (tile_driven 1 0 1 1 0 0 rfl rfl rfl _ _ _ x0 x3 y)) (fun y => (tile1_im _ _ y).trans (tile_driven 1 1 1 1 1 1024 rfl rfl rfl _ _ _ x0 x3 y)) (fun y => (tile2_im _ _ y).trans (tile_driven 1 2 1 1 2 2048 rfl rfl rfl _ _ _ x0 x3 y))

theorem drive2_re {κ : Kind} {sp : Space} (v : View sig κ sp S128x3072 .f32) (x0 : FVec Ideal S4x128x768 .f32) (x3 : FVec Ideal S3x256x2048 .bf16)
    (L : List (View.Piece (Elt Ideal) S128x3072 .f32)) :
    v.readCov (⟨Rect.unit (s := S128x3072) ![0, 2048] S128x1024.size inb_S128x3072_S128x1024_0_2048, k0_pay57 (F := Ideal) (k0_pay48 (View.ld (Val := Elt Ideal) (S := S4x128x768) (e' := .f32) x0 (Rect.unit (s := S4x128x768) ![2, 0, 0] S1x128x768.size inb_S4x128x768_S1x128x768_2_0_0))) (View.ld (Val := Elt Ideal) (S := S3x256x2048) (e' := .bf16) x3 (Rect.unit (s := S3x256x2048) ![2, 0, 0] S1x256x2048.size inb_S3x256x2048_S1x256x2048_2_0_0))⟩ :: ⟨Rect.unit (s := S128x3072) ![0, 1024] S128x1024.size inb_S128x3072_S128x1024_0_1024, k0_pay54 (F := Ideal) (k0_pay48 (View.ld (Val := Elt Ideal) (S := S4x128x768) (e' := .f32) x0 (Rect.unit (s := S4x128x768) ![2, 0, 0] S1x128x768.size inb_S4x128x768_S1x128x768_2_0_0))) (View.ld (Val := Elt Ideal) (S := S3x256x2048) (e' := .bf16) x3 (Rect.unit (s := S3x256x2048) ![1, 0, 0] S1x256x2048.size inb_S3x256x2048_S1x256x2048_1_0_0))⟩ :: ⟨Rect.unit (s := S128x3072) ![0, 0] S128x1024.size inb_S128x3072_S128x1024_0_0, k0_pay51 (F := Ideal) (k0_pay49 (View.ld (Val := Elt Ideal) (S := S4x128x768) (e' := .f32) x0 (Rect.unit (s := S4x128x768) ![2, 0, 0] S1x128x768.size inb_S4x128x768_S1x128x768_2_0_0))) (View.ld (Val := Elt Ideal) (S := S3x256x2048) (e' := .bf16) x3 (Rect.unit (s := S3x256x2048) ![0, 0, 0] S1x256x2048.size inb_S3x256x2048_S1x256x2048_0_0_0))⟩ :: L)
      (Rect.unit (s := S128x3072) ![0, 0] ![128, 3072] inb_S128x3072_S128x3072_0_0).toLoadRect = driven 0 x0 x3 2 :=
  tiles_read v _ _ _ _ L (fun y => (tile0_re _ _ y).trans (tile_driven 2 0 0 2 0 0 rfl rfl rfl _ _ _ x0 x3 y)) (fun y => (tile1_re _ _ y).trans (tile_driven 2 1 0 2 1 1024 rfl rfl rfl _ _ _ x0 x3 y)) (fun y => (tile2_re _ _ y).trans (tile_driven 2 2 0 2 2 2048 rfl rfl rfl _ _ _ x0 x3 y))

theorem drive2_im {κ : Kind} {sp : Space} (v : View sig κ sp S128x3072 .f32) (x0 : FVec Ideal S4x128x768 .f32) (x3 : FVec Ideal S3x256x2048 .bf16)
    (L : List (View.Piece (Elt Ideal) S128x3072 .f32)) :
    v.readCov (⟨Rect.unit (s := S128x3072) ![0, 2048] S128x1024.size inb_S128x3072_S128x1024_0_2048, k0_pay59 (F := Ideal) (k0_pay58 (k0_pay48 (View.ld (Val := Elt Ideal) (S := S4x128x768) (e' := .f32) x0 (Rect.unit (s := S4x128x768) ![2, 0, 0] S1x128x768.size inb_S4x128x768_S1x128x768_2_0_0))) (View.ld (Val := Elt Ideal) (S := S3x256x2048) (e' := .bf16) x3 (Rect.unit (s := S3x256x2048) ![2, 0, 0] S1x256x2048.size inb_S3x256x2048_S1x256x2048_2_0_0)))⟩ :: ⟨Rect.unit (s := S128x3072) ![0, 1024] S128x1024.size inb_S128x3072_S128x1024_0_1024, k0_pay55 (F := Ideal) (k0_pay48 (View.ld (Val := Elt Ideal) (S := S4x128x768) (e' := .f32) x0 (Rect.unit (s := S4x128x768) ![2, 0, 0] S1x128x768.size inb_S4x128x768_S1x128x768_2_0_0))) (View.ld (Val := Elt Ideal) (S := S3x256x2048) (e' := .bf16) x3 (Rect.unit (s := S3x256x2048) ![1, 0, 0] S1x256x2048.size inb_S3x256x2048_S1x256x2048_1_0_0))⟩ :: ⟨Rect.unit (s := S128x3072) ![0, 0] S128x1024.size inb_S128x3072_S128x1024_0_0, k0_pay52 (F := Ideal) (k0_pay49 (View.ld (Val := Elt Ideal) (S := S4x128x768) (e' := .f32) x0 (Rect.unit (s := S4x128x768) ![2, 0, 0] S1x128x768.size inb_S4x128x768_S1x128x768_2_0_0))) (View.ld (Val := Elt Ideal) (S := S3x256x2048) (e' := .bf16) x3 (Rect.unit (s := S3x256x2048) ![0, 0, 0] S1x256x2048.size inb_S3x256x2048_S1x256x2048_0_0_0))⟩ :: L)
      (Rect.unit (s := S128x3072) ![0, 0] ![128, 3072] inb_S128x3072_S128x3072_0_0).toLoadRect = driven 1 x0 x3 2 :=
  tiles_read v _ _ _ _ L (fun y => (tile0_im _ _ y).trans (tile_driven 2 0 1 2 0 0 rfl rfl rfl _ _ _ x0 x3 y)) (fun y => (tile1_im _ _ y).trans (tile_driven 2 1 1 2 1 1024 rfl rfl rfl _ _ _ x0 x3 y)) (fun y => (tile2_im _ _ y).trans (tile_driven 2 2 1 2 2 2048 rfl rfl rfl _ _ _ x0 x3 y))

theorem drive3_re {κ : Kind} {sp : Space} (v : View sig κ sp S128x3072 .f32) (x0 : FVec Ideal S4x128x768 .f32) (x3 : FVec Ideal S3x256x2048 .bf16)
    (L : List (View.Piece (Elt Ideal) S128x3072 .f32)) :
    v.readCov (⟨Rect.unit (s := S128x3072) ![0, 2048] S128x1024.size inb_S128x3072_S128x1024_0_2048, k0_pay79 (F := Ideal) (k0_pay70 (View.ld (Val := Elt Ideal) (S := S4x128x768) (e' := .f32) x0 (Rect.unit (s := S4x128x768) ![3, 0, 0] S1x128x768.size inb_S4x128x768_S1x128x768_3_0_0))) (View.ld (Val := Elt Ideal) (S := S3x256x2048) (e' := .bf16) x3 (Rect.unit (s := S3x256x2048) ![2, 0, 0] S1x256x2048.size inb_S3x256x2048_S1x256x2048_2_0_0))⟩ :: ⟨Rect.unit (s := S128x3072) ![0, 1024] S128x1024.size inb_S128x3072_S128x1024_0_1024, k0_pay76 (F := Ideal) (k0_pay70 (View.ld (Val := Elt Ideal) (S := S4x128x768) (e' := .f32) x0 (Rect.unit (s := S4x128x768) ![3, 0, 0] S1x128x768.size inb_S4x128x768_S1x128x768_3_0_0))) (View.ld (Val := Elt Ideal) (S := S3x256x2048) (e' := .bf16) x3 (Rect.unit (s := S3x256x2048) ![1, 0, 0] S1x256x2048.size inb_S3x256x2048_S1x256x2048_1_0_0))⟩ :: ⟨Rect.unit (s := S128x3072) ![0, 0] S128x1024.size inb_S128x3072_S128x1024_0_0, k0_pay72 (F := Ideal) (View.ld (Val := Elt Ideal) (S := S4x128x768) (e' := .f32) x0 (Rect.unit (s := S4x128x768) ![3, 0, 0] S1x128x768.size inb_S4x128x768_S1x128x768_3_0_0)) (View.ld (Val := Elt Ideal) (S := S3x256x2048) (e' := .bf16) x3 (Rect.unit (s := S3x256x2048) ![0, 0, 0] S1x256x2048.size inb_S3x256x2048_S1x256x2048_0_0_0))⟩ :: L)
      (Rect.unit (s := S128x3072) ![0, 0] ![128, 3072] inb_S128x3072_S128x3072_0_0).toLoadRect = driven 0 x0 x3 3 :=
  tiles_read v _ _ _ _ L (fun y => (tile0_re _ _ y).trans (tile_driven 3 0 0 3 0 0 rfl rfl rfl _ _ _ x0 x3 y)) (fun y => (tile1_re _ _ y).trans (tile_driven 3 1 0 3 1 1024 rfl rfl rfl _ _ _ x0 x3 y)) (fun y => (tile2_re _ _ y).trans (tile_driven 3 2 0 3 2 2048 rfl rfl rfl _ _ _ x0 x3 y))

theorem drive3_im {κ : Kind} {sp : Space} (v : View sig κ sp S128x3072 .f32) (x0 : FVec Ideal S4x128x768 .f32) (x3 : FVec Ideal S3x256x2048 .bf16)
    (L : List (View.Piece (Elt Ideal) S128x3072 .f32)) :
    v.readCov (⟨Rect.unit (s := S128x3072) ![0, 2048] S128x1024.size inb_S128x3072_S128x1024_0_2048, k0_pay80 (F := Ideal) (k0_pay70 (View.ld (Val := Elt Ideal) (S := S4x128x768) (e' := .f32) x0 (Rect.unit (s := S4x128x768) ![3, 0, 0] S1x128x768.size inb_S4x128x768_S1x128x768_3_0_0))) (View.ld (Val := Elt Ideal) (S := S3x256x2048) (e' := .bf16) x3 (Rect.unit (s := S3x256x2048) ![2, 0, 0] S1x256x2048.size inb_S3x256x2048_S1x256x2048_2_0_0))⟩ :: ⟨Rect.unit (s := S128x3072) ![0, 1024] S128x1024.size inb_S128x3072_S128x1024_0_1024, k0_pay77 (F := Ideal) (k0_pay70 (View.ld (Val := Elt Ideal) (S := S4x128x768) (e' := .f32) x0 (Rect.unit (s := S4x128x768) ![3, 0, 0] S1x128x768.size inb_S4x128x768_S1x128x768_3_0_0))) (View.ld (Val := Elt Ideal) (S := S3x256x2048) (e' := .bf16) x3 (Rect.unit (s := S3x256x2048) ![1, 0, 0] S1x256x2048.size inb_S3x256x2048_S1x256x2048_1_0_0))⟩ :: ⟨Rect.unit (s := S128x3072) ![0, 0] S128x1024.size inb_S128x3072_S128x1024_0_0, k0_pay74 (F := Ideal) (k0_pay73 (View.ld (Val := Elt Ideal) (S := S4x128x768) (e' := .f32) x0 (Rect.unit (s := S4x128x768) ![3, 0, 0] S1x128x768.size inb_S4x128x768_S1x128x768_3_0_0)) (View.ld (Val := Elt Ideal) (S := S3x256x2048) (e' := .bf16) x3 (Rect.unit (s := S3x256x2048) ![0, 0, 0] S1x256x2048.size inb_S3x256x2048_S1x256x2048_0_0_0)))⟩ :: L)
      (Rect.unit (s := S128x3072) ![0, 0] ![128, 3072] inb_S128x3072_S128x3072_0_0).toLoadRect = driven 1 x0 x3 3 :=
  tiles_read v _ _ _ _ L (fun y => (tile0_im _ _ y).trans (tile_driven 3 0 1 3 0 0 rfl rfl rfl _ _ _ x0 x3 y)) (fun y => (tile1_im _ _ y).trans (tile_driven 3 1 1 3 1 1024 rfl rfl rfl _ _ _ x0 x3 y)) (fun y => (tile2_im _ _ y).trans (tile_driven 3 2 1 3 2 2048 rfl rfl rfl _ _ _ x0 x3 y))

theorem next1_re (a b : FVec Ideal S1x3072 .f32) (hr hi u : FVec Ideal S128x3072 .f32) : k0_pay39 (F := Ideal) (k0_pay2 a) (k0_pay3 b) hr hi u = nextRe a b hr hi u := next_re a b hr hi u
theorem next1_im (a b : FVec Ideal S1x3072 .f32) (hr hi u : FVec Ideal S128x3072 .f32) : k0_pay40 (F := Ideal) (k0_pay2 a) (k0_pay3 b) hr hi u = nextIm a b hr hi u := next_im a b hr hi u
theorem next2_re (a b : FVec Ideal S1x3072 .f32) (hr hi u : FVec Ideal S128x3072 .f32) : k0_pay62 (F := Ideal) (k0_pay2 a) (k0_pay3 b) hr hi u = nextRe a b hr hi u := next_re a b hr hi u
theorem next2_im (a b : FVec Ideal S1x3072 .f32) (hr hi u : FVec Ideal S128x3072 .f32) : k0_pay63 (F := Ideal) (k0_pay2 a) (k0_pay3 b) hr hi u = nextIm a b hr hi u := next_im a b hr hi u
theorem next3_re (a b : FVec Ideal S1x3072 .f32) (hr hi u : FVec Ideal S128x3072 .f32) : k0_pay84 (F := Ideal) (k0_pay83 (k0_pay2 a) (k0_pay3 b) hr hi) u = nextRe a b hr hi u := next_re a b hr hi u
theorem next3_im (a b : FVec Ideal S1x3072 .f32) (hr hi u : FVec Ideal S128x3072 .f32) : k0_pay85 (F := Ideal) (k0_pay2 a) (k0_pay3 b) (k0_pay81 hr) (k0_pay82 hi) u = nextIm a b hr hi u := next_im a b hr hi u

/-- A tile of the read-out from loaded state tiles and weight tiles. -/
def readTile (hr hi : FVec Ideal S128x1024 .f32) (cr ci : FVec Ideal S1x1024x256 .bf16) (r : Fin 128) (j : Fin 256) : Ideal .f32 :=
  (∑ n, hr (ix2 r n) * cr (ix3 0 n j)) - ∑ n, hi (ix2 r n) * ci (ix3 0 n j)

theorem read_tile (hr hi : FVec Ideal S128x1024 .f32) (cr ci : FVec Ideal S1x1024x256 .bf16) (r : Fin 128) (j : Fin 256) :
    k0_pay21 (F := Ideal) hr hi cr ci (ix2 r j) = readTile hr hi cr ci r j := by
  pointwise [k0_pay21, readTile]

/-- The values before the gate: the three tiles of the read-out and the direct term. -/
def pre (v9 : FVec Ideal S128x768 .f32) (a b c : FVec Ideal S128x256 .f32) (d : FVec Ideal S1x768 .f32) : FVec Ideal S128x768 .f32 :=
  addf (concatenate S128x768 1 [⟨S128x256, a⟩, ⟨S128x256, b⟩, ⟨S128x256, c⟩] concatenates_S128x256_S128x256_S128x256_S128x768_d1)
    (mulf (broadcastTo S128x768 (shapeCast S1x768 d shapeCasts_S1x768_S1x768) broadcasts_S1x768_S128x768) v9)

/-- Its gate. -/
def gated (y : FVec Ideal S128x768 .f32) : FVec Ideal S128x768 .f32 :=
  mulf y (mulf (broadcast S128x768 (Scalar.ofBits .f32 0x3F000000#32)) (addf (broadcast S128x768 (Scalar.ofBits .f32 0x3F800000#32))
    (tanh (mulf (broadcast S128x768 (Scalar.ofBits .f32 0x3F4C422A#32)) (addf y (mulf (broadcast S128x768 (Scalar.ofBits .f32 0x3D372713#32)) (mulf y (mulf y y))))))))

theorem gated_at (y : FVec Ideal S128x768 .f32) (r : Fin 128) (ch : Fin 768) : gated y (ix2 r ch) = gelu (y (ix2 r ch)) := by
  pointwise [gated, gelu]

theorem glu_at (y : FVec Ideal S128x768 .f32) (w : FVec Ideal S768x1536 .bf16) (r : Fin 128) (ch : Fin 768) :
    k0_pay1 (F := Ideal) y w (ix3 0 r ch) = glu (fun k => y (ix2 r k)) (fun k j => w (ix2 k j)) ch := by
  pointwise [k0_pay1, glu]

/-- The three tiles side by side. -/
theorem side_by_side (a b c : FVec Ideal S128x256 .f32) (G : Fin 128 → Fin 3 → Fin 256 → Ideal .f32)
    (ha : ∀ r j, a (ix2 r j) = G r 0 j) (hb : ∀ r j, b (ix2 r j) = G r 1 j) (hc : ∀ r j, c (ix2 r j) = G r 2 j) (r : Fin 128) (ch : Fin 768) :
    concatenate S128x768 1 [⟨S128x256, a⟩, ⟨S128x256, b⟩, ⟨S128x256, c⟩] concatenates_S128x256_S128x256_S128x256_S128x768_d1 (ix2 r ch)
      = G r (chanTile ch) ⟨ch.val % 256, Nat.mod_lt _ (by decide)⟩ := by
  pointwise
  by_cases h1 : ch.val < 256
  · rw [dif_pos h1]
    exact (ha r _).trans (congrArg₂ (G r) (Fin.ext (by show 0 = ch.val / 256; omega)) (Fin.ext (by show ch.val = ch.val % 256; omega)))
  · rw [dif_neg h1]
    by_cases h2 : ch.val - 256 < 256
    · rw [dif_pos h2]
      exact (hb r _).trans (congrArg₂ (G r) (Fin.ext (by show 1 = ch.val / 256; omega)) (Fin.ext (by show ch.val - 256 = ch.val % 256; omega)))
    · rw [dif_neg h2]
      exact (hc r _).trans (congrArg₂ (G r) (Fin.ext (by show 2 = ch.val / 256; omega)) (Fin.ext (by show ch.val - 256 - 256 = ch.val % 256; omega)))

/-- The direct term. -/
theorem direct (u : FVec Ideal S1x128x768 .f32) (d : FVec Ideal S1x768 .f32) (r : Fin 128) (ch : Fin 768) :
    mulf (F := Ideal) (broadcastTo S128x768 (shapeCast S1x768 d shapeCasts_S1x768_S1x768) broadcasts_S1x768_S128x768) (k0_pay4 u) (ix2 r ch) = d (ix2 0 ch) * u (ix3 0 r ch) := by
  pointwise [k0_pay4]

/-- A time step's row of results, from the loaded input, the tiles of the read-out and the weights. -/
def mixed (v9 : FVec Ideal S128x768 .f32) (a b c : FVec Ideal S128x256 .f32) (d : FVec Ideal S1x768 .f32) (w : FVec Ideal S768x1536 .bf16) : FVec Ideal S1x128x768 .f32 :=
  k0_pay1 (gated (pre v9 a b c d)) w

theorem mixed0 (u : FVec Ideal S1x128x768 .f32) (h1 g1 h2 g2 h3 g3 : FVec Ideal S128x1024 .f32) (c1 e1 c2 e2 c3 e3 : FVec Ideal S1x1024x256 .bf16) (d : FVec Ideal S1x768 .f32) (w : FVec Ideal S768x1536 .bf16) :
    k0_pay24 (F := Ideal) (k0_pay23 (k0_pay4 u) (k0_pay21 h1 g1 c1 e1) (k0_pay22 h2 g2 c2 e2) h3 g3 c3 e3 d w)
      = mixed (k0_pay4 u) (k0_pay21 h1 g1 c1 e1) (k0_pay21 h2 g2 c2 e2) (k0_pay21 h3 g3 c3 e3) d w := rfl

theorem mixed1 (u : FVec Ideal S1x128x768 .f32) (h1 g1 h2 g2 h3 g3 : FVec Ideal S128x1024 .f32) (c1 e1 c2 e2 c3 e3 : FVec Ideal S1x1024x256 .bf16) (d : FVec Ideal S1x768 .f32) (w : FVec Ideal S768x1536 .bf16) :
    k0_pay46 (F := Ideal) (k0_pay25 u) (k0_pay42 (k0_pay41 h1) g1 c1 e1) (k0_pay43 h2 g2 c2 e2) (k0_pay44 g3) (k0_pay45 h3 c3) e3 d w
      = mixed (k0_pay4 u) (k0_pay21 h1 g1 c1 e1) (k0_pay21 h2 g2 c2 e2) (k0_pay21 h3 g3 c3 e3) d w := rfl

theorem mixed2 (u : FVec Ideal S1x128x768 .f32) (h1 g1 h2 g2 h3 g3 : FVec Ideal S128x1024 .f32) (c1 e1 c2 e2 c3 e3 : FVec Ideal S1x1024x256 .bf16) (d : FVec Ideal S1x768 .f32) (w : FVec Ideal S768x1536 .bf16) :
    k0_pay68 (F := Ideal) (k0_pay66 (k0_pay47 u) (k0_pay64 h1 c1) (k0_pay65 g1 e1) h2 g2 c2 e2 h3 g3 c3 e3 d) (k0_pay67 (k0_pay47 u) (k0_pay64 h1 c1) (k0_pay65 g1 e1) h2 g2 c2 e2 h3 g3 c3 e3 d) w
      = mixed (k0_pay4 u) (k0_pay21 h1 g1 c1 e1) (k0_pay21 h2 g2 c2 e2) (k0_pay21 h3 g3 c3 e3) d w := rfl

theorem mixed3 (u : FVec Ideal S1x128x768 .f32) (h1 g1 h2 g2 h3 g3 : FVec Ideal S128x1024 .f32) (c1 e1 c2 e2 c3 e3 : FVec Ideal S1x1024x256 .bf16) (d : FVec Ideal S1x768 .f32) (w : FVec Ideal S768x1536 .bf16) :
    k0_pay1 (F := Ideal) (k0_pay90 (k0_pay69 u) (k0_pay86 h1 g1 c1 e1) (k0_pay87 h2) (k0_pay88 g2) (k0_pay89 c2) e2 h3 g3 c3 e3 d) w
      = mixed (k0_pay4 u) (k0_pay21 h1 g1 c1 e1) (k0_pay21 h2 g2 c2 e2) (k0_pay21 h3 g3 c3 e3) d w := rfl

end Cert.S5Ideal.Read

end
-- ==== Proof.S5Weights.lean ====
/-
  The weights of the recurrent mixer's kernel: each tile holds sixteen groups' weights on its diagonal, zeros elsewhere, so
  that a sum over a tile is the sum over one group.
-/
module

public import proofs.«01_k».proof.Proof.Gen.S5Ideal.Value
public import proofs.«01_k».proof.Proof.S5Spec

@[expose] public section

set_option maxRecDepth 16384

noncomputable section

open Idealize.ShloMosaic Idealize.ShloMosaic.TcCoe Idealize.SL.Sem
open Idealize.ShloMosaic.Pipeline (Dat)

namespace Cert.S5Ideal.Read

open Cert.S5Ideal Cert.S5Ideal.Gen Cert.Rows

/-- A sum over `M` blocks of `N` that vanishes off block `g` is the sum over that block. -/
theorem pick {M N K : ℕ} (hK : M * N = K) (g : Fin M) (f : Fin K → EReal) (F : Fin M → Fin N → EReal) (h0 : ∀ a, a ≠ g → ∀ c, F a c = 0)
    (hf : ∀ a c (h : c.val + N * a.val < K), f ⟨c.val + N * a.val, h⟩ = F a c) : ∑ j, f j = ∑ c, F g c := by
  subst hK
  rw [← Fintype.sum_equiv finProdFinEquiv (fun p : Fin M × Fin N => F p.1 p.2) f (fun p => (hf p.1 p.2 _).symm), Fintype.sum_prod_type]
  exact Finset.sum_eq_single g (fun a _ ha => Finset.sum_eq_zero fun c _ => h0 a ha c) (fun h => absurd (Finset.mem_univ g) h)

/-- The identity, as the kernel's host code makes it. -/
def eye : FVec Ideal S16x16 .f32 :=
  uitofp .f32 (cmpi .eq (addi (iotaInDim S16x16 32 0) (broadcastInDim S16x16 ![] bcast_S_S16x16 (constantI S_ 32 0#32))) (iotaInDim S16x16 32 1))

/-- One on the diagonal, zero off it. -/
def same (a b : ℕ) : EReal := if a = b then 1 else 0

theorem one_int : FloatOps.uitofp (F := Ideal) .f32 1#1 = (1 : EReal) := by
  show (((1#1 : BitVec 1).toNat : ℝ) : EReal) = 1
  simp
theorem zero_int : FloatOps.uitofp (F := Ideal) .f32 0#1 = (0 : EReal) := by
  show (((0#1 : BitVec 1).toNat : ℝ) : EReal) = 0
  simp

theorem eye_at (a b : Fin 16) : eye (ix2 a b) = same a.val b.val := by
  have h : ∀ a b : Fin 16, (IntOp.cmpi CmpIPredicate.eq (IntOp.addi (BitVec.ofNat 32 a.val) 0#32) (BitVec.ofNat 32 b.val)) = if a.val = b.val then 1#1 else 0#1 := by decide
  pointwise [eye, same]
  rw [h]
  by_cases e : a.val = b.val
  · rw [if_pos e, if_pos e]
    exact one_int
  · rw [if_neg e, if_neg e]
    exact zero_int

/-- The input weights of a part in their tiles. -/
def blocksB (x : FVec Ideal S768x64 .f32) : FVec Ideal S3x256x1024 .f32 :=
  shapeCast S3x256x1024 (mulf (broadcastInDim S3x16x16x16x64 ![0, 1, 2, 3, 4] bcast_S3x16x16x1x64_S3x16x16x16x64_0_1_2_3_4 (broadcastInDim S3x16x16x1x64 ![0, 1, 2, 4] bcast_S3x16x16x64_S3x16x16x1x64_0_1_2_4 (shapeCast S3x16x16x64 x shapeCasts_S768x64_S3x16x16x64)))
    (broadcastInDim S3x16x16x16x64 ![0, 1, 2, 3, 4] bcast_S1x16x1x16x1_S3x16x16x16x64_0_1_2_3_4 (broadcastInDim S1x16x1x16x1 ![1, 3] bcast_S16x16_S1x16x1x16x1_1_3 eye))) shapeCasts_S3x16x16x16x64_S3x256x1024

/-- The read-out weights of a part in their tiles. -/
def blocksC (x : FVec Ideal S48x16x64 .f32) : FVec Ideal S3x1024x256 .f32 :=
  shapeCast S3x1024x256 (mulf (broadcastInDim S3x16x64x16x16 ![0, 1, 2, 3, 4] bcast_S3x16x64x1x16_S3x16x64x16x16_0_1_2_3_4 (broadcastInDim S3x16x64x1x16 ![0, 1, 2, 4] bcast_S3x16x64x16_S3x16x64x1x16_0_1_2_4 (transpose S3x16x64x16 [0, 1, 3, 2] (shapeCast S3x16x16x64 x shapeCasts_S48x16x64_S3x16x16x64) transposes_S3x16x16x64_S3x16x64x16_0_1_3_2)))
    (broadcastInDim S3x16x64x16x16 ![0, 1, 2, 3, 4] bcast_S1x16x1x16x1_S3x16x64x16x16_0_1_2_3_4 (broadcastInDim S1x16x1x16x1 ![1, 3] bcast_S16x16_S1x16x1x16x1_1_3 eye))) shapeCasts_S3x16x64x16x16_S3x1024x256

theorem blocksB_at (x : FVec Ideal S768x64 .f32) (k : Fin 3) (j : Fin 256) (n : Fin 1024) :
    blocksB x (ix3 k j n) = x (ix2 ⟨256 * k.val + j.val, by omega⟩ ⟨n.val % 64, by omega⟩) * same (j.val / 16) (n.val / 64) := by
  pointwise [blocksB]
  exact congrArg₂ (fun a b : EReal => a * b) (congrArg (fun z => x (ix2 z _)) (Fin.ext (by show k.val * 256 + j.val / 16 * 16 + j.val % 16 = 256 * k.val + j.val; omega))) (eye_at _ _)

theorem blocksC_at (x : FVec Ideal S48x16x64 .f32) (k : Fin 3) (n : Fin 1024) (j : Fin 256) :
    blocksC x (ix3 k n j) = x (ix3 ⟨16 * k.val + n.val / 64, by omega⟩ ⟨j.val % 16, by omega⟩ ⟨n.val % 64, by omega⟩) * same (n.val / 64) (j.val / 16) := by
  pointwise [blocksC]
  exact congrArg₂ (fun a b : EReal => a * b) (congrArg (fun z => x (ix3 z _ _)) (Fin.ext (by show k.val * 16 + n.val / 64 = 16 * k.val + n.val / 64; omega))) (eye_at _ _)

variable (m : (ℓ : Loc nD τ sig) → Buf (Elt Ideal) ℓ) (ρ : Dev nD → PrngReg)

theorem index0 : ∀ t : Fin cfg0.N, win0_0.index t = ![0, 0, 0] :=
  (by decide +kernel : ∀ t : Fin grid0.N, win0_0.index t = ![0, 0, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0, 0] :=
  (by decide +kernel : ∀ t : Fin grid0.N, win0_3.index t = ![0, 0, 0])
theorem index4 : ∀ t : Fin cfg0.N, win0_4.index t = ![0, 0, 0] :=
  (by decide +kernel : ∀ t : Fin grid0.N, win0_4.index t = ![0, 0, 0])
theorem index5 : ∀ t : Fin cfg0.N, win0_5.index t = ![0, 0, 0] :=
  (by decide +kernel : ∀ t : Fin grid0.N, win0_5.index t = ![0, 0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![0, 0] :=
  (by decide +kernel : ∀ t : Fin grid0.N, win0_8.index t = ![0, 0])
theorem index9 : ∀ t : Fin cfg0.N, win0_9.index t = ![0, 0, 0] :=
  (by decide +kernel : ∀ t : Fin grid0.N, win0_9.index t = ![0, 0, 0])
theorem index10 : ∀ t : Fin cfg0.N, win0_10.index t = ![0, 0] :=
  (by decide +kernel : ∀ t : Fin grid0.N, win0_10.index t = ![0, 0])
theorem index11 : ∀ t : Fin cfg0.N, win0_11.index t = ![0, 0] :=
  (by decide +kernel : ∀ t : Fin grid0.N, win0_11.index t = ![0, 0])

/-- The arrays the host code hands to the kernel. -/
theorem V_wb (c : Dev nD) : V m c main_v21 = truncf (F := Ideal) .bf16 (concatenate S3x256x2048 2 [⟨S3x256x1024, blocksB (m ((c.tc : Thread nD τ).loc main_arg3) : FVec Ideal S768x64 .f32)⟩, ⟨S3x256x1024, blocksB (m ((c.tc : Thread nD τ).loc main_arg4) : FVec Ideal S768x64 .f32)⟩] concatenates_S3x256x1024_S3x256x1024_S3x256x2048_d2) bitsLt_bf16_f32 := by
  unfold V
  after_results <;> rfl
theorem V_cr (c : Dev nD) : V m c main_v30 = truncf (F := Ideal) .bf16 (blocksC (m ((c.tc : Thread nD τ).loc main_arg7) : FVec Ideal S48x16x64 .f32)) bitsLt_bf16_f32 := by
  unfold V
  after_results <;> rfl
theorem V_ci (c : Dev nD) : V m c main_v39 = truncf (F := Ideal) .bf16 (blocksC (m ((c.tc : Thread nD τ).loc main_arg8) : FVec Ideal S48x16x64 .f32)) bitsLt_bf16_f32 := by
  unfold V
  after_results <;> rfl
theorem V_ab (c : Dev nD) : V m c main_v40 = concatenate S2x3072 0 [⟨S1x3072, (m ((c.tc : Thread nD τ).loc main_arg5) : FVec Ideal S1x3072 .f32)⟩, ⟨S1x3072, (m ((c.tc : Thread nD τ).loc main_arg6) : FVec Ideal S1x3072 .f32)⟩] concatenates_S1x3072_S1x3072_S2x3072_d0 := by
  unfold V
  after_results <;> rfl
theorem V_d (c : Dev nD) : V m c main_v41 = shapeCast S1x768 (m ((c.tc : Thread nD τ).loc main_arg9) : FVec Ideal S768 .f32) shapeCasts_S768_S1x768 := by
  unfold V
  after_results <;> rfl
theorem V_w (c : Dev nD) : V m c main_v42 = truncf (F := Ideal) .bf16 (m ((c.tc : Thread nD τ).loc main_arg10) : FVec Ideal S768x1536 .f32) bitsLt_bf16_f32 := by
  unfold V
  after_results <;> rfl

/-- The kernel's blocks of its arguments, entry by entry. -/
theorem blk0 (c : Dev nD) (t : Fin cfg0.N) (a : Fin 4) (r : Fin 128) (ch : Fin 768) : iblk m c 0 t (ix3 a r ch) = m ((c.tc : Thread nD τ).loc main_arg0) (ix3 a r ch) := by
  blk_simp [iblk]
  have e : (win0_0.blk t).view.emb (ix3 a r ch) = ix3 a r ch := by blk_ext [index0]
  rw [e, V_main_arg0]
theorem blk1 (c : Dev nD) (t : Fin cfg0.N) (r : Fin 128) (n : Fin 3072) : iblk m c 1 t (ix2 r n) = m ((c.tc : Thread nD τ).loc main_arg1) (ix2 r n) := by
  blk_simp [iblk]
  have e : (win0_1.blk t).view.emb (ix2 r n) = ix2 r n := by blk_ext [index1]
  rw [e, V_main_arg1]
theorem blk2 (c : Dev nD) (t : Fin cfg0.N) (r : Fin 128) (n : Fin 3072) : iblk m c 2 t (ix2 r n) = m ((c.tc : Thread nD τ).loc main_arg2) (ix2 r n) := by
  blk_simp [iblk]
  have e : (win0_2.blk t).view.emb (ix2 r n) = ix2 r n := by blk_ext [index2]
  rw [e, V_main_arg2]
theorem blk3_re (c : Dev nD) (t : Fin cfg0.N) (k : Fin 3) (j : Fin 256) (n : Fin 1024) : iblk m c 3 t (ix3 k j ⟨n.val, by omega⟩)
    = blocksB (m ((c.tc : Thread nD τ).loc main_arg3)) (ix3 k j n) := by
  blk_simp [iblk]
  have e : (win0_3.blk t).view.emb (ix3 k j ⟨n.val, by omega⟩) = ix3 k j ⟨n.val, by omega⟩ := by blk_ext [index3]
  rw [e, V_wb]
  generalize blocksB (m ((c.tc : Thread nD τ).loc main_arg3)) = X
  generalize blocksB (m ((c.tc : Thread nD τ).loc main_arg4)) = Y
  pointwise
theorem blk3_im (c : Dev nD) (t : Fin cfg0.N) (k : Fin 3) (j : Fin 256) (n : Fin 1024) : iblk m c 3 t (ix3 k j ⟨1024 + n.val, by omega⟩)
    = blocksB (m ((c.tc : Thread nD τ).loc main_arg4)) (ix3 k j n) := by
  blk_simp [iblk]
  have e : (win0_3.blk t).view.emb (ix3 k j ⟨1024 + n.val, by omega⟩) = ix3 k j ⟨1024 + n.val, by omega⟩ := by blk_ext [index3]
  rw [e, V_wb]
  generalize blocksB (m ((c.tc : Thread nD τ).loc main_arg3)) = X
  generalize blocksB (m ((c.tc : Thread nD τ).loc main_arg4)) = Y
  pointwise
theorem blk4 (c : Dev nD) (t : Fin cfg0.N) (k : Fin 3) (n : Fin 1024) (j : Fin 256) : iblk m c 4 t (ix3 k n j) = blocksC (m ((c.tc : Thread nD τ).loc main_arg7)) (ix3 k n j) := by
  blk_simp [iblk]
  have e : (win0_4.blk t).view.emb (ix3 k n j) = ix3 k n j := by blk_ext [index4]
  rw [e, V_cr]
  rfl
theorem blk5 (c : Dev nD) (t : Fin cfg0.N) (k : Fin 3) (n : Fin 1024) (j : Fin 256) : iblk m c 5 t (ix3 k n j) = blocksC (m ((c.tc : Thread nD τ).loc main_arg8)) (ix3 k n j) := by
  blk_simp [iblk]
  have e : (win0_5.blk t).view.emb (ix3 k n j) = ix3 k n j := by blk_ext [index5]
  rw [e, V_ci]
  rfl
theorem blk6 (c : Dev nD) (t : Fin cfg0.N) (ch : Fin 768) : iblk m c 6 t (ix2 0 ch) = m ((c.tc : Thread nD τ).loc main_arg9) (ix1 ch) := by
  blk_simp [iblk]
  have e : (win0_6.blk t).view.emb (ix2 0 ch) = ix2 0 ch := by blk_ext [index6]
  rw [e, V_d]
  pointwise
theorem blk7 (c : Dev nD) (t : Fin cfg0.N) (k : Fin 768) (j : Fin 1536) : iblk m c 7 t (ix2 k j) = m ((c.tc : Thread nD τ).loc main_arg10) (ix2 k j) := by
  blk_simp [iblk]
  have e : (win0_7.blk t).view.emb (ix2 k j) = ix2 k j := by blk_ext [index7]
  rw [e, V_w]
  rfl
theorem blk8_re (c : Dev nD) (t : Fin cfg0.N) (n : Fin 3072) : iblk m c 8 t (ix2 0 n) = m ((c.tc : Thread nD τ).loc main_arg5) (ix2 0 n) := by
  blk_simp [iblk]
  have e : (win0_8.blk t).view.emb (ix2 0 n) = ix2 0 n := by blk_ext [index8]
  rw [e, V_ab]
  pointwise
theorem blk8_im (c : Dev nD) (t : Fin cfg0.N) (n : Fin 3072) : iblk m c 8 t (ix2 1 n) = m ((c.tc : Thread nD τ).loc main_arg6) (ix2 0 n) := by
  blk_simp [iblk]
  have e : (win0_8.blk t).view.emb (ix2 1 n) = ix2 1 n := by blk_ext [index8]
  rw [e, V_ab]
  pointwise

end Cert.S5Ideal.Read

end
-- ==== Proof.S5Mix.lean ====
/-
  The recurrent mixer's kernel in terms of groups: the states its steps go through are the groups' states, and what it
  writes at each time is their gated read-out.
-/
module

public import proofs.«01_k».proof.Proof.S5Steps
public import proofs.«01_k».proof.Proof.S5Weights

@[expose] public section

set_option maxRecDepth 16384

noncomputable section

open Idealize.ShloMosaic Idealize.ShloMosaic.TcCoe Idealize.SL.Sem
open Idealize.ShloMosaic.Pipeline (Dat)

namespace Cert.S5Ideal.Read

open Cert.S5Ideal Cert.S5Ideal.Gen Cert.Rows
open Cert.Mixer (States states stepRe stepIm drive value gelu glu laneGroup lanePart chanGroup chanPart lane_split)

/-- The states after `k` steps, from the arguments. -/
def statesOf (x0 : FVec Ideal S4x128x768 .f32) (x1 x2 : FVec Ideal S128x3072 .f32) (x3 x4 : FVec Ideal S768x64 .f32) (x5 x6 : FVec Ideal S1x3072 .f32) (k : ℕ) : States × States :=
  states (fun t r ch => x0 (ix3 t r ch)) (fun r n => x1 (ix2 r n)) (fun r n => x2 (ix2 r n)) (fun k p => x3 (ix2 k p)) (fun k p => x4 (ix2 k p)) (fun n => x5 (ix2 0 n)) (fun n => x6 (ix2 0 n)) k

/-- The mixer's result for every row at every time. -/
def out0 (x0 : FVec Ideal S4x128x768 .f32) (x1 x2 : FVec Ideal S128x3072 .f32) (x3 x4 : FVec Ideal S768x64 .f32) (x5 x6 : FVec Ideal S1x3072 .f32)
    (x7 x8 : FVec Ideal S48x16x64 .f32) (x9 : FVec Ideal S768 .f32) (x10 : FVec Ideal S768x1536 .f32) : FVec Ideal S4x128x768 .f32 := fun i =>
  glu (fun k => gelu (value (statesOf x0 x1 x2 x3 x4 x5 x6 ((i 0).val + 1)) (fun g c p => x7 (ix3 g c p)) (fun g c p => x8 (ix3 g c p)) (fun ch => x9 (ix1 ch)) (fun r ch => x0 (ix3 (i 0) r ch)) (i 1) k))
    (fun k j => x10 (ix2 k j)) (i 2)

/-- The states after the last step: real parts, imaginary parts. -/
def out1 (x0 : FVec Ideal S4x128x768 .f32) (x1 x2 : FVec Ideal S128x3072 .f32) (x3 x4 : FVec Ideal S768x64 .f32) (x5 x6 : FVec Ideal S1x3072 .f32) : FVec Ideal S128x3072 .f32 := fun i =>
  (statesOf x0 x1 x2 x3 x4 x5 x6 4).1 (i 0) (laneGroup (i 1)) (lanePart (i 1))
def out2 (x0 : FVec Ideal S4x128x768 .f32) (x1 x2 : FVec Ideal S128x3072 .f32) (x3 x4 : FVec Ideal S768x64 .f32) (x5 x6 : FVec Ideal S1x3072 .f32) : FVec Ideal S128x3072 .f32 := fun i =>
  (statesOf x0 x1 x2 x3 x4 x5 x6 4).2 (i 0) (laneGroup (i 1)) (lanePart (i 1))

theorem same_self (a : ℕ) : same a a = 1 := if_pos rfl
theorem same_ne {a b : ℕ} (h : a ≠ b) : same a b = 0 := if_neg h

/-- The kernel's drive is each group's drive. -/
theorem driven_at (o : Fin 2) (x0 : FVec Ideal S4x128x768 .f32) (x3 : FVec Ideal S3x256x2048 .bf16) (w : FVec Ideal S768x64 .f32) (t : Fin 4)
    (h3 : ∀ k j n (h : 1024 * o.val + n.val < 2048), x3 (ix3 k j ⟨1024 * o.val + n.val, h⟩) = blocksB w (ix3 k j n)) (r : Fin 128) (n : Fin 3072) :
    driven o x0 x3 t (ix2 r n) = drive (fun r ch => x0 (ix3 t r ch)) (fun k p => w (ix2 k p)) r (laneGroup n) (lanePart n) := by
  have hn := n.isLt
  have hx (j : Fin 256) : x3 (ix3 (laneTile n) j (col o n)) = blocksB w (ix3 (laneTile n) j ⟨n.val % 1024, by omega⟩) := h3 _ _ ⟨n.val % 1024, by omega⟩ _
  refine (pick (M := 16) (N := 16) rfl ⟨n.val % 1024 / 64, by omega⟩ (fun j : Fin 256 => x0 (ix3 t r (chan (laneTile n) j)) * x3 (ix3 (laneTile n) j (col o n)))
    (fun a c => x0 (ix3 t r (chan (laneTile n) ⟨c.val + 16 * a.val, by omega⟩)) * (w (ix2 (chan (laneTile n) ⟨c.val + 16 * a.val, by omega⟩) ⟨n.val % 64, by omega⟩) * same a.val (n.val % 1024 / 64))) ?_ ?_).trans ?_
  · intro a ha c
    rw [same_ne (fun e => ha (Fin.ext e)), mul_zero, mul_zero]
  · intro a c h
    refine congrArg (fun z : EReal => x0 _ * z) ((hx _).trans ((blocksB_at _ _ _ _).trans ?_))
    refine congrArg₂ (fun a b : EReal => a * b) (congrArg (fun z => w (ix2 _ z)) (Fin.ext (by show n.val % 1024 % 64 = n.val % 64; omega))) ?_
    exact congrArg (fun z => same z _) (by show (c.val + 16 * a.val) / 16 = a.val; omega)
  · refine Finset.sum_congr rfl fun c _ => ?_
    have hc := c.isLt
    have e : chan (laneTile n) ⟨c.val + 16 * (n.val % 1024 / 64), by omega⟩ = Mixer.chan (laneGroup n) c := Fin.ext (by
      show 256 * (n.val / 1024) + (c.val + 16 * (n.val % 1024 / 64)) = n.val / 64 * 16 + c.val
      omega)
    show x0 (ix3 t r (chan (laneTile n) ⟨c.val + 16 * (n.val % 1024 / 64), by omega⟩)) * (w (ix2 (chan (laneTile n) ⟨c.val + 16 * (n.val % 1024 / 64), by omega⟩) ⟨n.val % 64, by omega⟩) * same (n.val % 1024 / 64) (n.val % 1024 / 64)) = _
    rw [e, same_self, mul_one]
    rfl

/-- The states the kernel's steps go through. -/
def chain (a b : FVec Ideal S1x3072 .f32) (h g : FVec Ideal S128x3072 .f32) (x0 : FVec Ideal S4x128x768 .f32) (x3 : FVec Ideal S3x256x2048 .bf16) : ℕ → FVec Ideal S128x3072 .f32 × FVec Ideal S128x3072 .f32
  | 0 => (h, g)
  | k + 1 => (nextRe a b (chain a b h g x0 x3 k).1 (chain a b h g x0 x3 k).2 (driven 0 x0 x3 (Fin.ofNat 4 k)), nextIm a b (chain a b h g x0 x3 k).1 (chain a b h g x0 x3 k).2 (driven 1 x0 x3 (Fin.ofNat 4 k)))

theorem chain_at (a b x5 x6 : FVec Ideal S1x3072 .f32) (x1 x2 : FVec Ideal S128x3072 .f32) (x0 : FVec Ideal S4x128x768 .f32) (wb : FVec Ideal S3x256x2048 .bf16) (x3 x4 : FVec Ideal S768x64 .f32)
    (ha : ∀ n, a (ix2 0 n) = x5 (ix2 0 n)) (hb : ∀ n, b (ix2 0 n) = x6 (ix2 0 n))
    (h0 : ∀ k j n (h : 1024 * (0 : Fin 2).val + n.val < 2048), wb (ix3 k j ⟨1024 * (0 : Fin 2).val + n.val, h⟩) = blocksB x3 (ix3 k j n))
    (h1 : ∀ k j n (h : 1024 * (1 : Fin 2).val + n.val < 2048), wb (ix3 k j ⟨1024 * (1 : Fin 2).val + n.val, h⟩) = blocksB x4 (ix3 k j n)) (k : ℕ) :
    (∀ r n, (chain a b x1 x2 x0 wb k).1 (ix2 r n) = (statesOf x0 x1 x2 x3 x4 x5 x6 k).1 r (laneGroup n) (lanePart n))
      ∧ ∀ r n, (chain a b x1 x2 x0 wb k).2 (ix2 r n) = (statesOf x0 x1 x2 x3 x4 x5 x6 k).2 r (laneGroup n) (lanePart n) := by
  induction k with
  | zero =>
    exact ⟨fun r n => (congrArg (fun z => x1 (ix2 r z)) (lane_split n)).symm, fun r n => (congrArg (fun z => x2 (ix2 r z)) (lane_split n)).symm⟩
  | succ k ih =>
    constructor
    · intro r n
      show a (ix2 0 n) * (chain a b x1 x2 x0 wb k).1 (ix2 r n) - b (ix2 0 n) * (chain a b x1 x2 x0 wb k).2 (ix2 r n) + driven 0 x0 wb (Fin.ofNat 4 k) (ix2 r n)
        = x5 (ix2 0 (Mixer.lane (laneGroup n) (lanePart n))) * (statesOf x0 x1 x2 x3 x4 x5 x6 k).1 r (laneGroup n) (lanePart n) - x6 (ix2 0 (Mixer.lane (laneGroup n) (lanePart n))) * (statesOf x0 x1 x2 x3 x4 x5 x6 k).2 r (laneGroup n) (lanePart n)
          + drive (fun r ch => x0 (ix3 (Fin.ofNat 4 k) r ch)) (fun k p => x3 (ix2 k p)) r (laneGroup n) (lanePart n)
      rw [ih.1, ih.2, ha, hb, lane_split, driven_at 0 x0 wb x3 _ h0]
    · intro r n
      show a (ix2 0 n) * (chain a b x1 x2 x0 wb k).2 (ix2 r n) + b (ix2 0 n) * (chain a b x1 x2 x0 wb k).1 (ix2 r n) + driven 1 x0 wb (Fin.ofNat 4 k) (ix2 r n)
        = x5 (ix2 0 (Mixer.lane (laneGroup n) (lanePart n))) * (statesOf x0 x1 x2 x3 x4 x5 x6 k).2 r (laneGroup n) (lanePart n) + x6 (ix2 0 (Mixer.lane (laneGroup n) (lanePart n))) * (statesOf x0 x1 x2 x3 x4 x5 x6 k).1 r (laneGroup n) (lanePart n)
          + drive (fun r ch => x0 (ix3 (Fin.ofNat 4 k) r ch)) (fun k p => x4 (ix2 k p)) r (laneGroup n) (lanePart n)
      rw [ih.1, ih.2, ha, hb, lane_split, driven_at 1 x0 wb x4 _ h1]

/-- A tile of the states. -/
def cut (k : Fin 3) (h : FVec Ideal S128x3072 .f32) : FVec Ideal S128x1024 .f32 := fun y => h (ix2 (y 0) (lane k (y 1)))

/-- A tile of the read-out sums over one group's states. -/
theorem read_at (h : FVec Ideal S128x3072 .f32) (s : States) (wc : FVec Ideal S3x1024x256 .bf16) (cw : FVec Ideal S48x16x64 .f32)
    (hs : ∀ r n, h (ix2 r n) = s r (laneGroup n) (lanePart n)) (hc : ∀ k n j, wc (ix3 k n j) = blocksC cw (ix3 k n j)) (k : Fin 3) (r : Fin 128) (j : Fin 256) :
    (∑ n : Fin 1024, h (ix2 r (lane k n)) * wc (ix3 k n j))
      = ∑ p : Fin 64, s r ⟨16 * k.val + j.val / 16, by omega⟩ p * cw (ix3 ⟨16 * k.val + j.val / 16, by omega⟩ ⟨j.val % 16, by omega⟩ p) := by
  have hj := j.isLt
  refine (pick (M := 16) (N := 64) rfl ⟨j.val / 16, by omega⟩ (fun n : Fin 1024 => h (ix2 r (lane k n)) * wc (ix3 k n j))
    (fun a c => s r ⟨16 * k.val + a.val, by omega⟩ c * (cw (ix3 ⟨16 * k.val + a.val, by omega⟩ ⟨j.val % 16, by omega⟩ c) * same a.val (j.val / 16))) ?_ ?_).trans ?_
  · intro a ha c
    rw [same_ne (fun e => ha (Fin.ext e)), mul_zero, mul_zero]
  · intro a c hlt
    have hcl := c.isLt
    refine congrArg₂ (fun a b : EReal => a * b) ((hs _ _).trans ?_) ((hc _ _ _).trans ((blocksC_at _ _ _ _).trans ?_))
    · exact congrArg₂ (s r) (Fin.ext (by show (1024 * k.val + (c.val + 64 * a.val)) / 64 = 16 * k.val + a.val; omega)) (Fin.ext (by show (1024 * k.val + (c.val + 64 * a.val)) % 64 = c.val; omega))
    · refine congrArg₂ (fun a b : EReal => a * b) (congrArg₂ (fun y z => cw (ix3 y _ z)) (Fin.ext (by show 16 * k.val + (c.val + 64 * a.val) / 64 = 16 * k.val + a.val; omega)) (Fin.ext (by show (c.val + 64 * a.val) % 64 = c.val; omega))) ?_
      exact congrArg (fun z => same z _) (by show (c.val + 64 * a.val) / 64 = a.val; omega)
  · refine Finset.sum_congr rfl fun c _ => ?_
    show s r ⟨16 * k.val + j.val / 16, by omega⟩ c * (cw (ix3 ⟨16 * k.val + j.val / 16, by omega⟩ ⟨j.val % 16, by omega⟩ c) * same (j.val / 16) (j.val / 16)) = _
    rw [same_self, mul_one]

/-- A loaded weight tile. -/
theorem load_tile (wc : FVec Ideal S3x1024x256 .bf16) (k : Fin 3) (k' : ℕ) (hk : k' = k.val) (h : ∀ a, (![k', 0, 0] : Fin 3 → ℕ) a + S1x1024x256.size a ≤ S3x1024x256.size a) (n : Fin 1024) (j : Fin 256) :
    View.ld (Val := Elt Ideal) (S := S3x1024x256) (e' := .bf16) wc (Rect.unit (s := S3x1024x256) ![k', 0, 0] S1x1024x256.size h) (ix3 0 n j) = wc (ix3 k n j) := by
  subst hk
  exact congrArg wc (funext fun a => Fin.ext (by fin_cases a <;> simp [Rect.emb_apply]))

/-- A loaded time step. -/
theorem load_time (x0 : FVec Ideal S4x128x768 .f32) (t : Fin 4) (t' : ℕ) (ht : t' = t.val) (h : ∀ a, (![t', 0, 0] : Fin 3 → ℕ) a + S1x128x768.size a ≤ S4x128x768.size a) (r : Fin 128) (ch : Fin 768) :
    View.ld (Val := Elt Ideal) (S := S4x128x768) (e' := .f32) x0 (Rect.unit (s := S4x128x768) ![t', 0, 0] S1x128x768.size h) (ix3 0 r ch) = x0 (ix3 t r ch) := by
  subst ht
  exact congrArg x0 (funext fun a => Fin.ext (by fin_cases a <;> simp [Rect.emb_apply]))

/-- A loaded row of the step's factors. -/
theorem load_row (x8 : FVec Ideal S2x3072 .f32) (o : Fin 2) (o' : ℕ) (ho : o' = o.val) (h : ∀ a, (![o', 0] : Fin 2 → ℕ) a + S1x3072.size a ≤ S2x3072.size a) (n : Fin 3072) :
    View.ld (Val := Elt Ideal) (S := S2x3072) (e' := .f32) x8 (Rect.unit (s := S2x3072) ![o', 0] S1x3072.size h) (ix2 0 n) = x8 (ix2 o n) := by
  subst ho
  exact congrArg x8 (funext fun a => Fin.ext (by fin_cases a <;> simp [Rect.emb_apply]))

/-- What a time step writes, from the states after it. -/
theorem mixed_at (u : FVec Ideal S1x128x768 .f32) (h g : FVec Ideal S128x3072 .f32) (s : States × States) (wr wi : FVec Ideal S3x1024x256 .bf16) (cr ci : FVec Ideal S48x16x64 .f32)
    (c1 e1 c2 e2 c3 e3 : FVec Ideal S1x1024x256 .bf16) (d : FVec Ideal S1x768 .f32) (w : FVec Ideal S768x1536 .bf16)
    (hh : ∀ r n, h (ix2 r n) = s.1 r (laneGroup n) (lanePart n)) (hg : ∀ r n, g (ix2 r n) = s.2 r (laneGroup n) (lanePart n))
    (hr : ∀ k n j, wr (ix3 k n j) = blocksC cr (ix3 k n j)) (hi : ∀ k n j, wi (ix3 k n j) = blocksC ci (ix3 k n j))
    (l1 : ∀ n j, c1 (ix3 0 n j) = wr (ix3 0 n j)) (m1 : ∀ n j, e1 (ix3 0 n j) = wi (ix3 0 n j))
    (l2 : ∀ n j, c2 (ix3 0 n j) = wr (ix3 1 n j)) (m2 : ∀ n j, e2 (ix3 0 n j) = wi (ix3 1 n j))
    (l3 : ∀ n j, c3 (ix3 0 n j) = wr (ix3 2 n j)) (m3 : ∀ n j, e3 (ix3 0 n j) = wi (ix3 2 n j)) (r : Fin 128) (ch : Fin 768) :
    mixed (k0_pay4 (F := Ideal) u) (k0_pay21 (cut 0 h) (cut 0 g) c1 e1) (k0_pay21 (cut 1 h) (cut 1 g) c2 e2) (k0_pay21 (cut 2 h) (cut 2 g) c3 e3) d w (ix3 0 r ch)
      = glu (fun k => gelu (value s (fun g c p => cr (ix3 g c p)) (fun g c p => ci (ix3 g c p)) (fun ch => d (ix2 0 ch)) (fun r ch => u (ix3 0 r ch)) r k)) (fun k j => w (ix2 k j)) ch := by
  have hv (k : Fin 768) : pre (k0_pay4 (F := Ideal) u) (k0_pay21 (cut 0 h) (cut 0 g) c1 e1) (k0_pay21 (cut 1 h) (cut 1 g) c2 e2) (k0_pay21 (cut 2 h) (cut 2 g) c3 e3) d (ix2 r k)
      = value s (fun g c p => cr (ix3 g c p)) (fun g c p => ci (ix3 g c p)) (fun ch => d (ix2 0 ch)) (fun r ch => u (ix3 0 r ch)) r k := by
    have ht (q : Fin 3) (c e : FVec Ideal S1x1024x256 .bf16) (hl : ∀ n j, c (ix3 0 n j) = wr (ix3 q n j)) (hm : ∀ n j, e (ix3 0 n j) = wi (ix3 q n j)) (r : Fin 128) (j : Fin 256) :
        k0_pay21 (F := Ideal) (cut q h) (cut q g) c e (ix2 r j)
          = (∑ p : Fin 64, s.1 r ⟨16 * q.val + j.val / 16, by omega⟩ p * cr (ix3 ⟨16 * q.val + j.val / 16, by omega⟩ ⟨j.val % 16, by omega⟩ p))
            - ∑ p : Fin 64, s.2 r ⟨16 * q.val + j.val / 16, by omega⟩ p * ci (ix3 ⟨16 * q.val + j.val / 16, by omega⟩ ⟨j.val % 16, by omega⟩ p) := by
      refine (read_tile _ _ _ _ r j).trans ?_
      refine congrArg₂ (fun a b : EReal => a - b) (Eq.trans (Finset.sum_congr rfl fun n _ => ?_) (read_at h s.1 wr cr hh hr q r j)) (Eq.trans (Finset.sum_congr rfl fun n _ => ?_) (read_at g s.2 wi ci hg hi q r j))
      · exact congrArg (fun z : EReal => h _ * z) (hl n j)
      · exact congrArg (fun z : EReal => g _ * z) (hm n j)
    refine (congrArg₂ (fun a b : EReal => a + b) (side_by_side _ _ _ (fun r q j => (∑ p : Fin 64, s.1 r ⟨16 * q.val + j.val / 16, by omega⟩ p * cr (ix3 ⟨16 * q.val + j.val / 16, by omega⟩ ⟨j.val % 16, by omega⟩ p))
            - ∑ p : Fin 64, s.2 r ⟨16 * q.val + j.val / 16, by omega⟩ p * ci (ix3 ⟨16 * q.val + j.val / 16, by omega⟩ ⟨j.val % 16, by omega⟩ p)) (ht 0 c1 e1 l1 m1) (ht 1 c2 e2 l2 m2) (ht 2 c3 e3 l3 m3) r k) (direct u d r k)).trans ?_
    have hk := k.isLt
    have e1 : (⟨16 * (chanTile k).val + k.val % 256 / 16, by have := (chanTile k).isLt; omega⟩ : Fin 48) = chanGroup k := Fin.ext (by show 16 * (k.val / 256) + k.val % 256 / 16 = k.val / 16; omega)
    have e2 : (⟨k.val % 256 % 16, by omega⟩ : Fin 16) = chanPart k := Fin.ext (by show k.val % 256 % 16 = k.val % 16; omega)
    show (∑ p : Fin 64, s.1 r ⟨16 * (chanTile k).val + k.val % 256 / 16, _⟩ p * cr (ix3 ⟨16 * (chanTile k).val + k.val % 256 / 16, _⟩ ⟨k.val % 256 % 16, _⟩ p))
            - (∑ p : Fin 64, s.2 r ⟨16 * (chanTile k).val + k.val % 256 / 16, _⟩ p * ci (ix3 ⟨16 * (chanTile k).val + k.val % 256 / 16, _⟩ ⟨k.val % 256 % 16, _⟩ p)) + d (ix2 0 k) * u (ix3 0 r k) = _
    rw [e1, e2]
    rfl
  refine (glu_at _ _ r ch).trans (congrArg (fun f => glu f _ ch) (funext fun k => (gated_at _ r k).trans (congrArg gelu (hv k))))

end Cert.S5Ideal.Read

end
-- ==== Proof.S5Value.lean ====
/-
  What the recurrent mixer's kernel computes: its three results are the gated read-out at every time and the last states.
-/
module

public import proofs.«01_k».proof.Proof.S5Mix

@[expose] public section

set_option maxRecDepth 16384

noncomputable section

open Idealize.ShloMosaic Idealize.ShloMosaic.TcCoe Idealize.SL.Sem
open Idealize.ShloMosaic.Pipeline (Dat)

namespace Cert.S5Ideal.Read

open Cert.S5Ideal Cert.S5Ideal.Gen Cert.Rows
open Cert.Mixer (States states value gelu glu laneGroup lanePart)

/-- Reading a whole buffer back gives what was put there. -/
theorem whole_read {sg : RefSig} {κ : Kind} (b : Ref sg κ) (h : (Memref.whole b).IsWhole)
    (X : b.ty.shape.Idx → Elt Ideal b.ty.elt) : View.read (Elt Ideal) (View.whole b) (h.unread X) = X :=
  h.read_unread X

/-- An array just stored whole, over whatever was stored before. -/
theorem over_whole (G P : FVec Ideal S128x3072 .f32) (L : List (View.Piece (Elt Ideal) S128x3072 .f32))
    (e : ∀ y, P y = G ((Rect.unit (s := S128x3072) ![0, 0] S128x3072.size inb_S128x3072_S128x3072_0_0).emb y)) (j : S128x3072.Idx) :
    View.canon (⟨Rect.unit (s := S128x3072) ![0, 0] S128x3072.size inb_S128x3072_S128x3072_0_0, P⟩ :: L) j = G j := by
  have hc : ∀ z : S128x3072.Idx, ∃ p ∈ ([⟨Rect.unit (s := S128x3072) ![0, 0] S128x3072.size inb_S128x3072_S128x3072_0_0, P⟩] : List (View.Piece (Elt Ideal) S128x3072 .f32)), z ∈ p.1.set :=
    View.cover_of_tiledL _ S128x3072.size (by sl_kernel_rfl)
  refine View.canon_append_of_pieces G L [_] ?_ _ (hc _)
  exact List.forall_mem_cons.2 ⟨e, List.forall_mem_nil _⟩

/-- States just stored whole, read back by tiles. -/
theorem tile_back (k : Fin 3) (c : ℕ) (hc : c = 1024 * k.val) (hs : ∀ a, (![0, c] : Fin 2 → ℕ) a + (![128, 1024] : Fin 2 → ℕ) a ≤ S128x3072.size a)
    {κ : Kind} {sp : Space} (v : View sig κ sp S128x3072 .f32) (H : FVec Ideal S128x3072 .f32) (L : List (View.Piece (Elt Ideal) S128x3072 .f32)) :
    v.readCov (⟨Rect.unit (s := S128x3072) ![0, 0] ![128, 3072] inb_S128x3072_S128x3072_0_0, H⟩ :: L) (Rect.unit (s := S128x3072) ![0, c] ![128, 1024] hs).toLoadRect = cut k H := by
  subst hc
  rw [View.readCov_eq_canon']
  funext y
  have hw (z : S128x3072.Idx) : (Rect.unit (s := S128x3072) ![0, 0] ![128, 3072] inb_S128x3072_S128x3072_0_0).emb z = z := by
    funext a
    apply Fin.ext
    fin_cases a <;> simp [Rect.emb_apply]
  have hy : (Rect.unit (s := S128x3072) ![0, 1024 * k.val] ![128, 1024] hs).toLoadRect.idx y = ix2 (y 0) (lane k (y 1)) := by
    funext a
    apply Fin.ext
    fin_cases a <;> simp [LoadRect.idx, lane]
  refine Eq.trans ?_ (congrArg H hy)
  exact over_whole H H L (fun z => (congrArg H (hw z)).symm) _

theorem tile_back0 {κ : Kind} {sp : Space} (v : View sig κ sp S128x3072 .f32) (H : FVec Ideal S128x3072 .f32) (L : List (View.Piece (Elt Ideal) S128x3072 .f32)) :
    v.readCov (⟨Rect.unit (s := S128x3072) ![0, 0] ![128, 3072] inb_S128x3072_S128x3072_0_0, H⟩ :: L) (Rect.unit (s := S128x3072) ![0, 0] ![128, 1024] inb_S128x3072_S128x1024_0_0).toLoadRect = cut 0 H :=
  tile_back 0 0 rfl _ v H L
theorem tile_back1 {κ : Kind} {sp : Space} (v : View sig κ sp S128x3072 .f32) (H : FVec Ideal S128x3072 .f32) (L : List (View.Piece (Elt Ideal) S128x3072 .f32)) :
    v.readCov (⟨Rect.unit (s := S128x3072) ![0, 0] ![128, 3072] inb_S128x3072_S128x3072_0_0, H⟩ :: L) (Rect.unit (s := S128x3072) ![0, 1024] ![128, 1024] inb_S128x3072_S128x1024_0_1024).toLoadRect = cut 1 H :=
  tile_back 1 1024 rfl _ v H L
theorem tile_back2 {κ : Kind} {sp : Space} (v : View sig κ sp S128x3072 .f32) (H : FVec Ideal S128x3072 .f32) (L : List (View.Piece (Elt Ideal) S128x3072 .f32)) :
    v.readCov (⟨Rect.unit (s := S128x3072) ![0, 0] ![128, 3072] inb_S128x3072_S128x3072_0_0, H⟩ :: L) (Rect.unit (s := S128x3072) ![0, 2048] ![128, 1024] inb_S128x3072_S128x1024_0_2048).toLoadRect = cut 2 H :=
  tile_back 2 2048 rfl _ v H L

/-- A time step's place in the array. -/
theorem time_piece (G : FVec Ideal S4x128x768 .f32) (t : Fin 4) (t' : ℕ) (ht : t' = t.val) (h : ∀ a, (![t', 0, 0] : Fin 3 → ℕ) a + S1x128x768.size a ≤ S4x128x768.size a) (P : FVec Ideal S1x128x768 .f32) (e : ∀ r ch, P (ix3 0 r ch) = G (ix3 t r ch)) (z : S1x128x768.Idx) :
    P z = G ((Rect.unit (s := S4x128x768) ![t', 0, 0] S1x128x768.size h).emb z) := by
  subst ht
  obtain ⟨z0, r, ch, rfl⟩ : ∃ (z0 : Fin 1) (r : Fin 128) (ch : Fin 768), z = ix3 z0 r ch := ⟨_, _, _, eq_ix3 z⟩
  obtain rfl : z0 = 0 := Subsingleton.elim _ _
  exact (e _ _).trans (congrArg G (funext fun a => Fin.ext (by fin_cases a <;> simp [Rect.emb_apply])))

/-- Four time steps, stored one after the other, are the array whose time steps they are. -/
theorem pieces (G : FVec Ideal S4x128x768 .f32) (P0 P1 P2 P3 : FVec Ideal S1x128x768 .f32)
    (e0 : ∀ y, P0 y = G ((Rect.unit (s := S4x128x768) ![0, 0, 0] S1x128x768.size inb_S4x128x768_S1x128x768_0_0_0).emb y))
    (e1 : ∀ y, P1 y = G ((Rect.unit (s := S4x128x768) ![1, 0, 0] S1x128x768.size inb_S4x128x768_S1x128x768_1_0_0).emb y))
    (e2 : ∀ y, P2 y = G ((Rect.unit (s := S4x128x768) ![2, 0, 0] S1x128x768.size inb_S4x128x768_S1x128x768_2_0_0).emb y))
    (e3 : ∀ y, P3 y = G ((Rect.unit (s := S4x128x768) ![3, 0, 0] S1x128x768.size inb_S4x128x768_S1x128x768_3_0_0).emb y)) (L : List (View.Piece (Elt Ideal) S4x128x768 .f32)) (y : S4x128x768.Idx) :
    View.canon (⟨Rect.unit (s := S4x128x768) ![3, 0, 0] S1x128x768.size inb_S4x128x768_S1x128x768_3_0_0, P3⟩ :: ⟨Rect.unit (s := S4x128x768) ![2, 0, 0] S1x128x768.size inb_S4x128x768_S1x128x768_2_0_0, P2⟩ :: ⟨Rect.unit (s := S4x128x768) ![1, 0, 0] S1x128x768.size inb_S4x128x768_S1x128x768_1_0_0, P1⟩ :: ⟨Rect.unit (s := S4x128x768) ![0, 0, 0] S1x128x768.size inb_S4x128x768_S1x128x768_0_0_0, P0⟩ :: L) y = G y := by
  have hc : ∀ z : S4x128x768.Idx, ∃ p ∈ ([⟨Rect.unit (s := S4x128x768) ![3, 0, 0] S1x128x768.size inb_S4x128x768_S1x128x768_3_0_0, P3⟩, ⟨Rect.unit (s := S4x128x768) ![2, 0, 0] S1x128x768.size inb_S4x128x768_S1x128x768_2_0_0, P2⟩, ⟨Rect.unit (s := S4x128x768) ![1, 0, 0] S1x128x768.size inb_S4x128x768_S1x128x768_1_0_0, P1⟩, ⟨Rect.unit (s := S4x128x768) ![0, 0, 0] S1x128x768.size inb_S4x128x768_S1x128x768_0_0_0, P0⟩] : List (View.Piece (Elt Ideal) S4x128x768 .f32)), z ∈ p.1.set :=
    View.cover_of_tiledL _ S1x128x768.size (by sl_kernel_rfl)
  refine View.canon_append_of_pieces G L [_, _, _, _] ?_ _ (hc _)
  exact List.forall_mem_cons.2 ⟨e3, List.forall_mem_cons.2 ⟨e2, List.forall_mem_cons.2 ⟨e1, List.forall_mem_cons.2 ⟨e0, List.forall_mem_nil _⟩⟩⟩⟩

theorem times (G : FVec Ideal S4x128x768 .f32) (P0 P1 P2 P3 : FVec Ideal S1x128x768 .f32)
    (e0 : ∀ r ch, P0 (ix3 0 r ch) = G (ix3 0 r ch)) (e1 : ∀ r ch, P1 (ix3 0 r ch) = G (ix3 1 r ch)) (e2 : ∀ r ch, P2 (ix3 0 r ch) = G (ix3 2 r ch)) (e3 : ∀ r ch, P3 (ix3 0 r ch) = G (ix3 3 r ch)) (y : S4x128x768.Idx) :
    View.canon ([⟨Rect.unit (s := S4x128x768) ![3, 0, 0] S1x128x768.size inb_S4x128x768_S1x128x768_3_0_0, P3⟩, ⟨Rect.unit (s := S4x128x768) ![2, 0, 0] S1x128x768.size inb_S4x128x768_S1x128x768_2_0_0, P2⟩, ⟨Rect.unit (s := S4x128x768) ![1, 0, 0] S1x128x768.size inb_S4x128x768_S1x128x768_1_0_0, P1⟩, ⟨Rect.unit (s := S4x128x768) ![0, 0, 0] S1x128x768.size inb_S4x128x768_S1x128x768_0_0_0, P0⟩] : List (View.Piece (Elt Ideal) S4x128x768 .f32)) y = G y :=
  pieces G P0 P1 P2 P3 (time_piece G 0 0 rfl _ P0 e0) (time_piece G 1 1 rfl _ P1 e1) (time_piece G 2 2 rfl _ P2 e2) (time_piece G 3 3 rfl _ P3 e3) [] y

variable (m : (ℓ : Loc nD τ sig) → Buf (Elt Ideal) ℓ) (ρ : Dev nD → PrngReg)

set_option maxHeartbeats 4000000 in
/-- Window 9's result. -/
theorem final9 (c : Dev nD) : (dats m 0 c).arrAt 9 cfg0.N = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (dats m 0 c).arrAt_eq_of_covers 9 _ (by decide +kernel) fun t hf y => ?_
  blk_simp
  rw [after0_9]
  unfold outsAt0
  unfold out0_A_9
  frame_out
  simp only [whole_read]
  have e0 : ((View.whole main_v43_0).slice (win0_9.rect t)).emb y = y := by
    idx_vars y
    blk_ext [index9]
  have h0 : (iblk m c 0 t : FVec Ideal S4x128x768 .f32) = (m ((c.tc : Thread nD τ).loc main_arg0)) := funext fun i => by
    rw [eq_ix3 i]
    exact blk0 m c t _ _ _
  have h1 : (iblk m c 1 t : FVec Ideal S128x3072 .f32) = (m ((c.tc : Thread nD τ).loc main_arg1)) := funext fun i => by
    rw [eq_ix2 i]
    exact blk1 m c t _ _
  have h2 : (iblk m c 2 t : FVec Ideal S128x3072 .f32) = (m ((c.tc : Thread nD τ).loc main_arg2)) := funext fun i => by
    rw [eq_ix2 i]
    exact blk2 m c t _ _
  have h3 : ∀ k j n (h : 1024 * (0 : Fin 2).val + n.val < 2048), iblk m c 3 t (ix3 k j ⟨1024 * (0 : Fin 2).val + n.val, h⟩) = blocksB (m ((c.tc : Thread nD τ).loc main_arg3)) (ix3 k j n) := fun k j n h =>
    (congrArg (fun z => iblk m c 3 t (ix3 k j z)) (Fin.ext (Nat.zero_add _))).trans (blk3_re m c t k j n)
  have h3' : ∀ k j n (h : 1024 * (1 : Fin 2).val + n.val < 2048), iblk m c 3 t (ix3 k j ⟨1024 * (1 : Fin 2).val + n.val, h⟩) = blocksB (m ((c.tc : Thread nD τ).loc main_arg4)) (ix3 k j n) := fun k j n h =>
    blk3_im m c t k j n
  have h4 := blk4 m c t
  have h5 := blk5 m c t
  have h6 := blk6 m c t
  have h7 := blk7 m c t
  have h8 := blk8_re m c t
  have h8' := blk8_im m c t
  generalize iblk m c 0 t = x0 at *
  generalize iblk m c 1 t = x1 at *
  generalize iblk m c 2 t = x2 at *
  generalize iblk m c 3 t = x3 at *
  generalize iblk m c 4 t = x4 at *
  generalize iblk m c 5 t = x5 at *
  generalize iblk m c 6 t = x6 at *
  generalize iblk m c 7 t = x7 at *
  generalize iblk m c 8 t = x8 at *
  simp only [next_re, next_im, next1_re, next1_im, next2_re, next2_im, next3_re, next3_im]
  rw [drive3_re, drive3_im, drive2_re, drive2_im, drive1_re, drive1_im, drive0_re, drive0_im]
  subst h0 h1 h2
  simp only [tile_back0, tile_back1, tile_back2, mixed0, mixed1, mixed2, mixed3]
  have hc := chain_at (View.ld x8 (Rect.unit (s := S2x3072) ![0, 0] ![1, 3072] inb_S2x3072_S1x3072_0_0)) (View.ld x8 (Rect.unit (s := S2x3072) ![1, 0] ![1, 3072] inb_S2x3072_S1x3072_1_0)) (m ((c.tc : Thread nD τ).loc main_arg5)) (m ((c.tc : Thread nD τ).loc main_arg6)) (m ((c.tc : Thread nD τ).loc main_arg1)) (m ((c.tc : Thread nD τ).loc main_arg2)) (m ((c.tc : Thread nD τ).loc main_arg0)) x3 (m ((c.tc : Thread nD τ).loc main_arg3)) (m ((c.tc : Thread nD τ).loc main_arg4)) (fun n => (load_row x8 0 0 rfl _ n).trans (h8 n)) (fun n => (load_row x8 1 1 rfl _ n).trans (h8' n)) h3 h3'
  refine (times (out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) _ _ _ _ ?_ ?_ ?_ ?_ y).trans (congrArg (out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) e0).symm
  · intro r ch
    refine (mixed_at _ _ _ (statesOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) 1) x4 x5 (m ((c.tc : Thread nD τ).loc main_arg7)) (m ((c.tc : Thread nD τ).loc main_arg8)) _ _ _ _ _ _ _ _ (hc 1).1 (hc 1).2 h4 h5 (fun n j => load_tile x4 0 0 rfl _ n j) (fun n j => load_tile x5 0 0 rfl _ n j) (fun n j => load_tile x4 1 1 rfl _ n j) (fun n j => load_tile x5 1 1 rfl _ n j) (fun n j => load_tile x4 2 2 rfl _ n j) (fun n j => load_tile x5 2 2 rfl _ n j) r ch).trans ?_
    show _ = glu (fun k => gelu (value (statesOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) 1) (fun g q p => (m ((c.tc : Thread nD τ).loc main_arg7)) (ix3 g q p)) (fun g q p => (m ((c.tc : Thread nD τ).loc main_arg8)) (ix3 g q p)) (fun ch => (m ((c.tc : Thread nD τ).loc main_arg9)) (ix1 ch)) (fun r ch => (m ((c.tc : Thread nD τ).loc main_arg0)) (ix3 0 r ch)) r k)) (fun k j => (m ((c.tc : Thread nD τ).loc main_arg10)) (ix2 k j)) ch
    rw [funext h6, funext fun k => funext (h7 k), funext fun r => funext (load_time _ 0 0 rfl _ r)]
  · intro r ch
    refine (mixed_at _ _ _ (statesOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) 2) x4 x5 (m ((c.tc : Thread nD τ).loc main_arg7)) (m ((c.tc : Thread nD τ).loc main_arg8)) _ _ _ _ _ _ _ _ (hc 2).1 (hc 2).2 h4 h5 (fun n j => load_tile x4 0 0 rfl _ n j) (fun n j => load_tile x5 0 0 rfl _ n j) (fun n j => load_tile x4 1 1 rfl _ n j) (fun n j => load_tile x5 1 1 rfl _ n j) (fun n j => load_tile x4 2 2 rfl _ n j) (fun n j => load_tile x5 2 2 rfl _ n j) r ch).trans ?_
    show _ = glu (fun k => gelu (value (statesOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) 2) (fun g q p => (m ((c.tc : Thread nD τ).loc main_arg7)) (ix3 g q p)) (fun g q p => (m ((c.tc : Thread nD τ).loc main_arg8)) (ix3 g q p)) (fun ch => (m ((c.tc : Thread nD τ).loc main_arg9)) (ix1 ch)) (fun r ch => (m ((c.tc : Thread nD τ).loc main_arg0)) (ix3 1 r ch)) r k)) (fun k j => (m ((c.tc : Thread nD τ).loc main_arg10)) (ix2 k j)) ch
    rw [funext h6, funext fun k => funext (h7 k), funext fun r => funext (load_time _ 1 1 rfl _ r)]
  · intro r ch
    refine (mixed_at _ _ _ (statesOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) 3) x4 x5 (m ((c.tc : Thread nD τ).loc main_arg7)) (m ((c.tc : Thread nD τ).loc main_arg8)) _ _ _ _ _ _ _ _ (hc 3).1 (hc 3).2 h4 h5 (fun n j => load_tile x4 0 0 rfl _ n j) (fun n j => load_tile x5 0 0 rfl _ n j) (fun n j => load_tile x4 1 1 rfl _ n j) (fun n j => load_tile x5 1 1 rfl _ n j) (fun n j => load_tile x4 2 2 rfl _ n j) (fun n j => load_tile x5 2 2 rfl _ n j) r ch).trans ?_
    show _ = glu (fun k => gelu (value (statesOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) 3) (fun g q p => (m ((c.tc : Thread nD τ).loc main_arg7)) (ix3 g q p)) (fun g q p => (m ((c.tc : Thread nD τ).loc main_arg8)) (ix3 g q p)) (fun ch => (m ((c.tc : Thread nD τ).loc main_arg9)) (ix1 ch)) (fun r ch => (m ((c.tc : Thread nD τ).loc main_arg0)) (ix3 2 r ch)) r k)) (fun k j => (m ((c.tc : Thread nD τ).loc main_arg10)) (ix2 k j)) ch
    rw [funext h6, funext fun k => funext (h7 k), funext fun r => funext (load_time _ 2 2 rfl _ r)]
  · intro r ch
    refine (mixed_at _ _ _ (statesOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) 4) x4 x5 (m ((c.tc : Thread nD τ).loc main_arg7)) (m ((c.tc : Thread nD τ).loc main_arg8)) _ _ _ _ _ _ _ _ (hc 4).1 (hc 4).2 h4 h5 (fun n j => load_tile x4 0 0 rfl _ n j) (fun n j => load_tile x5 0 0 rfl _ n j) (fun n j => load_tile x4 1 1 rfl _ n j) (fun n j => load_tile x5 1 1 rfl _ n j) (fun n j => load_tile x4 2 2 rfl _ n j) (fun n j => load_tile x5 2 2 rfl _ n j) r ch).trans ?_
    show _ = glu (fun k => gelu (value (statesOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) 4) (fun g q p => (m ((c.tc : Thread nD τ).loc main_arg7)) (ix3 g q p)) (fun g q p => (m ((c.tc : Thread nD τ).loc main_arg8)) (ix3 g q p)) (fun ch => (m ((c.tc : Thread nD τ).loc main_arg9)) (ix1 ch)) (fun r ch => (m ((c.tc : Thread nD τ).loc main_arg0)) (ix3 3 r ch)) r k)) (fun k j => (m ((c.tc : Thread nD τ).loc main_arg10)) (ix2 k j)) ch
    rw [funext h6, funext fun k => funext (h7 k), funext fun r => funext (load_time _ 3 3 rfl _ r)]

set_option maxHeartbeats 4000000 in
/-- Window 10's result. -/
theorem final10 (c : Dev nD) : (dats m 0 c).arrAt 10 cfg0.N = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 10 _ (by decide +kernel) fun t hf y => ?_
  blk_simp
  rw [after0_10]
  unfold outsAt0
  unfold out0_A_10
  frame_out
  simp only [whole_read]
  have e0 : ((View.whole main_v43_1).slice (win0_10.rect t)).emb y = y := by
    idx_vars y
    blk_ext [index10]
  have h0 : (iblk m c 0 t : FVec Ideal S4x128x768 .f32) = (m ((c.tc : Thread nD τ).loc main_arg0)) := funext fun i => by
    rw [eq_ix3 i]
    exact blk0 m c t _ _ _
  have h1 : (iblk m c 1 t : FVec Ideal S128x3072 .f32) = (m ((c.tc : Thread nD τ).loc main_arg1)) := funext fun i => by
    rw [eq_ix2 i]
    exact blk1 m c t _ _
  have h2 : (iblk m c 2 t : FVec Ideal S128x3072 .f32) = (m ((c.tc : Thread nD τ).loc main_arg2)) := funext fun i => by
    rw [eq_ix2 i]
    exact blk2 m c t _ _
  have h3 : ∀ k j n (h : 1024 * (0 : Fin 2).val + n.val < 2048), iblk m c 3 t (ix3 k j ⟨1024 * (0 : Fin 2).val + n.val, h⟩) = blocksB (m ((c.tc : Thread nD τ).loc main_arg3)) (ix3 k j n) := fun k j n h =>
    (congrArg (fun z => iblk m c 3 t (ix3 k j z)) (Fin.ext (Nat.zero_add _))).trans (blk3_re m c t k j n)
  have h3' : ∀ k j n (h : 1024 * (1 : Fin 2).val + n.val < 2048), iblk m c 3 t (ix3 k j ⟨1024 * (1 : Fin 2).val + n.val, h⟩) = blocksB (m ((c.tc : Thread nD τ).loc main_arg4)) (ix3 k j n) := fun k j n h =>
    blk3_im m c t k j n
  have h4 := blk4 m c t
  have h5 := blk5 m c t
  have h6 := blk6 m c t
  have h7 := blk7 m c t
  have h8 := blk8_re m c t
  have h8' := blk8_im m c t
  generalize iblk m c 0 t = x0 at *
  generalize iblk m c 1 t = x1 at *
  generalize iblk m c 2 t = x2 at *
  generalize iblk m c 3 t = x3 at *
  generalize iblk m c 4 t = x4 at *
  generalize iblk m c 5 t = x5 at *
  generalize iblk m c 6 t = x6 at *
  generalize iblk m c 7 t = x7 at *
  generalize iblk m c 8 t = x8 at *
  simp only [next_re, next_im, next1_re, next1_im, next2_re, next2_im, next3_re, next3_im]
  rw [drive3_re, drive2_re, drive2_im, drive1_re, drive1_im, drive0_re, drive0_im]
  refine Eq.trans ?_ (congrArg (out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) e0).symm
  subst h0 h1 h2
  rw [eq_ix2 y]
  exact (chain_at (View.ld x8 (Rect.unit (s := S2x3072) ![0, 0] ![1, 3072] inb_S2x3072_S1x3072_0_0)) (View.ld x8 (Rect.unit (s := S2x3072) ![1, 0] ![1, 3072] inb_S2x3072_S1x3072_1_0)) (m ((c.tc : Thread nD τ).loc main_arg5)) (m ((c.tc : Thread nD τ).loc main_arg6)) (m ((c.tc : Thread nD τ).loc main_arg1)) (m ((c.tc : Thread nD τ).loc main_arg2)) (m ((c.tc : Thread nD τ).loc main_arg0)) x3 (m ((c.tc : Thread nD τ).loc main_arg3)) (m ((c.tc : Thread nD τ).loc main_arg4)) (fun n => (load_row x8 0 0 rfl _ n).trans (h8 n)) (fun n => (load_row x8 1 1 rfl _ n).trans (h8' n)) h3 h3' 4).1 _ _

set_option maxHeartbeats 4000000 in
/-- Window 11's result. -/
theorem final11 (c : Dev nD) : (dats m 0 c).arrAt 11 cfg0.N = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 11 _ (by decide +kernel) fun t hf y => ?_
  blk_simp
  rw [after0_11]
  unfold outsAt0
  unfold out0_A_11
  frame_out
  simp only [whole_read]
  have e0 : ((View.whole main_v43_2).slice (win0_11.rect t)).emb y = y := by
    idx_vars y
    blk_ext [index11]
  have h0 : (iblk m c 0 t : FVec Ideal S4x128x768 .f32) = (m ((c.tc : Thread nD τ).loc main_arg0)) := funext fun i => by
    rw [eq_ix3 i]
    exact blk0 m c t _ _ _
  have h1 : (iblk m c 1 t : FVec Ideal S128x3072 .f32) = (m ((c.tc : Thread nD τ).loc main_arg1)) := funext fun i => by
    rw [eq_ix2 i]
    exact blk1 m c t _ _
  have h2 : (iblk m c 2 t : FVec Ideal S128x3072 .f32) = (m ((c.tc : Thread nD τ).loc main_arg2)) := funext fun i => by
    rw [eq_ix2 i]
    exact blk2 m c t _ _
  have h3 : ∀ k j n (h : 1024 * (0 : Fin 2).val + n.val < 2048), iblk m c 3 t (ix3 k j ⟨1024 * (0 : Fin 2).val + n.val, h⟩) = blocksB (m ((c.tc : Thread nD τ).loc main_arg3)) (ix3 k j n) := fun k j n h =>
    (congrArg (fun z => iblk m c 3 t (ix3 k j z)) (Fin.ext (Nat.zero_add _))).trans (blk3_re m c t k j n)
  have h3' : ∀ k j n (h : 1024 * (1 : Fin 2).val + n.val < 2048), iblk m c 3 t (ix3 k j ⟨1024 * (1 : Fin 2).val + n.val, h⟩) = blocksB (m ((c.tc : Thread nD τ).loc main_arg4)) (ix3 k j n) := fun k j n h =>
    blk3_im m c t k j n
  have h4 := blk4 m c t
  have h5 := blk5 m c t
  have h6 := blk6 m c t
  have h7 := blk7 m c t
  have h8 := blk8_re m c t
  have h8' := blk8_im m c t
  generalize iblk m c 0 t = x0 at *
  generalize iblk m c 1 t = x1 at *
  generalize iblk m c 2 t = x2 at *
  generalize iblk m c 3 t = x3 at *
  generalize iblk m c 4 t = x4 at *
  generalize iblk m c 5 t = x5 at *
  generalize iblk m c 6 t = x6 at *
  generalize iblk m c 7 t = x7 at *
  generalize iblk m c 8 t = x8 at *
  simp only [next_re, next_im, next1_re, next1_im, next2_re, next2_im, next3_re, next3_im]
  rw [drive3_im, drive2_re, drive2_im, drive1_re, drive1_im, drive0_re, drive0_im]
  refine Eq.trans ?_ (congrArg (out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) e0).symm
  subst h0 h1 h2
  rw [eq_ix2 y]
  exact (chain_at (View.ld x8 (Rect.unit (s := S2x3072) ![0, 0] ![1, 3072] inb_S2x3072_S1x3072_0_0)) (View.ld x8 (Rect.unit (s := S2x3072) ![1, 0] ![1, 3072] inb_S2x3072_S1x3072_1_0)) (m ((c.tc : Thread nD τ).loc main_arg5)) (m ((c.tc : Thread nD τ).loc main_arg6)) (m ((c.tc : Thread nD τ).loc main_arg1)) (m ((c.tc : Thread nD τ).loc main_arg2)) (m ((c.tc : Thread nD τ).loc main_arg0)) x3 (m ((c.tc : Thread nD τ).loc main_arg3)) (m ((c.tc : Thread nD τ).loc main_arg4)) (fun n => (load_row x8 0 0 rfl _ n).trans (h8 n)) (fun n => (load_row x8 1 1 rfl _ n).trans (h8' n)) h3 h3' 4).2 _ _

/-- The kernel runs and leaves the three functions of its arguments. -/
theorem run : θ_run defs (onTc (τ := τ) (main (F := Ideal))) ⟨m, fun _ => 0, ρ⟩ fun r => ∀ c : Dev nD,
      r.2.mem ((c.tc : Thread nD τ).loc main_v43_0) = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v43_1) = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v43_2) = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (final9 m c), (h c).2.1.trans (final10 m c), (h c).2.2.1.trans (final11 m c), (h c).2.2.2⟩) (Value.run_blocks m ρ)

end Cert.S5Ideal.Read

end
-- ==== Proof.S5Ref.lean ====
/-
  What the plain recurrent mixer computes: its states after each step, their read-out and the gated projection.
-/
module

public import proofs.«01_k».proof.Proof.Gen.S5RefIdeal.Run
public import proofs.«01_k».proof.Proof.S5Spec

@[expose] public section

set_option maxRecDepth 16384

noncomputable section

open Idealize.ShloMosaic Idealize.ShloMosaic.TcCoe Idealize.SL.Sem
open Idealize.ShloMosaic.StableHlo

namespace Cert.S5RefIdeal.Read

open Cert.S5RefIdeal Cert.S5RefIdeal.Gen Cert.S5RefIdeal.Value Cert.Rows Cert.Mixer

/-- The states after `k` steps, from the arguments. -/
def statesOf (x0 : FVec Ideal S4x128x768 .f32) (x1 x2 : FVec Ideal S128x3072 .f32) (x3 x4 : FVec Ideal S768x64 .f32) (x5 x6 : FVec Ideal S1x3072 .f32) (k : ℕ) : States × States :=
  states (fun t r ch => x0 (ix3 t r ch)) (fun r n => x1 (ix2 r n)) (fun r n => x2 (ix2 r n)) (fun k p => x3 (ix2 k p)) (fun k p => x4 (ix2 k p)) (fun n => x5 (ix2 0 n)) (fun n => x6 (ix2 0 n)) k

/-- The mixer's result for every row at every time. -/
def out0 (x0 : FVec Ideal S4x128x768 .f32) (x1 x2 : FVec Ideal S128x3072 .f32) (x3 x4 : FVec Ideal S768x64 .f32) (x5 x6 : FVec Ideal S1x3072 .f32)
    (x7 x8 : FVec Ideal S48x16x64 .f32) (x9 : FVec Ideal S768 .f32) (x10 : FVec Ideal S768x1536 .f32) : FVec Ideal S4x128x768 .f32 := fun i =>
  glu (fun k => gelu (value (statesOf x0 x1 x2 x3 x4 x5 x6 ((i 0).val + 1)) (fun g c p => x7 (ix3 g c p)) (fun g c p => x8 (ix3 g c p)) (fun ch => x9 (ix1 ch)) (fun r ch => x0 (ix3 (i 0) r ch)) (i 1) k))
    (fun k j => x10 (ix2 k j)) (i 2)

/-- The states after the last step: real parts, imaginary parts. -/
def out1 (x0 : FVec Ideal S4x128x768 .f32) (x1 x2 : FVec Ideal S128x3072 .f32) (x3 x4 : FVec Ideal S768x64 .f32) (x5 x6 : FVec Ideal S1x3072 .f32) : FVec Ideal S128x3072 .f32 := fun i =>
  (statesOf x0 x1 x2 x3 x4 x5 x6 4).1 (i 0) (laneGroup (i 1)) (lanePart (i 1))
def out2 (x0 : FVec Ideal S4x128x768 .f32) (x1 x2 : FVec Ideal S128x3072 .f32) (x3 x4 : FVec Ideal S768x64 .f32) (x5 x6 : FVec Ideal S1x3072 .f32) : FVec Ideal S128x3072 .f32 := fun i =>
  (statesOf x0 x1 x2 x3 x4 x5 x6 4).2 (i 0) (laneGroup (i 1)) (lanePart (i 1))

variable (V0 : Valuation τ sig (Elt Ideal))

/-- The arguments. -/
abbrev a0 : FVec Ideal S4x128x768 .f32 := V0 (Proc.devRef .tc main_arg0)
abbrev a1 : FVec Ideal S128x3072 .f32 := V0 (Proc.devRef .tc main_arg1)
abbrev a2 : FVec Ideal S128x3072 .f32 := V0 (Proc.devRef .tc main_arg2)
abbrev a3 : FVec Ideal S768x64 .f32 := V0 (Proc.devRef .tc main_arg3)
abbrev a4 : FVec Ideal S768x64 .f32 := V0 (Proc.devRef .tc main_arg4)
abbrev a5 : FVec Ideal S1x3072 .f32 := V0 (Proc.devRef .tc main_arg5)
abbrev a6 : FVec Ideal S1x3072 .f32 := V0 (Proc.devRef .tc main_arg6)
abbrev a7 : FVec Ideal S48x16x64 .f32 := V0 (Proc.devRef .tc main_arg7)
abbrev a8 : FVec Ideal S48x16x64 .f32 := V0 (Proc.devRef .tc main_arg8)
abbrev a9 : FVec Ideal S768 .f32 := V0 (Proc.devRef .tc main_arg9)
abbrev a10 : FVec Ideal S768x1536 .f32 := V0 (Proc.devRef .tc main_arg10)

/-- The states after `k` steps, of these arguments. -/
abbrev sts (k : ℕ) : States × States := statesOf (a0 V0) (a1 V0) (a2 V0) (a3 V0) (a4 V0) (a5 V0) (a6 V0) k

/-- A group's input weights, and an input row by groups. -/
theorem input_row (x : FVec Ideal S4x128x768 .f32) (t : Fin 4) (r : Fin 128) (g : Fin 48) (c : Fin 16) :
    shapeCast S4x128x48x16 x shapeCasts_S4x128x768_S4x128x48x16 (ix4 t r g c) = x (ix3 t r (chan g c)) := by
  pointwise [chan]

/-- The drive of the real parts. -/
theorem drive_re (t : Fin 4) (r : Fin 128) (g : Fin 48) (p : Fin 64) :
    (res_main_v5 (F := Ideal) V0 : FVec Ideal S4x128x48x64 .f32) (ix4 t r g p) = drive (fun r ch => a0 V0 (ix3 t r ch)) (fun k p => a3 V0 (ix2 k p)) r g p := by
  pointwise [res_main_v5, res_main_v0, drive, chan]
  exact Finset.sum_congr (M := EReal) rfl fun _ _ => mul_comm (G := EReal) _ _

/-- The drive of the imaginary parts. -/
theorem drive_im (t : Fin 4) (r : Fin 128) (g : Fin 48) (p : Fin 64) :
    (res_main_v8 (F := Ideal) V0 : FVec Ideal S4x128x48x64 .f32) (ix4 t r g p) = drive (fun r ch => a0 V0 (ix3 t r ch)) (fun k p => a4 V0 (ix2 k p)) r g p := by
  pointwise [res_main_v8, res_main_v0, drive, chan]
  exact Finset.sum_congr (M := EReal) rfl fun _ _ => mul_comm (G := EReal) _ _

/-- The states before the first step. -/
theorem state0_re (r : Fin 128) (g : Fin 48) (p : Fin 64) : (res_main_v9 (F := Ideal) V0 : FVec Ideal S128x48x64 .f32) (ix3 r g p) = (sts V0 0).1 r g p := by
  pointwise [res_main_v9]
  rfl
theorem state0_im (r : Fin 128) (g : Fin 48) (p : Fin 64) : (res_main_v10 (F := Ideal) V0 : FVec Ideal S128x48x64 .f32) (ix3 r g p) = (sts V0 0).2 r g p := by
  pointwise [res_main_v10]
  rfl

/-- The real parts after step 1. -/
theorem state1_re (r : Fin 128) (g : Fin 48) (p : Fin 64) : (res_main_v20 (F := Ideal) V0 : FVec Ideal S128x48x64 .f32) (ix3 r g p) = (sts V0 1).1 r g p := by
  pointwise [res_main_v20, res_main_v1, res_main_v2]
  rw [state0_re, state0_im, drive_re]
  rfl

/-- The imaginary parts after step 1. -/
theorem state1_im (r : Fin 128) (g : Fin 48) (p : Fin 64) : (res_main_v30 (F := Ideal) V0 : FVec Ideal S128x48x64 .f32) (ix3 r g p) = (sts V0 1).2 r g p := by
  pointwise [res_main_v30, res_main_v1, res_main_v2]
  rw [state0_re, state0_im, drive_im]
  rfl

/-- The real parts after step 2. -/
theorem state2_re (r : Fin 128) (g : Fin 48) (p : Fin 64) : (res_main_v76 (F := Ideal) V0 : FVec Ideal S128x48x64 .f32) (ix3 r g p) = (sts V0 2).1 r g p := by
  pointwise [res_main_v76, res_main_v1, res_main_v2]
  rw [state1_re, state1_im, drive_re]
  rfl

/-- The imaginary parts after step 2. -/
theorem state2_im (r : Fin 128) (g : Fin 48) (p : Fin 64) : (res_main_v86 (F := Ideal) V0 : FVec Ideal S128x48x64 .f32) (ix3 r g p) = (sts V0 2).2 r g p := by
  pointwise [res_main_v86, res_main_v1, res_main_v2]
  rw [state1_re, state1_im, drive_im]
  rfl

/-- The real parts after step 3. -/
theorem state3_re (r : Fin 128) (g : Fin 48) (p : Fin 64) : (res_main_v132 (F := Ideal) V0 : FVec Ideal S128x48x64 .f32) (ix3 r g p) = (sts V0 3).1 r g p := by
  pointwise [res_main_v132, res_main_v1, res_main_v2]
  rw [state2_re, state2_im, drive_re]
  rfl

/-- The imaginary parts after step 3. -/
theorem state3_im (r : Fin 128) (g : Fin 48) (p : Fin 64) : (res_main_v142 (F := Ideal) V0 : FVec Ideal S128x48x64 .f32) (ix3 r g p) = (sts V0 3).2 r g p := by
  pointwise [res_main_v142, res_main_v1, res_main_v2]
  rw [state2_re, state2_im, drive_im]
  rfl

/-- The real parts after step 4. -/
theorem state4_re (r : Fin 128) (g : Fin 48) (p : Fin 64) : (res_main_v188 (F := Ideal) V0 : FVec Ideal S128x48x64 .f32) (ix3 r g p) = (sts V0 4).1 r g p := by
  pointwise [res_main_v188, res_main_v1, res_main_v2]
  rw [state3_re, state3_im, drive_re]
  rfl

/-- The imaginary parts after step 4. -/
theorem state4_im (r : Fin 128) (g : Fin 48) (p : Fin 64) : (res_main_v198 (F := Ideal) V0 : FVec Ideal S128x48x64 .f32) (ix3 r g p) = (sts V0 4).2 r g p := by
  pointwise [res_main_v198, res_main_v1, res_main_v2]
  rw [state3_re, state3_im, drive_im]
  rfl

/-- The gate with its cube written the other way. -/
theorem gelu_cube (y : EReal) : gelu y = y * (Ideal.ofBits .f32 0x3F000000#32 * (1 + Ideal.tanh (Ideal.ofBits .f32 0x3F4C422A#32 * (y + Ideal.ofBits .f32 0x3D372713#32 * (y * y * y))))) := by
  unfold gelu
  rw [mul_comm (y * y) y]

/-- A sum over the channels. -/
def sumE (f : Fin 768 → EReal) : EReal := ∑ k, f k

/-- The four times' results on top of one another. -/
def result : FVec Ideal S4x128x768 .f32 := (concatenate S4x128x768 0 [⟨S1x128x768, ((broadcastInDim S1x128x768 ![1, 2] bcast_S128x768_S1x128x768_1_2 (mulf (extractStridedSlice S128x768 ![0, 0] (res_main_v57 (V0)) slices_S128x1536_S128x768_0_0) (Host.divf (broadcastInDim S128x768 ![] bcast_S_S128x768 (constant S_ .f32 0x3F800000#32)) (addf (broadcastInDim S128x768 ![] bcast_S_S128x768 (constant S_ .f32 0x3F800000#32)) (Host.exp (Host.negf (extractStridedSlice S128x768 ![0, 768] (res_main_v57 (V0)) slices_S128x1536_S128x768_0_768))))))) : (⟨S1x128x768, .f32⟩ : BufTy).Contents (Elt Ideal))⟩, ⟨S1x128x768, ((broadcastInDim S1x128x768 ![1, 2] bcast_S128x768_S1x128x768_1_2 (mulf (extractStridedSlice S128x768 ![0, 0] (res_main_v113 (V0)) slices_S128x1536_S128x768_0_0) (Host.divf (broadcastInDim S128x768 ![] bcast_S_S128x768 (constant S_ .f32 0x3F800000#32)) (addf (broadcastInDim S128x768 ![] bcast_S_S128x768 (constant S_ .f32 0x3F800000#32)) (Host.exp (Host.negf (extractStridedSlice S128x768 ![0, 768] (res_main_v113 (V0)) slices_S128x1536_S128x768_0_768))))))) : (⟨S1x128x768, .f32⟩ : BufTy).Contents (Elt Ideal))⟩, ⟨S1x128x768, ((broadcastInDim S1x128x768 ![1, 2] bcast_S128x768_S1x128x768_1_2 (mulf (extractStridedSlice S128x768 ![0, 0] (res_main_v169 (V0)) slices_S128x1536_S128x768_0_0) (Host.divf (broadcastInDim S128x768 ![] bcast_S_S128x768 (constant S_ .f32 0x3F800000#32)) (addf (broadcastInDim S128x768 ![] bcast_S_S128x768 (constant S_ .f32 0x3F800000#32)) (Host.exp (Host.negf (extractStridedSlice S128x768 ![0, 768] (res_main_v169 (V0)) slices_S128x1536_S128x768_0_768))))))) : (⟨S1x128x768, .f32⟩ : BufTy).Contents (Elt Ideal))⟩, ⟨S1x128x768, ((broadcastInDim S1x128x768 ![1, 2] bcast_S128x768_S1x128x768_1_2 (mulf (extractStridedSlice S128x768 ![0, 0] (res_main_v225 (V0)) slices_S128x1536_S128x768_0_0) (Host.divf (broadcastInDim S128x768 ![] bcast_S_S128x768 (constant S_ .f32 0x3F800000#32)) (addf (broadcastInDim S128x768 ![] bcast_S_S128x768 (constant S_ .f32 0x3F800000#32)) (Host.exp (Host.negf (extractStridedSlice S128x768 ![0, 768] (res_main_v225 (V0)) slices_S128x1536_S128x768_0_768))))))) : (⟨S1x128x768, .f32⟩ : BufTy).Contents (Elt Ideal))⟩] concatenates_S1x128x768_S1x128x768_S1x128x768_S1x128x768_S4x128x768_d0 : (⟨S4x128x768, .f32⟩ : BufTy).Contents (Elt Ideal))

/-- The values read out after step 1. -/
theorem value1 (r : Fin 128) (ch : Fin 768) : (res_main_v43 (F := Ideal) V0 : FVec Ideal S128x768 .f32) (ix2 r ch)
    = value (sts V0 1) (fun g c p => a7 V0 (ix3 g c p)) (fun g c p => a8 V0 (ix3 g c p)) (fun ch => a9 V0 (ix1 ch)) (fun r ch => a0 V0 (ix3 0 r ch)) r ch := by
  pointwise [res_main_v43, res_main_v0]
  simp only [state1_re, state1_im]
  exact congrArg₂ (fun a b : EReal => a + b) (congrArg₂ (fun a b : EReal => a - b) (Finset.sum_congr rfl fun _ _ => mul_comm (G := EReal) _ _) (Finset.sum_congr rfl fun _ _ => mul_comm (G := EReal) _ _)) rfl

/-- Their gated values times the weights. -/
theorem gated1 (r : Fin 128) (j : Fin 1536) : (res_main_v57 (F := Ideal) V0 : FVec Ideal S128x1536 .f32) (ix2 r j)
    = sumE fun k => gelu (value (sts V0 1) (fun g c p => a7 V0 (ix3 g c p)) (fun g c p => a8 V0 (ix3 g c p)) (fun ch => a9 V0 (ix1 ch)) (fun r ch => a0 V0 (ix3 0 r ch)) r k) * a10 V0 (ix2 k j) := by
  unfold sumE
  pointwise [res_main_v57]
  simp only [value1]
  exact Finset.sum_congr (M := EReal) rfl fun _ _ => congrArg (fun y : EReal => y * _) (gelu_cube _).symm

/-- The result at time 0. -/
theorem result0 (r : Fin 128) (ch : Fin 768) : result V0 (ix3 0 r ch) = out0 (a0 V0) (a1 V0) (a2 V0) (a3 V0) (a4 V0) (a5 V0) (a6 V0) (a7 V0) (a8 V0) (a9 V0) (a10 V0) (ix3 0 r ch) := by
  unfold result
  pointwise []
  simp only [gated1]
  rfl

/-- The values read out after step 2. -/
theorem value2 (r : Fin 128) (ch : Fin 768) : (res_main_v99 (F := Ideal) V0 : FVec Ideal S128x768 .f32) (ix2 r ch)
    = value (sts V0 2) (fun g c p => a7 V0 (ix3 g c p)) (fun g c p => a8 V0 (ix3 g c p)) (fun ch => a9 V0 (ix1 ch)) (fun r ch => a0 V0 (ix3 1 r ch)) r ch := by
  pointwise [res_main_v99, res_main_v0]
  simp only [state2_re, state2_im]
  exact congrArg₂ (fun a b : EReal => a + b) (congrArg₂ (fun a b : EReal => a - b) (Finset.sum_congr rfl fun _ _ => mul_comm (G := EReal) _ _) (Finset.sum_congr rfl fun _ _ => mul_comm (G := EReal) _ _)) rfl

/-- Their gated values times the weights. -/
theorem gated2 (r : Fin 128) (j : Fin 1536) : (res_main_v113 (F := Ideal) V0 : FVec Ideal S128x1536 .f32) (ix2 r j)
    = sumE fun k => gelu (value (sts V0 2) (fun g c p => a7 V0 (ix3 g c p)) (fun g c p => a8 V0 (ix3 g c p)) (fun ch => a9 V0 (ix1 ch)) (fun r ch => a0 V0 (ix3 1 r ch)) r k) * a10 V0 (ix2 k j) := by
  unfold sumE
  pointwise [res_main_v113]
  simp only [value2]
  exact Finset.sum_congr (M := EReal) rfl fun _ _ => congrArg (fun y : EReal => y * _) (gelu_cube _).symm

/-- The result at time 1. -/
theorem result1 (r : Fin 128) (ch : Fin 768) : result V0 (ix3 1 r ch) = out0 (a0 V0) (a1 V0) (a2 V0) (a3 V0) (a4 V0) (a5 V0) (a6 V0) (a7 V0) (a8 V0) (a9 V0) (a10 V0) (ix3 1 r ch) := by
  unfold result
  pointwise []
  simp only [gated2]
  rfl

/-- The values read out after step 3. -/
theorem value3 (r : Fin 128) (ch : Fin 768) : (res_main_v155 (F := Ideal) V0 : FVec Ideal S128x768 .f32) (ix2 r ch)
    = value (sts V0 3) (fun g c p => a7 V0 (ix3 g c p)) (fun g c p => a8 V0 (ix3 g c p)) (fun ch => a9 V0 (ix1 ch)) (fun r ch => a0 V0 (ix3 2 r ch)) r ch := by
  pointwise [res_main_v155, res_main_v0]
  simp only [state3_re, state3_im]
  exact congrArg₂ (fun a b : EReal => a + b) (congrArg₂ (fun a b : EReal => a - b) (Finset.sum_congr rfl fun _ _ => mul_comm (G := EReal) _ _) (Finset.sum_congr rfl fun _ _ => mul_comm (G := EReal) _ _)) rfl

/-- Their gated values times the weights. -/
theorem gated3 (r : Fin 128) (j : Fin 1536) : (res_main_v169 (F := Ideal) V0 : FVec Ideal S128x1536 .f32) (ix2 r j)
    = sumE fun k => gelu (value (sts V0 3) (fun g c p => a7 V0 (ix3 g c p)) (fun g c p => a8 V0 (ix3 g c p)) (fun ch => a9 V0 (ix1 ch)) (fun r ch => a0 V0 (ix3 2 r ch)) r k) * a10 V0 (ix2 k j) := by
  unfold sumE
  pointwise [res_main_v169]
  simp only [value3]
  exact Finset.sum_congr (M := EReal) rfl fun _ _ => congrArg (fun y : EReal => y * _) (gelu_cube _).symm

/-- The result at time 2. -/
theorem result2 (r : Fin 128) (ch : Fin 768) : result V0 (ix3 2 r ch) = out0 (a0 V0) (a1 V0) (a2 V0) (a3 V0) (a4 V0) (a5 V0) (a6 V0) (a7 V0) (a8 V0) (a9 V0) (a10 V0) (ix3 2 r ch) := by
  unfold result
  pointwise []
  simp only [gated3]
  rfl

/-- The values read out after step 4. -/
theorem value4 (r : Fin 128) (ch : Fin 768) : (res_main_v211 (F := Ideal) V0 : FVec Ideal S128x768 .f32) (ix2 r ch)
    = value (sts V0 4) (fun g c p => a7 V0 (ix3 g c p)) (fun g c p => a8 V0 (ix3 g c p)) (fun ch => a9 V0 (ix1 ch)) (fun r ch => a0 V0 (ix3 3 r ch)) r ch := by
  pointwise [res_main_v211, res_main_v0]
  simp only [state4_re, state4_im]
  exact congrArg₂ (fun a b : EReal => a + b) (congrArg₂ (fun a b : EReal => a - b) (Finset.sum_congr rfl fun _ _ => mul_comm (G := EReal) _ _) (Finset.sum_congr rfl fun _ _ => mul_comm (G := EReal) _ _)) rfl

/-- Their gated values times the weights. -/
theorem gated4 (r : Fin 128) (j : Fin 1536) : (res_main_v225 (F := Ideal) V0 : FVec Ideal S128x1536 .f32) (ix2 r j)
    = sumE fun k => gelu (value (sts V0 4) (fun g c p => a7 V0 (ix3 g c p)) (fun g c p => a8 V0 (ix3 g c p)) (fun ch => a9 V0 (ix1 ch)) (fun r ch => a0 V0 (ix3 3 r ch)) r k) * a10 V0 (ix2 k j) := by
  unfold sumE
  pointwise [res_main_v225]
  simp only [value4]
  exact Finset.sum_congr (M := EReal) rfl fun _ _ => congrArg (fun y : EReal => y * _) (gelu_cube _).symm

/-- The result at time 3. -/
theorem result3 (r : Fin 128) (ch : Fin 768) : result V0 (ix3 3 r ch) = out0 (a0 V0) (a1 V0) (a2 V0) (a3 V0) (a4 V0) (a5 V0) (a6 V0) (a7 V0) (a8 V0) (a9 V0) (a10 V0) (ix3 3 r ch) := by
  unfold result
  pointwise []
  simp only [gated4]
  rfl

/-- The result, at every time. -/
theorem result_eq : result V0 = out0 (a0 V0) (a1 V0) (a2 V0) (a3 V0) (a4 V0) (a5 V0) (a6 V0) (a7 V0) (a8 V0) (a9 V0) (a10 V0) := by
  funext i
  rw [eq_ix3 i]
  have h (t : Fin 4) : ∀ (r : Fin 128) (ch : Fin 768), result V0 (ix3 t r ch) = out0 (a0 V0) (a1 V0) (a2 V0) (a3 V0) (a4 V0) (a5 V0) (a6 V0) (a7 V0) (a8 V0) (a9 V0) (a10 V0) (ix3 t r ch) := by
    fin_cases t
    · exact result0 V0
    · exact result1 V0
    · exact result2 V0
    · exact result3 V0
  exact h (i 0) (i 1) (i 2)

/-- The last states, laid out in rows. -/
theorem last_re : shapeCast S128x3072 (res_main_v188 (F := Ideal) V0) shapeCasts_S128x48x64_S128x3072 = out1 (a0 V0) (a1 V0) (a2 V0) (a3 V0) (a4 V0) (a5 V0) (a6 V0) := by
  funext i
  idx_vars i
  pointwise []
  rw [state4_re]
  rfl
theorem last_im : shapeCast S128x3072 (res_main_v198 (F := Ideal) V0) shapeCasts_S128x48x64_S128x3072 = out2 (a0 V0) (a1 V0) (a2 V0) (a3 V0) (a4 V0) (a5 V0) (a6 V0) := by
  funext i
  idx_vars i
  pointwise []
  rw [state4_im]
  rfl

/-- Every weak fair run ends with the three results and keeps the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v239) = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v240) = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v241) = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (result_eq (launchContents m c)), (h c).2.1.trans (last_re (launchContents m c)), (h c).2.2.1.trans (last_im (launchContents m c)), (h c).2.2.2⟩) (Value.run m ρ)

end Cert.S5RefIdeal.Read

end
-- ==== Proof.lean ====
/-
  The claims: for each kernel that it runs as printed and idealized, that its plain reference runs, that the idealization
  is the kernel's own, and that kernel and reference leave the same results over the extended reals.
-/
module

public import proofs.«01_k».proof.Defs
public import proofs.«01_k».proof.Proof.Gen.Cross
public import proofs.«01_k».proof.Proof.Gen.Cross.Frame
public import proofs.«01_k».proof.Proof.Gen.CrossIdeal
public import proofs.«01_k».proof.Proof.Gen.CrossIdeal.Frame
public import proofs.«01_k».proof.Proof.Gen.CrossRefIdeal
public import proofs.«01_k».proof.Proof.CrossValue
public import proofs.«01_k».proof.Proof.CrossRef
public import proofs.«01_k».proof.Proof.CrossFinite
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.ProjValue
public import proofs.«01_k».proof.Proof.ProjRef
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.FfnValue
public import proofs.«01_k».proof.Proof.FfnRef
public import proofs.«01_k».proof.Proof.Gen.Kv
public import proofs.«01_k».proof.Proof.Gen.Kv.Frame
public import proofs.«01_k».proof.Proof.Gen.KvIdeal
public import proofs.«01_k».proof.Proof.Gen.KvIdeal.Frame
public import proofs.«01_k».proof.Proof.Gen.KvRefIdeal
public import proofs.«01_k».proof.Proof.KvValue
public import proofs.«01_k».proof.Proof.KvRef
public import proofs.«01_k».proof.Proof.Gen.Last
public import proofs.«01_k».proof.Proof.Gen.Last.Frame
public import proofs.«01_k».proof.Proof.Gen.LastIdeal
public import proofs.«01_k».proof.Proof.Gen.LastIdeal.Frame
public import proofs.«01_k».proof.Proof.Gen.LastRefIdeal
public import proofs.«01_k».proof.Proof.LastValue
public import proofs.«01_k».proof.Proof.LastRef
public import proofs.«01_k».proof.Proof.Gen.FoxS
public import proofs.«01_k».proof.Proof.Gen.FoxS.Frame
public import proofs.«01_k».proof.Proof.Gen.FoxSIdeal
public import proofs.«01_k».proof.Proof.Gen.FoxSIdeal.Frame
public import proofs.«01_k».proof.Proof.Gen.FoxSRefIdeal
public import proofs.«01_k».proof.Proof.FoxSValue
public import proofs.«01_k».proof.Proof.FoxSRef
public import proofs.«01_k».proof.Proof.Gen.S5
public import proofs.«01_k».proof.Proof.Gen.S5.Frame
public import proofs.«01_k».proof.Proof.Gen.S5Ideal
public import proofs.«01_k».proof.Proof.Gen.S5Ideal.Frame
public import proofs.«01_k».proof.Proof.Gen.S5RefIdeal
public import proofs.«01_k».proof.Proof.S5Value
public import proofs.«01_k».proof.Proof.S5Ref
public import Idealize.ShloMosaic.Adequacy
public import Idealize.ShloMosaic.Init

@[expose] public section

noncomputable section

namespace Cert.Proof

open Idealize.ShloMosaic Idealize.ShloMosaic.TcCoe Idealize.SL.Sem

/-- The plain reference of Cross runs to its end and leaves its arguments and every semaphore as they were. -/
theorem cross_ref_frame : quiescent_CrossRefIdeal := fun m ρ _ =>
  (θ_run Cert.CrossRefIdeal.defs _ _).mono (fun r h => ⟨fun c => (h c).2,
    Idealize.ShloMosaic.sem_eq_zero_of_no_sems (by decide) r.2⟩) (Cert.CrossRefIdeal.Read.run m ρ)

/-- From arguments that agree, the kernel Cross and its plain reference leave the same results. -/
theorem cross_algebraic : algebraic_CrossIdeal_CrossRefIdeal_pre_finite_scores (hPre_finite_scores := Cert.CrossIdeal.Read.finite_facts) := fun m ρ m' ρ' hp hag =>
  ⟨fun c => Cert.CrossIdeal.Read.out (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7)) (m ((c.tc : Thread Cert.CrossIdeal.nD Cert.CrossIdeal.τ).loc Cert.CrossIdeal.main_arg8)) (m ((c.tc : Thread Cert.CrossIdeal.nD Cert.CrossIdeal.τ).loc Cert.CrossIdeal.main_arg9)) (m ((c.tc : Thread Cert.CrossIdeal.nD Cert.CrossIdeal.τ).loc Cert.CrossIdeal.main_arg10)),
    (Cert.CrossIdeal.Read.run m ρ (fun c => (Cert.CrossIdeal.Read.all_real m hp c).1) (fun c => (Cert.CrossIdeal.Read.all_real m hp c).2)),
    (θ_run _ _ _).mono (fun _ h c => ⟨(h c).1.trans (by obtain ⟨e0, e1, e2, e3, e4, e5, e6, e7, e8, e9, e10⟩ := hag c; rw [e0, e1, e2, e3, e4, e5, e6, e7, e8, e9, e10]; rfl), (h c).2⟩) (Cert.CrossRefIdeal.Read.run m' ρ')⟩

/-- The plain reference of Proj runs to its end and leaves its arguments and every semaphore as they were. -/
theorem proj_ref_frame : quiescent_ProjRefIdeal := fun m ρ _ =>
  (θ_run Cert.ProjRefIdeal.defs _ _).mono (fun r h => ⟨fun c => (h c).2.2.2,
    Idealize.ShloMosaic.sem_eq_zero_of_no_sems (by decide) r.2⟩) (Cert.ProjRefIdeal.Read.run m ρ)

/-- From arguments that agree, the kernel Proj and its plain reference leave the same results. -/
theorem proj_algebraic : algebraic_ProjIdeal_ProjRefIdeal := fun m ρ m' ρ' _ hag =>
  ⟨fun c => Cert.ProjIdeal.Read.out0 (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)), fun c => Cert.ProjIdeal.Read.out1 (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)), fun c => Cert.ProjIdeal.Read.out2 (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)),
    Cert.ProjIdeal.Read.run m ρ,
    (θ_run _ _ _).mono (fun _ h c => ⟨(h c).1.trans (by obtain ⟨e0, e1, e2, e3, e4, e5, e6⟩ := hag c; rw [e0, e1, e2, e3, e4, e5, e6]; rfl), (h c).2.1.trans (by obtain ⟨e0, e1, e2, e3, e4, e5, e6⟩ := hag c; rw [e0, e1, e2, e3, e4, e5, e6]; rfl), (h c).2.2.1.trans (by obtain ⟨e0, e1, e2, e3, e4, e5, e6⟩ := hag c; rw [e0, e1, e2, e3, e4, e5, e6]; rfl), (h c).2.2.2⟩) (Cert.ProjRefIdeal.Read.run m' ρ')⟩

/-- The plain reference of Ffn runs to its end and leaves its arguments and every semaphore as they were. -/
theorem ffn_ref_frame : quiescent_FfnRefIdeal := fun m ρ _ =>
  (θ_run Cert.FfnRefIdeal.defs _ _).mono (fun r h => ⟨fun c => (h c).2,
    Idealize.ShloMosaic.sem_eq_zero_of_no_sems (by decide) r.2⟩) (Cert.FfnRefIdeal.Read.run m ρ)

/-- From arguments that agree, the kernel Ffn and its plain reference leave the same results. -/
theorem ffn_algebraic : algebraic_FfnIdeal_FfnRefIdeal := fun m ρ m' ρ' _ hag =>
  ⟨fun c => Cert.FfnIdeal.Read.out (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)),
    Cert.FfnIdeal.Read.run m ρ,
    (θ_run _ _ _).mono (fun _ h c => ⟨(h c).1.trans (by obtain ⟨e0, e1, e2, e3, e4⟩ := hag c; rw [e0, e1, e2, e3, e4]; rfl), (h c).2⟩) (Cert.FfnRefIdeal.Read.run m' ρ')⟩

/-- The plain reference of Kv runs to its end and leaves its arguments and every semaphore as they were. -/
theorem kv_ref_frame : quiescent_KvRefIdeal := fun m ρ _ =>
  (θ_run Cert.KvRefIdeal.defs _ _).mono (fun r h => ⟨fun c => (h c).2.2,
    Idealize.ShloMosaic.sem_eq_zero_of_no_sems (by decide) r.2⟩) (Cert.KvRefIdeal.Read.run m ρ)

/-- From arguments that agree, the kernel Kv and its plain reference leave the same results. -/
theorem kv_algebraic : algebraic_KvIdeal_KvRefIdeal := fun m ρ m' ρ' _ hag =>
  ⟨fun c => Cert.KvIdeal.Read.out0 (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)), fun c => Cert.KvIdeal.Read.out1 (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)),
    Cert.KvIdeal.Read.run m ρ,
    (θ_run _ _ _).mono (fun _ h c => ⟨(h c).1.trans (by obtain ⟨e0, e1, e2⟩ := hag c; rw [e0, e1, e2]; rfl), (h c).2.1.trans (by obtain ⟨e0, e1, e2⟩ := hag c; rw [e0, e1, e2]; rfl), (h c).2.2⟩) (Cert.KvRefIdeal.Read.run m' ρ')⟩

/-- The plain reference of Last runs to its end and leaves its arguments and every semaphore as they were. -/
theorem last_ref_frame : quiescent_LastRefIdeal := fun m ρ _ =>
  (θ_run Cert.LastRefIdeal.defs _ _).mono (fun r h => ⟨fun c => (h c).2,
    Idealize.ShloMosaic.sem_eq_zero_of_no_sems (by decide) r.2⟩) (Cert.LastRefIdeal.Read.run m ρ)

/-- From arguments that agree, the kernel Last and its plain reference leave the same results. -/
theorem last_algebraic : algebraic_LastIdeal_LastRefIdeal := fun m ρ m' ρ' _ hag =>
  ⟨fun c => Cert.LastIdeal.Read.out (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)),
    Cert.LastIdeal.Read.run m ρ,
    (θ_run _ _ _).mono (fun _ h c => ⟨(h c).1.trans (by obtain ⟨e0, e1, e2, e3, e4, e5⟩ := hag c; rw [e0, e1, e2, e3, e4, e5]; rfl), (h c).2⟩) (Cert.LastRefIdeal.Read.run m' ρ')⟩

/-- The plain reference of FoxS runs to its end and leaves its arguments and every semaphore as they were. -/
theorem foxs_ref_frame : quiescent_FoxSRefIdeal := fun m ρ _ =>
  (θ_run Cert.FoxSRefIdeal.defs _ _).mono (fun r h => ⟨fun c => (h c).2.2.2.2.2.2,
    Idealize.ShloMosaic.sem_eq_zero_of_no_sems (by decide) r.2⟩) (Cert.FoxSRefIdeal.Read.run m ρ)

/-- From arguments that agree, the kernel FoxS and its plain reference leave the same results. -/
theorem foxs_algebraic : algebraic_FoxSIdeal_FoxSRefIdeal := fun m ρ m' ρ' _ hag =>
  ⟨fun c => Cert.FoxSIdeal.Read.out0 (m ((c.tc : Thread Cert.FoxSIdeal.nD Cert.FoxSIdeal.τ).loc Cert.FoxSIdeal.main_arg0)) (m ((c.tc : Thread Cert.FoxSIdeal.nD Cert.FoxSIdeal.τ).loc Cert.FoxSIdeal.main_arg1)) (m ((c.tc : Thread Cert.FoxSIdeal.nD Cert.FoxSIdeal.τ).loc Cert.FoxSIdeal.main_arg2)), fun c => Cert.FoxSIdeal.Read.out1 (m ((c.tc : Thread Cert.FoxSIdeal.nD Cert.FoxSIdeal.τ).loc Cert.FoxSIdeal.main_arg0)) (m ((c.tc : Thread Cert.FoxSIdeal.nD Cert.FoxSIdeal.τ).loc Cert.FoxSIdeal.main_arg1)) (m ((c.tc : Thread Cert.FoxSIdeal.nD Cert.FoxSIdeal.τ).loc Cert.FoxSIdeal.main_arg2)), fun c => Cert.FoxSIdeal.Read.out2 (m ((c.tc : Thread Cert.FoxSIdeal.nD Cert.FoxSIdeal.τ).loc Cert.FoxSIdeal.main_arg0)) (m ((c.tc : Thread Cert.FoxSIdeal.nD Cert.FoxSIdeal.τ).loc Cert.FoxSIdeal.main_arg1)) (m ((c.tc : Thread Cert.FoxSIdeal.nD Cert.FoxSIdeal.τ).loc Cert.FoxSIdeal.main_arg2)), fun c => Cert.FoxSIdeal.Read.out3 (m ((c.tc : Thread Cert.FoxSIdeal.nD Cert.FoxSIdeal.τ).loc Cert.FoxSIdeal.main_arg0)) (m ((c.tc : Thread Cert.FoxSIdeal.nD Cert.FoxSIdeal.τ).loc Cert.FoxSIdeal.main_arg1)) (m ((c.tc : Thread Cert.FoxSIdeal.nD Cert.FoxSIdeal.τ).loc Cert.FoxSIdeal.main_arg2)), fun c => Cert.FoxSIdeal.Read.out4 (m ((c.tc : Thread Cert.FoxSIdeal.nD Cert.FoxSIdeal.τ).loc Cert.FoxSIdeal.main_arg0)) (m ((c.tc : Thread Cert.FoxSIdeal.nD Cert.FoxSIdeal.τ).loc Cert.FoxSIdeal.main_arg1)) (m ((c.tc : Thread Cert.FoxSIdeal.nD Cert.FoxSIdeal.τ).loc Cert.FoxSIdeal.main_arg2)) (m ((c.tc : Thread Cert.FoxSIdeal.nD Cert.FoxSIdeal.τ).loc Cert.FoxSIdeal.main_arg3)), fun c => Cert.FoxSIdeal.Read.out5 (m ((c.tc : Thread Cert.FoxSIdeal.nD Cert.FoxSIdeal.τ).loc Cert.FoxSIdeal.main_arg0)) (m ((c.tc : Thread Cert.FoxSIdeal.nD Cert.FoxSIdeal.τ).loc Cert.FoxSIdeal.main_arg1)) (m ((c.tc : Thread Cert.FoxSIdeal.nD Cert.FoxSIdeal.τ).loc Cert.FoxSIdeal.main_arg2)) (m ((c.tc : Thread Cert.FoxSIdeal.nD Cert.FoxSIdeal.τ).loc Cert.FoxSIdeal.main_arg3)),
    Cert.FoxSIdeal.Read.run m ρ,
    (θ_run _ _ _).mono (fun _ h c => ⟨(h c).1.trans (by obtain ⟨e0, e1, e2, e3⟩ := hag c; rw [e0, e1, e2]; rfl), (h c).2.1.trans (by obtain ⟨e0, e1, e2, e3⟩ := hag c; rw [e0, e1, e2]; rfl), (h c).2.2.1.trans (by obtain ⟨e0, e1, e2, e3⟩ := hag c; rw [e0, e1, e2]; rfl), (h c).2.2.2.1.trans (by obtain ⟨e0, e1, e2, e3⟩ := hag c; rw [e0, e1, e2]; rfl), (h c).2.2.2.2.1.trans (by obtain ⟨e0, e1, e2, e3⟩ := hag c; rw [e0, e1, e2, e3]; rfl), (h c).2.2.2.2.2.1.trans (by obtain ⟨e0, e1, e2, e3⟩ := hag c; rw [e0, e1, e2, e3]; rfl), (h c).2.2.2.2.2.2⟩) (Cert.FoxSRefIdeal.Read.run m' ρ')⟩

/-- The plain reference of S5 runs to its end and leaves its arguments and every semaphore as they were. -/
theorem s5_ref_frame : quiescent_S5RefIdeal := fun m ρ _ =>
  (θ_run Cert.S5RefIdeal.defs _ _).mono (fun r h => ⟨fun c => (h c).2.2.2,
    Idealize.ShloMosaic.sem_eq_zero_of_no_sems (by decide) r.2⟩) (Cert.S5RefIdeal.Read.run m ρ)

/-- From arguments that agree, the kernel S5 and its plain reference leave the same results. -/
theorem s5_algebraic : algebraic_S5Ideal_S5RefIdeal := fun m ρ m' ρ' _ hag =>
  ⟨fun c => Cert.S5Ideal.Read.out0 (m ((c.tc : Thread Cert.S5Ideal.nD Cert.S5Ideal.τ).loc Cert.S5Ideal.main_arg0)) (m ((c.tc : Thread Cert.S5Ideal.nD Cert.S5Ideal.τ).loc Cert.S5Ideal.main_arg1)) (m ((c.tc : Thread Cert.S5Ideal.nD Cert.S5Ideal.τ).loc Cert.S5Ideal.main_arg2)) (m ((c.tc : Thread Cert.S5Ideal.nD Cert.S5Ideal.τ).loc Cert.S5Ideal.main_arg3)) (m ((c.tc : Thread Cert.S5Ideal.nD Cert.S5Ideal.τ).loc Cert.S5Ideal.main_arg4)) (m ((c.tc : Thread Cert.S5Ideal.nD Cert.S5Ideal.τ).loc Cert.S5Ideal.main_arg5)) (m ((c.tc : Thread Cert.S5Ideal.nD Cert.S5Ideal.τ).loc Cert.S5Ideal.main_arg6)) (m ((c.tc : Thread Cert.S5Ideal.nD Cert.S5Ideal.τ).loc Cert.S5Ideal.main_arg7)) (m ((c.tc : Thread Cert.S5Ideal.nD Cert.S5Ideal.τ).loc Cert.S5Ideal.main_arg8)) (m ((c.tc : Thread Cert.S5Ideal.nD Cert.S5Ideal.τ).loc Cert.S5Ideal.main_arg9)) (m ((c.tc : Thread Cert.S5Ideal.nD Cert.S5Ideal.τ).loc Cert.S5Ideal.main_arg10)), fun c => Cert.S5Ideal.Read.out1 (m ((c.tc : Thread Cert.S5Ideal.nD Cert.S5Ideal.τ).loc Cert.S5Ideal.main_arg0)) (m ((c.tc : Thread Cert.S5Ideal.nD Cert.S5Ideal.τ).loc Cert.S5Ideal.main_arg1)) (m ((c.tc : Thread Cert.S5Ideal.nD Cert.S5Ideal.τ).loc Cert.S5Ideal.main_arg2)) (m ((c.tc : Thread Cert.S5Ideal.nD Cert.S5Ideal.τ).loc Cert.S5Ideal.main_arg3)) (m ((c.tc : Thread Cert.S5Ideal.nD Cert.S5Ideal.τ).loc Cert.S5Ideal.main_arg4)) (m ((c.tc : Thread Cert.S5Ideal.nD Cert.S5Ideal.τ).loc Cert.S5Ideal.main_arg5)) (m ((c.tc : Thread Cert.S5Ideal.nD Cert.S5Ideal.τ).loc Cert.S5Ideal.main_arg6)), fun c => Cert.S5Ideal.Read.out2 (m ((c.tc : Thread Cert.S5Ideal.nD Cert.S5Ideal.τ).loc Cert.S5Ideal.main_arg0)) (m ((c.tc : Thread Cert.S5Ideal.nD Cert.S5Ideal.τ).loc Cert.S5Ideal.main_arg1)) (m ((c.tc : Thread Cert.S5Ideal.nD Cert.S5Ideal.τ).loc Cert.S5Ideal.main_arg2)) (m ((c.tc : Thread Cert.S5Ideal.nD Cert.S5Ideal.τ).loc Cert.S5Ideal.main_arg3)) (m ((c.tc : Thread Cert.S5Ideal.nD Cert.S5Ideal.τ).loc Cert.S5Ideal.main_arg4)) (m ((c.tc : Thread Cert.S5Ideal.nD Cert.S5Ideal.τ).loc Cert.S5Ideal.main_arg5)) (m ((c.tc : Thread Cert.S5Ideal.nD Cert.S5Ideal.τ).loc Cert.S5Ideal.main_arg6)),
    Cert.S5Ideal.Read.run m ρ,
    (θ_run _ _ _).mono (fun _ h c => ⟨(h c).1.trans (by obtain ⟨e0, e1, e2, e3, e4, e5, e6, e7, e8, e9, e10⟩ := hag c; rw [e0, e1, e2, e3, e4, e5, e6, e7, e8, e9, e10]; rfl), (h c).2.1.trans (by obtain ⟨e0, e1, e2, e3, e4, e5, e6, e7, e8, e9, e10⟩ := hag c; rw [e0, e1, e2, e3, e4, e5, e6]; rfl), (h c).2.2.1.trans (by obtain ⟨e0, e1, e2, e3, e4, e5, e6, e7, e8, e9, e10⟩ := hag c; rw [e0, e1, e2, e3, e4, e5, e6]; rfl), (h c).2.2.2⟩) (Cert.S5RefIdeal.Read.run m' ρ')⟩

/-- Every claim. -/
theorem claim : Cert.Claim := ⟨Cert.Cross.Gen.facts, Cert.CrossIdeal.Gen.facts, Cert.CrossRefIdeal.Gen.facts, Cert.Proj.Gen.facts, Cert.ProjIdeal.Gen.facts, Cert.ProjRefIdeal.Gen.facts, Cert.Ffn.Gen.facts, Cert.FfnIdeal.Gen.facts, Cert.FfnRefIdeal.Gen.facts, Cert.Kv.Gen.facts, Cert.KvIdeal.Gen.facts, Cert.KvRefIdeal.Gen.facts, Cert.Last.Gen.facts, Cert.LastIdeal.Gen.facts, Cert.LastRefIdeal.Gen.facts, Cert.FoxS.Gen.facts, Cert.FoxSIdeal.Gen.facts, Cert.FoxSRefIdeal.Gen.facts, Cert.S5.Gen.facts, Cert.S5Ideal.Gen.facts, Cert.S5RefIdeal.Gen.facts, Cert.CrossIdeal.Read.finite_facts,
  fun m ρ _ => Cert.Cross.Gen.frame m ρ, fun m ρ _ => Cert.CrossIdeal.Gen.frame m ρ, fun m ρ _ => Cert.CrossIdeal.Gen.frame m ρ, cross_ref_frame, fun m ρ _ => cross_ref_frame m ρ trivial,
  fun m ρ _ => Cert.Proj.Gen.frame m ρ, fun m ρ _ => Cert.ProjIdeal.Gen.frame m ρ, proj_ref_frame,
  fun m ρ _ => Cert.Ffn.Gen.frame m ρ, fun m ρ _ => Cert.FfnIdeal.Gen.frame m ρ, ffn_ref_frame,
  fun m ρ _ => Cert.Kv.Gen.frame m ρ, fun m ρ _ => Cert.KvIdeal.Gen.frame m ρ, kv_ref_frame,
  fun m ρ _ => Cert.Last.Gen.frame m ρ, fun m ρ _ => Cert.LastIdeal.Gen.frame m ρ, last_ref_frame,
  fun m ρ _ => Cert.FoxS.Gen.frame m ρ, fun m ρ _ => Cert.FoxSIdeal.Gen.frame m ρ, foxs_ref_frame,
  fun m ρ _ => Cert.S5.Gen.frame m ρ, fun m ρ _ => Cert.S5Ideal.Gen.frame m ρ, s5_ref_frame,
  trivial, cross_algebraic,
  trivial, proj_algebraic,
  trivial, ffn_algebraic,
  trivial, kv_algebraic,
  trivial, last_algebraic,
  trivial, foxs_algebraic,
  trivial, s5_algebraic⟩

end Cert.Proof

end
